-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![16384, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S2x128x512 : Shape := ⟨3, ![2, 128, 512]⟩
abbrev S2x32x512 : Shape := ⟨3, ![2, 32, 512]⟩
abbrev S2 : Shape := ⟨1, ![2]⟩
abbrev S_ : Shape := ⟨0, ![]⟩
abbrev S1 : Shape := ⟨1, ![1]⟩
abbrev S1x128x512 : Shape := ⟨3, ![1, 128, 512]⟩
abbrev S128x512 : Shape := ⟨2, ![128, 512]⟩
abbrev S1x32x512 : Shape := ⟨3, ![1, 32, 512]⟩
abbrev S32x512 : Shape := ⟨2, ![32, 512]⟩

abbrev nBuf : Space → Nat
  | .hbm => 3
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .f32⟩
  | .local _ .vmem, ⟨3, _⟩ => ⟨S2x128x512, .f32⟩
  | .local _ .vmem, ⟨4, _⟩ => ⟨S2x128x512, .f32⟩
  | .local _ .vmem, ⟨5, _⟩ => ⟨S2x32x512, .f32⟩
  | .local _ .vmem, ⟨6, _⟩ => ⟨S2x32x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 5 19 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_116 : BitVec 32 := 1#32
  let v195 : BitVec 32 := Scalar.muli v112 c1_i32_116
  let v196 : BitVec 32 := Scalar.addi c0_i32_117 v195
  v196.toNat
def k0_dev2 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_119 : BitVec 32 := 1#32
  let v197 : BitVec 32 := Scalar.muli v155 c1_i32_119
  let v198 : BitVec 32 := Scalar.addi c0_i32_120 v197
  v198.toNat
def k0_dev3 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_85 : BitVec 32 := 1#32
  let v156 : BitVec 32 := Scalar.addi v69 c1_i32_85
  let c4_i32_86 : BitVec 32 := 4#32
  let c0_i32_87 : BitVec 32 := 0#32
  let v157 : BitVec 1 := Scalar.cmpi .eq c4_i32_86 c0_i32_87
  let c1_i32_88 : BitVec 32 := 1#32
  let v158 : BitVec 32 := Scalar.select v157 c1_i32_88 c4_i32_86
  let v159 : BitVec 32 := Scalar.remsi v156 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let c1_i32_92 : BitVec 32 := 1#32
  let v167 : BitVec 1 := Scalar.cmpi .eq v166 c1_i32_92
  let c2_i32_98 : BitVec 32 := 2#32
  let c2_i32_93 : BitVec 32 := 2#32
  let v168 : BitVec 1 := Scalar.cmpi .eq v166 c2_i32_93
  let c3_i32_97 : BitVec 32 := 3#32
  let c3_i32_94 : BitVec 32 := 3#32
  let v169 : BitVec 1 := Scalar.cmpi .eq v166 c3_i32_94
  let c1_i32_95 : BitVec 32 := 1#32
  let c0_i32_96 : BitVec 32 := 0#32
  let v170 : BitVec 32 := Scalar.select v169 c1_i32_95 c0_i32_96
  let v171 : BitVec 32 := Scalar.select v168 c3_i32_97 v170
  let v172 : BitVec 32 := Scalar.select v167 c2_i32_98 v171
  let c8_i32_99 : BitVec 32 := 8#32
  let v173 : BitVec 32 := Scalar.muli v172 c8_i32_99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v174 : BitVec 32 := Scalar.addi v173 v29
  let c1_i32_122 : BitVec 32 := 1#32
  let v199 : BitVec 32 := Scalar.muli v174 c1_i32_122
  let v200 : BitVec 32 := Scalar.addi c0_i32_123 v199
  v200.toNat
def k0_dev4 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_100 : BitVec 32 := 1#32
  let v175 : BitVec 32 := Scalar.subi v69 c1_i32_100
  let c4_i32_101 : BitVec 32 := 4#32
  let c0_i32_102 : BitVec 32 := 0#32
  let v176 : BitVec 1 := Scalar.cmpi .eq c4_i32_101 c0_i32_102
  let c1_i32_103 : BitVec 32 := 1#32
  let v177 : BitVec 32 := Scalar.select v176 c1_i32_103 c4_i32_101
  let v178 : BitVec 32 := Scalar.remsi v175 v177
  let c0_i32_105 : BitVec 32 := 0#32
  let v180 : BitVec 1 := Scalar.cmpi .slt v178 c0_i32_105
  let c0_i32_106 : BitVec 32 := 0#32
  let v181 : BitVec 1 := Scalar.cmpi .slt v177 c0_i32_106
  let v182 : BitVec 1 := Scalar.xori v180 v181
  let c0_i32_104 : BitVec 32 := 0#32
  let v179 : BitVec 1 := Scalar.cmpi .ne v178 c0_i32_104
  let v183 : BitVec 1 := Scalar.andi v182 v179
  let v184 : BitVec 32 := Scalar.addi v178 v177
  let v185 : BitVec 32 := Scalar.select v183 v184 v178
  let c1_i32_107 : BitVec 32 := 1#32
  let v186 : BitVec 1 := Scalar.cmpi .eq v185 c1_i32_107
  let c2_i32_113 : BitVec 32 := 2#32
  let c2_i32_108 : BitVec 32 := 2#32
  let v187 : BitVec 1 := Scalar.cmpi .eq v185 c2_i32_108
  let c3_i32_112 : BitVec 32 := 3#32
  let c3_i32_109 : BitVec 32 := 3#32
  let v188 : BitVec 1 := Scalar.cmpi .eq v185 c3_i32_109
  let c1_i32_110 : BitVec 32 := 1#32
  let c0_i32_111 : BitVec 32 := 0#32
  let v189 : BitVec 32 := Scalar.select v188 c1_i32_110 c0_i32_111
  let v190 : BitVec 32 := Scalar.select v187 c3_i32_112 v189
  let v191 : BitVec 32 := Scalar.select v186 c2_i32_113 v190
  let c8_i32_114 : BitVec 32 := 8#32
  let v192 : BitVec 32 := Scalar.muli v191 c8_i32_114
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_125 : BitVec 32 := 1#32
  let v201 : BitVec 32 := Scalar.muli v193 c1_i32_125
  let v202 : BitVec 32 := Scalar.addi c0_i32_126 v201
  v202.toNat
def k0_off1 (d0 : Dev nD) (c0_i32_147 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let v231 : BitVec 32 := Scalar.subi v63 c0_i32_147
  let c8_i32_148 : BitVec 32 := 8#32
  let c0_i32_149 : BitVec 32 := 0#32
  let v232 : BitVec 1 := Scalar.cmpi .eq c8_i32_148 c0_i32_149
  let c1_i32_150 : BitVec 32 := 1#32
  let v233 : BitVec 32 := Scalar.select v232 c1_i32_150 c8_i32_148
  let v234 : BitVec 32 := Scalar.remsi v231 v233
  let c0_i32_152 : BitVec 32 := 0#32
  let v236 : BitVec 1 := Scalar.cmpi .slt v234 c0_i32_152
  let c0_i32_153 : BitVec 32 := 0#32
  let v237 : BitVec 1 := Scalar.cmpi .slt v233 c0_i32_153
  let v238 : BitVec 1 := Scalar.xori v236 v237
  let c0_i32_151 : BitVec 32 := 0#32
  let v235 : BitVec 1 := Scalar.cmpi .ne v234 c0_i32_151
  let v239 : BitVec 1 := Scalar.andi v238 v235
  let v240 : BitVec 32 := Scalar.addi v234 v233
  let v241 : BitVec 32 := Scalar.select v239 v240 v234
  let c128_i32 : BitVec 32 := 128#32
  let v254 : BitVec 32 := Scalar.muli v241 c128_i32
  let c0_i32_169 : BitVec 32 := 0#32
  ![v254.toNat, 0]
def k0_dev5 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_165 : BitVec 32 := 1#32
  let v255 : BitVec 32 := Scalar.muli v112 c1_i32_165
  let v256 : BitVec 32 := Scalar.addi c0_i32_166 v255
  v256.toNat
def k0_off2 (d0 : Dev nD) (c0_i32_170 : BitVec 32) : Fin 2 → Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let v209 : BitVec 32 := Scalar.subi c0_i32_133 v63
  let c8_i32_134 : BitVec 32 := 8#32
  let c0_i32_135 : BitVec 32 := 0#32
  let v210 : BitVec 1 := Scalar.cmpi .eq c8_i32_134 c0_i32_135
  let c1_i32_136 : BitVec 32 := 1#32
  let v211 : BitVec 32 := Scalar.select v210 c1_i32_136 c8_i32_134
  let v212 : BitVec 32 := Scalar.remsi v209 v211
  let c0_i32_138 : BitVec 32 := 0#32
  let v214 : BitVec 1 := Scalar.cmpi .slt v212 c0_i32_138
  let c0_i32_139 : BitVec 32 := 0#32
  let v215 : BitVec 1 := Scalar.cmpi .slt v211 c0_i32_139
  let v216 : BitVec 1 := Scalar.xori v214 v215
  let c0_i32_137 : BitVec 32 := 0#32
  let v213 : BitVec 1 := Scalar.cmpi .ne v212 c0_i32_137
  let v217 : BitVec 1 := Scalar.andi v216 v213
  let v218 : BitVec 32 := Scalar.addi v212 v211
  let v219 : BitVec 32 := Scalar.select v217 v218 v212
  let v264 : BitVec 32 := Scalar.subi v219 c0_i32_170
  let c8_i32_171 : BitVec 32 := 8#32
  let c0_i32_172 : BitVec 32 := 0#32
  let v265 : BitVec 1 := Scalar.cmpi .eq c8_i32_171 c0_i32_172
  let c1_i32_173 : BitVec 32 := 1#32
  let v266 : BitVec 32 := Scalar.select v265 c1_i32_173 c8_i32_171
  let v267 : BitVec 32 := Scalar.remsi v264 v266
  let c0_i32_175 : BitVec 32 := 0#32
  let v269 : BitVec 1 := Scalar.cmpi .slt v267 c0_i32_175
  let c0_i32_176 : BitVec 32 := 0#32
  let v270 : BitVec 1 := Scalar.cmpi .slt v266 c0_i32_176
  let v271 : BitVec 1 := Scalar.xori v269 v270
  let c0_i32_174 : BitVec 32 := 0#32
  let v268 : BitVec 1 := Scalar.cmpi .ne v267 c0_i32_174
  let v272 : BitVec 1 := Scalar.andi v271 v268
  let v273 : BitVec 32 := Scalar.addi v267 v266
  let v274 : BitVec 32 := Scalar.select v272 v273 v267
  let c128_i32_185 : BitVec 32 := 128#32
  let v287 : BitVec 32 := Scalar.muli v274 c128_i32_185
  let c512_i32 : BitVec 32 := 512#32
  ![v287.toNat, 512]
def k0_dev6 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_189 : BitVec 32 := 1#32
  let v288 : BitVec 32 := Scalar.muli v155 c1_i32_189
  let v289 : BitVec 32 := Scalar.addi c0_i32_190 v288
  v289.toNat
def k0_off3 (d0 : Dev nD) (c0_i32_154 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let v242 : BitVec 32 := Scalar.subi v63 c0_i32_154
  let c1_i32_155 : BitVec 32 := 1#32
  let v243 : BitVec 32 := Scalar.subi v242 c1_i32_155
  let c8_i32_156 : BitVec 32 := 8#32
  let c0_i32_157 : BitVec 32 := 0#32
  let v244 : BitVec 1 := Scalar.cmpi .eq c8_i32_156 c0_i32_157
  let c1_i32_158 : BitVec 32 := 1#32
  let v245 : BitVec 32 := Scalar.select v244 c1_i32_158 c8_i32_156
  let v246 : BitVec 32 := Scalar.remsi v243 v245
  let c0_i32_160 : BitVec 32 := 0#32
  let v248 : BitVec 1 := Scalar.cmpi .slt v246 c0_i32_160
  let c0_i32_161 : BitVec 32 := 0#32
  let v249 : BitVec 1 := Scalar.cmpi .slt v245 c0_i32_161
  let v250 : BitVec 1 := Scalar.xori v248 v249
  let c0_i32_159 : BitVec 32 := 0#32
  let v247 : BitVec 1 := Scalar.cmpi .ne v246 c0_i32_159
  let v251 : BitVec 1 := Scalar.andi v250 v247
  let v252 : BitVec 32 := Scalar.addi v246 v245
  let v253 : BitVec 32 := Scalar.select v251 v252 v246
  let c128_i32_208 : BitVec 32 := 128#32
  let v309 : BitVec 32 := Scalar.muli v253 c128_i32_208
  let v310 : Index := Scalar.indexCast v309
  let c0_209 : Index := 0#32
  ![v310.toNat, 0]
def k0_dev7 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_215 : BitVec 32 := 1#32
  let v318 : BitVec 32 := Scalar.muli v155 c1_i32_215
  let v319 : BitVec 32 := Scalar.addi c0_i32_216 v318
  v319.toNat
def k0_off4 (d0 : Dev nD) (c0_i32_177 : BitVec 32) : Fin 2 → Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let v209 : BitVec 32 := Scalar.subi c0_i32_133 v63
  let c8_i32_134 : BitVec 32 := 8#32
  let c0_i32_135 : BitVec 32 := 0#32
  let v210 : BitVec 1 := Scalar.cmpi .eq c8_i32_134 c0_i32_135
  let c1_i32_136 : BitVec 32 := 1#32
  let v211 : BitVec 32 := Scalar.select v210 c1_i32_136 c8_i32_134
  let v212 : BitVec 32 := Scalar.remsi v209 v211
  let c0_i32_138 : BitVec 32 := 0#32
  let v214 : BitVec 1 := Scalar.cmpi .slt v212 c0_i32_138
  let c0_i32_139 : BitVec 32 := 0#32
  let v215 : BitVec 1 := Scalar.cmpi .slt v211 c0_i32_139
  let v216 : BitVec 1 := Scalar.xori v214 v215
  let c0_i32_137 : BitVec 32 := 0#32
  let v213 : BitVec 1 := Scalar.cmpi .ne v212 c0_i32_137
  let v217 : BitVec 1 := Scalar.andi v216 v213
  let v218 : BitVec 32 := Scalar.addi v212 v211
  let v219 : BitVec 32 := Scalar.select v217 v218 v212
  let v275 : BitVec 32 := Scalar.subi v219 c0_i32_177
  let c1_i32_178 : BitVec 32 := 1#32
  let v276 : BitVec 32 := Scalar.subi v275 c1_i32_178
  let c8_i32_179 : BitVec 32 := 8#32
  let c0_i32_180 : BitVec 32 := 0#32
  let v277 : BitVec 1 := Scalar.cmpi .eq c8_i32_179 c0_i32_180
  let c1_i32_181 : BitVec 32 := 1#32
  let v278 : BitVec 32 := Scalar.select v277 c1_i32_181 c8_i32_179
  let v279 : BitVec 32 := Scalar.remsi v276 v278
  let c0_i32_183 : BitVec 32 := 0#32
  let v281 : BitVec 1 := Scalar.cmpi .slt v279 c0_i32_183
  let c0_i32_184 : BitVec 32 := 0#32
  let v282 : BitVec 1 := Scalar.cmpi .slt v278 c0_i32_184
  let v283 : BitVec 1 := Scalar.xori v281 v282
  let c0_i32_182 : BitVec 32 := 0#32
  let v280 : BitVec 1 := Scalar.cmpi .ne v279 c0_i32_182
  let v284 : BitVec 1 := Scalar.andi v283 v280
  let v285 : BitVec 32 := Scalar.addi v279 v278
  let v286 : BitVec 32 := Scalar.select v284 v285 v279
  let c128_i32_232 : BitVec 32 := 128#32
  let v332 : BitVec 32 := Scalar.muli v286 c128_i32_232
  let v333 : Index := Scalar.indexCast v332
  let c512 : Index := 512#32
  ![v333.toNat, 512]
def k0_dev8 (d0 : Dev nD) : Nat :=
  let c0_i32_239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_238 : BitVec 32 := 1#32
  let v341 : BitVec 32 := Scalar.muli v112 c1_i32_238
  let v342 : BitVec 32 := Scalar.addi c0_i32_239 v341
  v342.toNat
def k0_dev9 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_259 : BitVec 32 := 1#32
  let v367 : BitVec 32 := Scalar.muli v112 c1_i32_259
  let v368 : BitVec 32 := Scalar.addi c0_i32_260 v367
  v368.toNat
def k0_dev10 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_283 : BitVec 32 := 1#32
  let v400 : BitVec 32 := Scalar.muli v155 c1_i32_283
  let v401 : BitVec 32 := Scalar.addi c0_i32_284 v400
  v401.toNat
def k0_dev11 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_309 : BitVec 32 := 1#32
  let v430 : BitVec 32 := Scalar.muli v155 c1_i32_309
  let v431 : BitVec 32 := Scalar.addi c0_i32_310 v430
  v431.toNat
def k0_dev12 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_333 : BitVec 32 := 1#32
  let v453 : BitVec 32 := Scalar.muli v112 c1_i32_333
  let v454 : BitVec 32 := Scalar.addi c0_i32_334 v453
  v454.toNat
def k0_dev13 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_356 : BitVec 32 := 1#32
  let v479 : BitVec 32 := Scalar.muli v112 c1_i32_356
  let v480 : BitVec 32 := Scalar.addi c0_i32_357 v479
  v480.toNat
def k0_dev14 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_382 : BitVec 32 := 1#32
  let v512 : BitVec 32 := Scalar.muli v155 c1_i32_382
  let v513 : BitVec 32 := Scalar.addi c0_i32_383 v512
  v513.toNat
def k0_dev15 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_409 : BitVec 32 := 1#32
  let v542 : BitVec 32 := Scalar.muli v155 c1_i32_409
  let v543 : BitVec 32 := Scalar.addi c0_i32_410 v542
  v543.toNat
def k0_dev16 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_433 : BitVec 32 := 1#32
  let v565 : BitVec 32 := Scalar.muli v112 c1_i32_433
  let v566 : BitVec 32 := Scalar.addi c0_i32_434 v565
  v566.toNat
def k0_dev17 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_456 : BitVec 32 := 1#32
  let v591 : BitVec 32 := Scalar.muli v112 c1_i32_456
  let v592 : BitVec 32 := Scalar.addi c0_i32_457 v591
  v592.toNat
def k0_dev18 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_482 : BitVec 32 := 1#32
  let v624 : BitVec 32 := Scalar.muli v155 c1_i32_482
  let v625 : BitVec 32 := Scalar.addi c0_i32_483 v624
  v625.toNat
def k0_dev19 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_509 : BitVec 32 := 1#32
  let v654 : BitVec 32 := Scalar.muli v155 c1_i32_509
  let v655 : BitVec 32 := Scalar.addi c0_i32_510 v654
  v655.toNat
def k0_dev20 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_533 : BitVec 32 := 1#32
  let v677 : BitVec 32 := Scalar.muli v112 c1_i32_533
  let v678 : BitVec 32 := Scalar.addi c0_i32_534 v677
  v678.toNat
def k0_dev21 (d0 : Dev nD) : Nat :=
  let c0_i32_557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_556 : BitVec 32 := 1#32
  let v703 : BitVec 32 := Scalar.muli v112 c1_i32_556
  let v704 : BitVec 32 := Scalar.addi c0_i32_557 v703
  v704.toNat
def k0_dev22 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_582 : BitVec 32 := 1#32
  let v736 : BitVec 32 := Scalar.muli v155 c1_i32_582
  let v737 : BitVec 32 := Scalar.addi c0_i32_583 v736
  v737.toNat
def k0_dev23 (d0 : Dev nD) : Nat :=
  let c0_i32_610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_609 : BitVec 32 := 1#32
  let v766 : BitVec 32 := Scalar.muli v155 c1_i32_609
  let v767 : BitVec 32 := Scalar.addi c0_i32_610 v766
  v767.toNat
def k0_dev24 (d0 : Dev nD) : Nat :=
  let c0_i32_634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_633 : BitVec 32 := 1#32
  let v789 : BitVec 32 := Scalar.muli v112 c1_i32_633
  let v790 : BitVec 32 := Scalar.addi c0_i32_634 v789
  v790.toNat
def k0_dev25 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_655 : BitVec 32 := 1#32
  let v815 : BitVec 32 := Scalar.muli v112 c1_i32_655
  let v816 : BitVec 32 := Scalar.addi c0_i32_656 v815
  v816.toNat
def k0_dev26 (d0 : Dev nD) : Nat :=
  let c0_i32_682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_681 : BitVec 32 := 1#32
  let v848 : BitVec 32 := Scalar.muli v155 c1_i32_681
  let v849 : BitVec 32 := Scalar.addi c0_i32_682 v848
  v849.toNat
def k0_dev27 (d0 : Dev nD) : Nat :=
  let c0_i32_709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_708 : BitVec 32 := 1#32
  let v878 : BitVec 32 := Scalar.muli v155 c1_i32_708
  let v879 : BitVec 32 := Scalar.addi c0_i32_709 v878
  v879.toNat
def k0_dev28 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_732 : BitVec 32 := 1#32
  let v901 : BitVec 32 := Scalar.muli v112 c1_i32_732
  let v902 : BitVec 32 := Scalar.addi c0_i32_733 v901
  v902.toNat
def k0_dev29 (d0 : Dev nD) : Nat :=
  let c0_i32_755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_754 : BitVec 32 := 1#32
  let v927 : BitVec 32 := Scalar.muli v112 c1_i32_754
  let v928 : BitVec 32 := Scalar.addi c0_i32_755 v927
  v928.toNat
def k0_dev30 (d0 : Dev nD) : Nat :=
  let c0_i32_781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_780 : BitVec 32 := 1#32
  let v960 : BitVec 32 := Scalar.muli v155 c1_i32_780
  let v961 : BitVec 32 := Scalar.addi c0_i32_781 v960
  v961.toNat
def k0_dev31 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_807 : BitVec 32 := 1#32
  let v990 : BitVec 32 := Scalar.muli v155 c1_i32_807
  let v991 : BitVec 32 := Scalar.addi c0_i32_808 v990
  v991.toNat
def k0_dev32 (d0 : Dev nD) : Nat :=
  let c0_i32_832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_831 : BitVec 32 := 1#32
  let v1013 : BitVec 32 := Scalar.muli v112 c1_i32_831
  let v1014 : BitVec 32 := Scalar.addi c0_i32_832 v1013
  v1014.toNat
def k0_off5 (d0 : Dev nD) (c0_i32_841 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_833 : BitVec 32 := 1#32
  let v1015 : BitVec 32 := Scalar.addi v63 c1_i32_833
  let c8_i32_834 : BitVec 32 := 8#32
  let c0_i32_835 : BitVec 32 := 0#32
  let v1016 : BitVec 1 := Scalar.cmpi .eq c8_i32_834 c0_i32_835
  let c1_i32_836 : BitVec 32 := 1#32
  let v1017 : BitVec 32 := Scalar.select v1016 c1_i32_836 c8_i32_834
  let v1018 : BitVec 32 := Scalar.remsi v1015 v1017
  let c0_i32_838 : BitVec 32 := 0#32
  let v1020 : BitVec 1 := Scalar.cmpi .slt v1018 c0_i32_838
  let c0_i32_839 : BitVec 32 := 0#32
  let v1021 : BitVec 1 := Scalar.cmpi .slt v1017 c0_i32_839
  let v1022 : BitVec 1 := Scalar.xori v1020 v1021
  let c0_i32_837 : BitVec 32 := 0#32
  let v1019 : BitVec 1 := Scalar.cmpi .ne v1018 c0_i32_837
  let v1023 : BitVec 1 := Scalar.andi v1022 v1019
  let v1024 : BitVec 32 := Scalar.addi v1018 v1017
  let v1025 : BitVec 32 := Scalar.select v1023 v1024 v1018
  let c128_i32_840 : BitVec 32 := 128#32
  let v1026 : BitVec 32 := Scalar.muli v1025 c128_i32_840
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let v1027 : BitVec 32 := Scalar.subi v69 c0_i32_841
  let c4_i32_842 : BitVec 32 := 4#32
  let c0_i32_843 : BitVec 32 := 0#32
  let v1028 : BitVec 1 := Scalar.cmpi .eq c4_i32_842 c0_i32_843
  let c1_i32_844 : BitVec 32 := 1#32
  let v1029 : BitVec 32 := Scalar.select v1028 c1_i32_844 c4_i32_842
  let v1030 : BitVec 32 := Scalar.remsi v1027 v1029
  let c0_i32_846 : BitVec 32 := 0#32
  let v1032 : BitVec 1 := Scalar.cmpi .slt v1030 c0_i32_846
  let c0_i32_847 : BitVec 32 := 0#32
  let v1033 : BitVec 1 := Scalar.cmpi .slt v1029 c0_i32_847
  let v1034 : BitVec 1 := Scalar.xori v1032 v1033
  let c0_i32_845 : BitVec 32 := 0#32
  let v1031 : BitVec 1 := Scalar.cmpi .ne v1030 c0_i32_845
  let v1035 : BitVec 1 := Scalar.andi v1034 v1031
  let v1036 : BitVec 32 := Scalar.addi v1030 v1029
  let v1037 : BitVec 32 := Scalar.select v1035 v1036 v1030
  let c32_i32_856 : BitVec 32 := 32#32
  let v1050 : BitVec 32 := Scalar.muli v1037 c32_i32_856
  let v1051 : BitVec 32 := Scalar.addi v1026 v1050
  let c0_i32_864 : BitVec 32 := 0#32
  ![v1051.toNat, 0]
def k0_dev33 (d0 : Dev nD) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_85 : BitVec 32 := 1#32
  let v156 : BitVec 32 := Scalar.addi v69 c1_i32_85
  let c4_i32_86 : BitVec 32 := 4#32
  let c0_i32_87 : BitVec 32 := 0#32
  let v157 : BitVec 1 := Scalar.cmpi .eq c4_i32_86 c0_i32_87
  let c1_i32_88 : BitVec 32 := 1#32
  let v158 : BitVec 32 := Scalar.select v157 c1_i32_88 c4_i32_86
  let v159 : BitVec 32 := Scalar.remsi v156 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let c1_i32_92 : BitVec 32 := 1#32
  let v167 : BitVec 1 := Scalar.cmpi .eq v166 c1_i32_92
  let c2_i32_98 : BitVec 32 := 2#32
  let c2_i32_93 : BitVec 32 := 2#32
  let v168 : BitVec 1 := Scalar.cmpi .eq v166 c2_i32_93
  let c3_i32_97 : BitVec 32 := 3#32
  let c3_i32_94 : BitVec 32 := 3#32
  let v169 : BitVec 1 := Scalar.cmpi .eq v166 c3_i32_94
  let c1_i32_95 : BitVec 32 := 1#32
  let c0_i32_96 : BitVec 32 := 0#32
  let v170 : BitVec 32 := Scalar.select v169 c1_i32_95 c0_i32_96
  let v171 : BitVec 32 := Scalar.select v168 c3_i32_97 v170
  let v172 : BitVec 32 := Scalar.select v167 c2_i32_98 v171
  let c8_i32_99 : BitVec 32 := 8#32
  let v173 : BitVec 32 := Scalar.muli v172 c8_i32_99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v174 : BitVec 32 := Scalar.addi v173 v29
  let c1_i32_860 : BitVec 32 := 1#32
  let v1052 : BitVec 32 := Scalar.muli v174 c1_i32_860
  let v1053 : BitVec 32 := Scalar.addi c0_i32_861 v1052
  v1053.toNat
def k0_off6 (d0 : Dev nD) (c0_i32_873 : BitVec 32) : Fin 2 → Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let v209 : BitVec 32 := Scalar.subi c0_i32_133 v63
  let c8_i32_134 : BitVec 32 := 8#32
  let c0_i32_135 : BitVec 32 := 0#32
  let v210 : BitVec 1 := Scalar.cmpi .eq c8_i32_134 c0_i32_135
  let c1_i32_136 : BitVec 32 := 1#32
  let v211 : BitVec 32 := Scalar.select v210 c1_i32_136 c8_i32_134
  let v212 : BitVec 32 := Scalar.remsi v209 v211
  let c0_i32_138 : BitVec 32 := 0#32
  let v214 : BitVec 1 := Scalar.cmpi .slt v212 c0_i32_138
  let c0_i32_139 : BitVec 32 := 0#32
  let v215 : BitVec 1 := Scalar.cmpi .slt v211 c0_i32_139
  let v216 : BitVec 1 := Scalar.xori v214 v215
  let c0_i32_137 : BitVec 32 := 0#32
  let v213 : BitVec 1 := Scalar.cmpi .ne v212 c0_i32_137
  let v217 : BitVec 1 := Scalar.andi v216 v213
  let v218 : BitVec 32 := Scalar.addi v212 v211
  let v219 : BitVec 32 := Scalar.select v217 v218 v212
  let c1_i32_865 : BitVec 32 := 1#32
  let v1061 : BitVec 32 := Scalar.addi v219 c1_i32_865
  let c8_i32_866 : BitVec 32 := 8#32
  let c0_i32_867 : BitVec 32 := 0#32
  let v1062 : BitVec 1 := Scalar.cmpi .eq c8_i32_866 c0_i32_867
  let c1_i32_868 : BitVec 32 := 1#32
  let v1063 : BitVec 32 := Scalar.select v1062 c1_i32_868 c8_i32_866
  let v1064 : BitVec 32 := Scalar.remsi v1061 v1063
  let c0_i32_870 : BitVec 32 := 0#32
  let v1066 : BitVec 1 := Scalar.cmpi .slt v1064 c0_i32_870
  let c0_i32_871 : BitVec 32 := 0#32
  let v1067 : BitVec 1 := Scalar.cmpi .slt v1063 c0_i32_871
  let v1068 : BitVec 1 := Scalar.xori v1066 v1067
  let c0_i32_869 : BitVec 32 := 0#32
  let v1065 : BitVec 1 := Scalar.cmpi .ne v1064 c0_i32_869
  let v1069 : BitVec 1 := Scalar.andi v1068 v1065
  let v1070 : BitVec 32 := Scalar.addi v1064 v1063
  let v1071 : BitVec 32 := Scalar.select v1069 v1070 v1064
  let c128_i32_872 : BitVec 32 := 128#32
  let v1072 : BitVec 32 := Scalar.muli v1071 c128_i32_872
  let c0_i32_140 : BitVec 32 := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let v220 : BitVec 32 := Scalar.subi c0_i32_140 v69
  let c4_i32_141 : BitVec 32 := 4#32
  let c0_i32_142 : BitVec 32 := 0#32
  let v221 : BitVec 1 := Scalar.cmpi .eq c4_i32_141 c0_i32_142
  let c1_i32_143 : BitVec 32 := 1#32
  let v222 : BitVec 32 := Scalar.select v221 c1_i32_143 c4_i32_141
  let v223 : BitVec 32 := Scalar.remsi v220 v222
  let c0_i32_145 : BitVec 32 := 0#32
  let v225 : BitVec 1 := Scalar.cmpi .slt v223 c0_i32_145
  let c0_i32_146 : BitVec 32 := 0#32
  let v226 : BitVec 1 := Scalar.cmpi .slt v222 c0_i32_146
  let v227 : BitVec 1 := Scalar.xori v225 v226
  let c0_i32_144 : BitVec 32 := 0#32
  let v224 : BitVec 1 := Scalar.cmpi .ne v223 c0_i32_144
  let v228 : BitVec 1 := Scalar.andi v227 v224
  let v229 : BitVec 32 := Scalar.addi v223 v222
  let v230 : BitVec 32 := Scalar.select v228 v229 v223
  let v1073 : BitVec 32 := Scalar.subi v230 c0_i32_873
  let c4_i32_874 : BitVec 32 := 4#32
  let c0_i32_875 : BitVec 32 := 0#32
  let v1074 : BitVec 1 := Scalar.cmpi .eq c4_i32_874 c0_i32_875
  let c1_i32_876 : BitVec 32 := 1#32
  let v1075 : BitVec 32 := Scalar.select v1074 c1_i32_876 c4_i32_874
  let v1076 : BitVec 32 := Scalar.remsi v1073 v1075
  let c0_i32_878 : BitVec 32 := 0#32
  let v1078 : BitVec 1 := Scalar.cmpi .slt v1076 c0_i32_878
  let c0_i32_879 : BitVec 32 := 0#32
  let v1079 : BitVec 1 := Scalar.cmpi .slt v1075 c0_i32_879
  let v1080 : BitVec 1 := Scalar.xori v1078 v1079
  let c0_i32_877 : BitVec 32 := 0#32
  let v1077 : BitVec 1 := Scalar.cmpi .ne v1076 c0_i32_877
  let v1081 : BitVec 1 := Scalar.andi v1080 v1077
  let v1082 : BitVec 32 := Scalar.addi v1076 v1075
  let v1083 : BitVec 32 := Scalar.select v1081 v1082 v1076
  let c32_i32_888 : BitVec 32 := 32#32
  let v1096 : BitVec 32 := Scalar.muli v1083 c32_i32_888
  let v1097 : BitVec 32 := Scalar.addi v1072 v1096
  let c512_i32_896 : BitVec 32 := 512#32
  ![v1097.toNat, 512]
def k0_dev34 (d0 : Dev nD) : Nat :=
  let c0_i32_893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_100 : BitVec 32 := 1#32
  let v175 : BitVec 32 := Scalar.subi v69 c1_i32_100
  let c4_i32_101 : BitVec 32 := 4#32
  let c0_i32_102 : BitVec 32 := 0#32
  let v176 : BitVec 1 := Scalar.cmpi .eq c4_i32_101 c0_i32_102
  let c1_i32_103 : BitVec 32 := 1#32
  let v177 : BitVec 32 := Scalar.select v176 c1_i32_103 c4_i32_101
  let v178 : BitVec 32 := Scalar.remsi v175 v177
  let c0_i32_105 : BitVec 32 := 0#32
  let v180 : BitVec 1 := Scalar.cmpi .slt v178 c0_i32_105
  let c0_i32_106 : BitVec 32 := 0#32
  let v181 : BitVec 1 := Scalar.cmpi .slt v177 c0_i32_106
  let v182 : BitVec 1 := Scalar.xori v180 v181
  let c0_i32_104 : BitVec 32 := 0#32
  let v179 : BitVec 1 := Scalar.cmpi .ne v178 c0_i32_104
  let v183 : BitVec 1 := Scalar.andi v182 v179
  let v184 : BitVec 32 := Scalar.addi v178 v177
  let v185 : BitVec 32 := Scalar.select v183 v184 v178
  let c1_i32_107 : BitVec 32 := 1#32
  let v186 : BitVec 1 := Scalar.cmpi .eq v185 c1_i32_107
  let c2_i32_113 : BitVec 32 := 2#32
  let c2_i32_108 : BitVec 32 := 2#32
  let v187 : BitVec 1 := Scalar.cmpi .eq v185 c2_i32_108
  let c3_i32_112 : BitVec 32 := 3#32
  let c3_i32_109 : BitVec 32 := 3#32
  let v188 : BitVec 1 := Scalar.cmpi .eq v185 c3_i32_109
  let c1_i32_110 : BitVec 32 := 1#32
  let c0_i32_111 : BitVec 32 := 0#32
  let v189 : BitVec 32 := Scalar.select v188 c1_i32_110 c0_i32_111
  let v190 : BitVec 32 := Scalar.select v187 c3_i32_112 v189
  let v191 : BitVec 32 := Scalar.select v186 c2_i32_113 v190
  let c8_i32_114 : BitVec 32 := 8#32
  let v192 : BitVec 32 := Scalar.muli v191 c8_i32_114
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_892 : BitVec 32 := 1#32
  let v1098 : BitVec 32 := Scalar.muli v193 c1_i32_892
  let v1099 : BitVec 32 := Scalar.addi c0_i32_893 v1098
  v1099.toNat
def k0_off7 (d0 : Dev nD) (c0_i32_848 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_833 : BitVec 32 := 1#32
  let v1015 : BitVec 32 := Scalar.addi v63 c1_i32_833
  let c8_i32_834 : BitVec 32 := 8#32
  let c0_i32_835 : BitVec 32 := 0#32
  let v1016 : BitVec 1 := Scalar.cmpi .eq c8_i32_834 c0_i32_835
  let c1_i32_836 : BitVec 32 := 1#32
  let v1017 : BitVec 32 := Scalar.select v1016 c1_i32_836 c8_i32_834
  let v1018 : BitVec 32 := Scalar.remsi v1015 v1017
  let c0_i32_838 : BitVec 32 := 0#32
  let v1020 : BitVec 1 := Scalar.cmpi .slt v1018 c0_i32_838
  let c0_i32_839 : BitVec 32 := 0#32
  let v1021 : BitVec 1 := Scalar.cmpi .slt v1017 c0_i32_839
  let v1022 : BitVec 1 := Scalar.xori v1020 v1021
  let c0_i32_837 : BitVec 32 := 0#32
  let v1019 : BitVec 1 := Scalar.cmpi .ne v1018 c0_i32_837
  let v1023 : BitVec 1 := Scalar.andi v1022 v1019
  let v1024 : BitVec 32 := Scalar.addi v1018 v1017
  let v1025 : BitVec 32 := Scalar.select v1023 v1024 v1018
  let c128_i32_840 : BitVec 32 := 128#32
  let v1026 : BitVec 32 := Scalar.muli v1025 c128_i32_840
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let v1038 : BitVec 32 := Scalar.subi v69 c0_i32_848
  let c1_i32_849 : BitVec 32 := 1#32
  let v1039 : BitVec 32 := Scalar.subi v1038 c1_i32_849
  let c4_i32_850 : BitVec 32 := 4#32
  let c0_i32_851 : BitVec 32 := 0#32
  let v1040 : BitVec 1 := Scalar.cmpi .eq c4_i32_850 c0_i32_851
  let c1_i32_852 : BitVec 32 := 1#32
  let v1041 : BitVec 32 := Scalar.select v1040 c1_i32_852 c4_i32_850
  let v1042 : BitVec 32 := Scalar.remsi v1039 v1041
  let c0_i32_854 : BitVec 32 := 0#32
  let v1044 : BitVec 1 := Scalar.cmpi .slt v1042 c0_i32_854
  let c0_i32_855 : BitVec 32 := 0#32
  let v1045 : BitVec 1 := Scalar.cmpi .slt v1041 c0_i32_855
  let v1046 : BitVec 1 := Scalar.xori v1044 v1045
  let c0_i32_853 : BitVec 32 := 0#32
  let v1043 : BitVec 1 := Scalar.cmpi .ne v1042 c0_i32_853
  let v1047 : BitVec 1 := Scalar.andi v1046 v1043
  let v1048 : BitVec 32 := Scalar.addi v1042 v1041
  let v1049 : BitVec 32 := Scalar.select v1047 v1048 v1042
  let c32_i32_912 : BitVec 32 := 32#32
  let v1119 : BitVec 32 := Scalar.muli v1049 c32_i32_912
  let v1120 : BitVec 32 := Scalar.addi v1026 v1119
  let v1121 : Index := Scalar.indexCast v1120
  let c0_913 : Index := 0#32
  ![v1121.toNat, 0]
def k0_dev35 (d0 : Dev nD) : Nat :=
  let c0_i32_920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_100 : BitVec 32 := 1#32
  let v175 : BitVec 32 := Scalar.subi v69 c1_i32_100
  let c4_i32_101 : BitVec 32 := 4#32
  let c0_i32_102 : BitVec 32 := 0#32
  let v176 : BitVec 1 := Scalar.cmpi .eq c4_i32_101 c0_i32_102
  let c1_i32_103 : BitVec 32 := 1#32
  let v177 : BitVec 32 := Scalar.select v176 c1_i32_103 c4_i32_101
  let v178 : BitVec 32 := Scalar.remsi v175 v177
  let c0_i32_105 : BitVec 32 := 0#32
  let v180 : BitVec 1 := Scalar.cmpi .slt v178 c0_i32_105
  let c0_i32_106 : BitVec 32 := 0#32
  let v181 : BitVec 1 := Scalar.cmpi .slt v177 c0_i32_106
  let v182 : BitVec 1 := Scalar.xori v180 v181
  let c0_i32_104 : BitVec 32 := 0#32
  let v179 : BitVec 1 := Scalar.cmpi .ne v178 c0_i32_104
  let v183 : BitVec 1 := Scalar.andi v182 v179
  let v184 : BitVec 32 := Scalar.addi v178 v177
  let v185 : BitVec 32 := Scalar.select v183 v184 v178
  let c1_i32_107 : BitVec 32 := 1#32
  let v186 : BitVec 1 := Scalar.cmpi .eq v185 c1_i32_107
  let c2_i32_113 : BitVec 32 := 2#32
  let c2_i32_108 : BitVec 32 := 2#32
  let v187 : BitVec 1 := Scalar.cmpi .eq v185 c2_i32_108
  let c3_i32_112 : BitVec 32 := 3#32
  let c3_i32_109 : BitVec 32 := 3#32
  let v188 : BitVec 1 := Scalar.cmpi .eq v185 c3_i32_109
  let c1_i32_110 : BitVec 32 := 1#32
  let c0_i32_111 : BitVec 32 := 0#32
  let v189 : BitVec 32 := Scalar.select v188 c1_i32_110 c0_i32_111
  let v190 : BitVec 32 := Scalar.select v187 c3_i32_112 v189
  let v191 : BitVec 32 := Scalar.select v186 c2_i32_113 v190
  let c8_i32_114 : BitVec 32 := 8#32
  let v192 : BitVec 32 := Scalar.muli v191 c8_i32_114
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_919 : BitVec 32 := 1#32
  let v1129 : BitVec 32 := Scalar.muli v193 c1_i32_919
  let v1130 : BitVec 32 := Scalar.addi c0_i32_920 v1129
  v1130.toNat
def k0_off8 (d0 : Dev nD) (c0_i32_880 : BitVec 32) : Fin 2 → Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let v209 : BitVec 32 := Scalar.subi c0_i32_133 v63
  let c8_i32_134 : BitVec 32 := 8#32
  let c0_i32_135 : BitVec 32 := 0#32
  let v210 : BitVec 1 := Scalar.cmpi .eq c8_i32_134 c0_i32_135
  let c1_i32_136 : BitVec 32 := 1#32
  let v211 : BitVec 32 := Scalar.select v210 c1_i32_136 c8_i32_134
  let v212 : BitVec 32 := Scalar.remsi v209 v211
  let c0_i32_138 : BitVec 32 := 0#32
  let v214 : BitVec 1 := Scalar.cmpi .slt v212 c0_i32_138
  let c0_i32_139 : BitVec 32 := 0#32
  let v215 : BitVec 1 := Scalar.cmpi .slt v211 c0_i32_139
  let v216 : BitVec 1 := Scalar.xori v214 v215
  let c0_i32_137 : BitVec 32 := 0#32
  let v213 : BitVec 1 := Scalar.cmpi .ne v212 c0_i32_137
  let v217 : BitVec 1 := Scalar.andi v216 v213
  let v218 : BitVec 32 := Scalar.addi v212 v211
  let v219 : BitVec 32 := Scalar.select v217 v218 v212
  let c1_i32_865 : BitVec 32 := 1#32
  let v1061 : BitVec 32 := Scalar.addi v219 c1_i32_865
  let c8_i32_866 : BitVec 32 := 8#32
  let c0_i32_867 : BitVec 32 := 0#32
  let v1062 : BitVec 1 := Scalar.cmpi .eq c8_i32_866 c0_i32_867
  let c1_i32_868 : BitVec 32 := 1#32
  let v1063 : BitVec 32 := Scalar.select v1062 c1_i32_868 c8_i32_866
  let v1064 : BitVec 32 := Scalar.remsi v1061 v1063
  let c0_i32_870 : BitVec 32 := 0#32
  let v1066 : BitVec 1 := Scalar.cmpi .slt v1064 c0_i32_870
  let c0_i32_871 : BitVec 32 := 0#32
  let v1067 : BitVec 1 := Scalar.cmpi .slt v1063 c0_i32_871
  let v1068 : BitVec 1 := Scalar.xori v1066 v1067
  let c0_i32_869 : BitVec 32 := 0#32
  let v1065 : BitVec 1 := Scalar.cmpi .ne v1064 c0_i32_869
  let v1069 : BitVec 1 := Scalar.andi v1068 v1065
  let v1070 : BitVec 32 := Scalar.addi v1064 v1063
  let v1071 : BitVec 32 := Scalar.select v1069 v1070 v1064
  let c128_i32_872 : BitVec 32 := 128#32
  let v1072 : BitVec 32 := Scalar.muli v1071 c128_i32_872
  let c0_i32_140 : BitVec 32 := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let v220 : BitVec 32 := Scalar.subi c0_i32_140 v69
  let c4_i32_141 : BitVec 32 := 4#32
  let c0_i32_142 : BitVec 32 := 0#32
  let v221 : BitVec 1 := Scalar.cmpi .eq c4_i32_141 c0_i32_142
  let c1_i32_143 : BitVec 32 := 1#32
  let v222 : BitVec 32 := Scalar.select v221 c1_i32_143 c4_i32_141
  let v223 : BitVec 32 := Scalar.remsi v220 v222
  let c0_i32_145 : BitVec 32 := 0#32
  let v225 : BitVec 1 := Scalar.cmpi .slt v223 c0_i32_145
  let c0_i32_146 : BitVec 32 := 0#32
  let v226 : BitVec 1 := Scalar.cmpi .slt v222 c0_i32_146
  let v227 : BitVec 1 := Scalar.xori v225 v226
  let c0_i32_144 : BitVec 32 := 0#32
  let v224 : BitVec 1 := Scalar.cmpi .ne v223 c0_i32_144
  let v228 : BitVec 1 := Scalar.andi v227 v224
  let v229 : BitVec 32 := Scalar.addi v223 v222
  let v230 : BitVec 32 := Scalar.select v228 v229 v223
  let v1084 : BitVec 32 := Scalar.subi v230 c0_i32_880
  let c1_i32_881 : BitVec 32 := 1#32
  let v1085 : BitVec 32 := Scalar.subi v1084 c1_i32_881
  let c4_i32_882 : BitVec 32 := 4#32
  let c0_i32_883 : BitVec 32 := 0#32
  let v1086 : BitVec 1 := Scalar.cmpi .eq c4_i32_882 c0_i32_883
  let c1_i32_884 : BitVec 32 := 1#32
  let v1087 : BitVec 32 := Scalar.select v1086 c1_i32_884 c4_i32_882
  let v1088 : BitVec 32 := Scalar.remsi v1085 v1087
  let c0_i32_886 : BitVec 32 := 0#32
  let v1090 : BitVec 1 := Scalar.cmpi .slt v1088 c0_i32_886
  let c0_i32_887 : BitVec 32 := 0#32
  let v1091 : BitVec 1 := Scalar.cmpi .slt v1087 c0_i32_887
  let v1092 : BitVec 1 := Scalar.xori v1090 v1091
  let c0_i32_885 : BitVec 32 := 0#32
  let v1089 : BitVec 1 := Scalar.cmpi .ne v1088 c0_i32_885
  let v1093 : BitVec 1 := Scalar.andi v1092 v1089
  let v1094 : BitVec 32 := Scalar.addi v1088 v1087
  let v1095 : BitVec 32 := Scalar.select v1093 v1094 v1088
  let c32_i32_936 : BitVec 32 := 32#32
  let v1143 : BitVec 32 := Scalar.muli v1095 c32_i32_936
  let v1144 : BitVec 32 := Scalar.addi v1072 v1143
  let v1145 : Index := Scalar.indexCast v1144
  let c512_937 : Index := 512#32
  ![v1145.toNat, 512]
def k0_dev36 (d0 : Dev nD) : Nat :=
  let c0_i32_944 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_85 : BitVec 32 := 1#32
  let v156 : BitVec 32 := Scalar.addi v69 c1_i32_85
  let c4_i32_86 : BitVec 32 := 4#32
  let c0_i32_87 : BitVec 32 := 0#32
  let v157 : BitVec 1 := Scalar.cmpi .eq c4_i32_86 c0_i32_87
  let c1_i32_88 : BitVec 32 := 1#32
  let v158 : BitVec 32 := Scalar.select v157 c1_i32_88 c4_i32_86
  let v159 : BitVec 32 := Scalar.remsi v156 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let c1_i32_92 : BitVec 32 := 1#32
  let v167 : BitVec 1 := Scalar.cmpi .eq v166 c1_i32_92
  let c2_i32_98 : BitVec 32 := 2#32
  let c2_i32_93 : BitVec 32 := 2#32
  let v168 : BitVec 1 := Scalar.cmpi .eq v166 c2_i32_93
  let c3_i32_97 : BitVec 32 := 3#32
  let c3_i32_94 : BitVec 32 := 3#32
  let v169 : BitVec 1 := Scalar.cmpi .eq v166 c3_i32_94
  let c1_i32_95 : BitVec 32 := 1#32
  let c0_i32_96 : BitVec 32 := 0#32
  let v170 : BitVec 32 := Scalar.select v169 c1_i32_95 c0_i32_96
  let v171 : BitVec 32 := Scalar.select v168 c3_i32_97 v170
  let v172 : BitVec 32 := Scalar.select v167 c2_i32_98 v171
  let c8_i32_99 : BitVec 32 := 8#32
  let v173 : BitVec 32 := Scalar.muli v172 c8_i32_99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v174 : BitVec 32 := Scalar.addi v173 v29
  let c1_i32_943 : BitVec 32 := 1#32
  let v1153 : BitVec 32 := Scalar.muli v174 c1_i32_943
  let v1154 : BitVec 32 := Scalar.addi c0_i32_944 v1153
  v1154.toNat
def k0_dev37 (d0 : Dev nD) : Nat :=
  let c0_i32_973 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_85 : BitVec 32 := 1#32
  let v156 : BitVec 32 := Scalar.addi v69 c1_i32_85
  let c4_i32_86 : BitVec 32 := 4#32
  let c0_i32_87 : BitVec 32 := 0#32
  let v157 : BitVec 1 := Scalar.cmpi .eq c4_i32_86 c0_i32_87
  let c1_i32_88 : BitVec 32 := 1#32
  let v158 : BitVec 32 := Scalar.select v157 c1_i32_88 c4_i32_86
  let v159 : BitVec 32 := Scalar.remsi v156 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let c1_i32_92 : BitVec 32 := 1#32
  let v167 : BitVec 1 := Scalar.cmpi .eq v166 c1_i32_92
  let c2_i32_98 : BitVec 32 := 2#32
  let c2_i32_93 : BitVec 32 := 2#32
  let v168 : BitVec 1 := Scalar.cmpi .eq v166 c2_i32_93
  let c3_i32_97 : BitVec 32 := 3#32
  let c3_i32_94 : BitVec 32 := 3#32
  let v169 : BitVec 1 := Scalar.cmpi .eq v166 c3_i32_94
  let c1_i32_95 : BitVec 32 := 1#32
  let c0_i32_96 : BitVec 32 := 0#32
  let v170 : BitVec 32 := Scalar.select v169 c1_i32_95 c0_i32_96
  let v171 : BitVec 32 := Scalar.select v168 c3_i32_97 v170
  let v172 : BitVec 32 := Scalar.select v167 c2_i32_98 v171
  let c8_i32_99 : BitVec 32 := 8#32
  let v173 : BitVec 32 := Scalar.muli v172 c8_i32_99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v174 : BitVec 32 := Scalar.addi v173 v29
  let c1_i32_972 : BitVec 32 := 1#32
  let v1192 : BitVec 32 := Scalar.muli v174 c1_i32_972
  let v1193 : BitVec 32 := Scalar.addi c0_i32_973 v1192
  v1193.toNat
def k0_dev38 (d0 : Dev nD) : Nat :=
  let c0_i32_1005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_100 : BitVec 32 := 1#32
  let v175 : BitVec 32 := Scalar.subi v69 c1_i32_100
  let c4_i32_101 : BitVec 32 := 4#32
  let c0_i32_102 : BitVec 32 := 0#32
  let v176 : BitVec 1 := Scalar.cmpi .eq c4_i32_101 c0_i32_102
  let c1_i32_103 : BitVec 32 := 1#32
  let v177 : BitVec 32 := Scalar.select v176 c1_i32_103 c4_i32_101
  let v178 : BitVec 32 := Scalar.remsi v175 v177
  let c0_i32_105 : BitVec 32 := 0#32
  let v180 : BitVec 1 := Scalar.cmpi .slt v178 c0_i32_105
  let c0_i32_106 : BitVec 32 := 0#32
  let v181 : BitVec 1 := Scalar.cmpi .slt v177 c0_i32_106
  let v182 : BitVec 1 := Scalar.xori v180 v181
  let c0_i32_104 : BitVec 32 := 0#32
  let v179 : BitVec 1 := Scalar.cmpi .ne v178 c0_i32_104
  let v183 : BitVec 1 := Scalar.andi v182 v179
  let v184 : BitVec 32 := Scalar.addi v178 v177
  let v185 : BitVec 32 := Scalar.select v183 v184 v178
  let c1_i32_107 : BitVec 32 := 1#32
  let v186 : BitVec 1 := Scalar.cmpi .eq v185 c1_i32_107
  let c2_i32_113 : BitVec 32 := 2#32
  let c2_i32_108 : BitVec 32 := 2#32
  let v187 : BitVec 1 := Scalar.cmpi .eq v185 c2_i32_108
  let c3_i32_112 : BitVec 32 := 3#32
  let c3_i32_109 : BitVec 32 := 3#32
  let v188 : BitVec 1 := Scalar.cmpi .eq v185 c3_i32_109
  let c1_i32_110 : BitVec 32 := 1#32
  let c0_i32_111 : BitVec 32 := 0#32
  let v189 : BitVec 32 := Scalar.select v188 c1_i32_110 c0_i32_111
  let v190 : BitVec 32 := Scalar.select v187 c3_i32_112 v189
  let v191 : BitVec 32 := Scalar.select v186 c2_i32_113 v190
  let c8_i32_114 : BitVec 32 := 8#32
  let v192 : BitVec 32 := Scalar.muli v191 c8_i32_114
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_1004 : BitVec 32 := 1#32
  let v1238 : BitVec 32 := Scalar.muli v193 c1_i32_1004
  let v1239 : BitVec 32 := Scalar.addi c0_i32_1005 v1238
  v1239.toNat
def k0_dev39 (d0 : Dev nD) : Nat :=
  let c0_i32_1032 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_100 : BitVec 32 := 1#32
  let v175 : BitVec 32 := Scalar.subi v69 c1_i32_100
  let c4_i32_101 : BitVec 32 := 4#32
  let c0_i32_102 : BitVec 32 := 0#32
  let v176 : BitVec 1 := Scalar.cmpi .eq c4_i32_101 c0_i32_102
  let c1_i32_103 : BitVec 32 := 1#32
  let v177 : BitVec 32 := Scalar.select v176 c1_i32_103 c4_i32_101
  let v178 : BitVec 32 := Scalar.remsi v175 v177
  let c0_i32_105 : BitVec 32 := 0#32
  let v180 : BitVec 1 := Scalar.cmpi .slt v178 c0_i32_105
  let c0_i32_106 : BitVec 32 := 0#32
  let v181 : BitVec 1 := Scalar.cmpi .slt v177 c0_i32_106
  let v182 : BitVec 1 := Scalar.xori v180 v181
  let c0_i32_104 : BitVec 32 := 0#32
  let v179 : BitVec 1 := Scalar.cmpi .ne v178 c0_i32_104
  let v183 : BitVec 1 := Scalar.andi v182 v179
  let v184 : BitVec 32 := Scalar.addi v178 v177
  let v185 : BitVec 32 := Scalar.select v183 v184 v178
  let c1_i32_107 : BitVec 32 := 1#32
  let v186 : BitVec 1 := Scalar.cmpi .eq v185 c1_i32_107
  let c2_i32_113 : BitVec 32 := 2#32
  let c2_i32_108 : BitVec 32 := 2#32
  let v187 : BitVec 1 := Scalar.cmpi .eq v185 c2_i32_108
  let c3_i32_112 : BitVec 32 := 3#32
  let c3_i32_109 : BitVec 32 := 3#32
  let v188 : BitVec 1 := Scalar.cmpi .eq v185 c3_i32_109
  let c1_i32_110 : BitVec 32 := 1#32
  let c0_i32_111 : BitVec 32 := 0#32
  let v189 : BitVec 32 := Scalar.select v188 c1_i32_110 c0_i32_111
  let v190 : BitVec 32 := Scalar.select v187 c3_i32_112 v189
  let v191 : BitVec 32 := Scalar.select v186 c2_i32_113 v190
  let c8_i32_114 : BitVec 32 := 8#32
  let v192 : BitVec 32 := Scalar.muli v191 c8_i32_114
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_1031 : BitVec 32 := 1#32
  let v1269 : BitVec 32 := Scalar.muli v193 c1_i32_1031
  let v1270 : BitVec 32 := Scalar.addi c0_i32_1032 v1269
  v1270.toNat
def k0_dev40 (d0 : Dev nD) : Nat :=
  let c0_i32_1056 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_85 : BitVec 32 := 1#32
  let v156 : BitVec 32 := Scalar.addi v69 c1_i32_85
  let c4_i32_86 : BitVec 32 := 4#32
  let c0_i32_87 : BitVec 32 := 0#32
  let v157 : BitVec 1 := Scalar.cmpi .eq c4_i32_86 c0_i32_87
  let c1_i32_88 : BitVec 32 := 1#32
  let v158 : BitVec 32 := Scalar.select v157 c1_i32_88 c4_i32_86
  let v159 : BitVec 32 := Scalar.remsi v156 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let c1_i32_92 : BitVec 32 := 1#32
  let v167 : BitVec 1 := Scalar.cmpi .eq v166 c1_i32_92
  let c2_i32_98 : BitVec 32 := 2#32
  let c2_i32_93 : BitVec 32 := 2#32
  let v168 : BitVec 1 := Scalar.cmpi .eq v166 c2_i32_93
  let c3_i32_97 : BitVec 32 := 3#32
  let c3_i32_94 : BitVec 32 := 3#32
  let v169 : BitVec 1 := Scalar.cmpi .eq v166 c3_i32_94
  let c1_i32_95 : BitVec 32 := 1#32
  let c0_i32_96 : BitVec 32 := 0#32
  let v170 : BitVec 32 := Scalar.select v169 c1_i32_95 c0_i32_96
  let v171 : BitVec 32 := Scalar.select v168 c3_i32_97 v170
  let v172 : BitVec 32 := Scalar.select v167 c2_i32_98 v171
  let c8_i32_99 : BitVec 32 := 8#32
  let v173 : BitVec 32 := Scalar.muli v172 c8_i32_99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v174 : BitVec 32 := Scalar.addi v173 v29
  let c1_i32_1055 : BitVec 32 := 1#32
  let v1293 : BitVec 32 := Scalar.muli v174 c1_i32_1055
  let v1294 : BitVec 32 := Scalar.addi c0_i32_1056 v1293
  v1294.toNat
def k0_dev41 (d0 : Dev nD) : Nat :=
  let c0_i32_1087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_85 : BitVec 32 := 1#32
  let v156 : BitVec 32 := Scalar.addi v69 c1_i32_85
  let c4_i32_86 : BitVec 32 := 4#32
  let c0_i32_87 : BitVec 32 := 0#32
  let v157 : BitVec 1 := Scalar.cmpi .eq c4_i32_86 c0_i32_87
  let c1_i32_88 : BitVec 32 := 1#32
  let v158 : BitVec 32 := Scalar.select v157 c1_i32_88 c4_i32_86
  let v159 : BitVec 32 := Scalar.remsi v156 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let c1_i32_92 : BitVec 32 := 1#32
  let v167 : BitVec 1 := Scalar.cmpi .eq v166 c1_i32_92
  let c2_i32_98 : BitVec 32 := 2#32
  let c2_i32_93 : BitVec 32 := 2#32
  let v168 : BitVec 1 := Scalar.cmpi .eq v166 c2_i32_93
  let c3_i32_97 : BitVec 32 := 3#32
  let c3_i32_94 : BitVec 32 := 3#32
  let v169 : BitVec 1 := Scalar.cmpi .eq v166 c3_i32_94
  let c1_i32_95 : BitVec 32 := 1#32
  let c0_i32_96 : BitVec 32 := 0#32
  let v170 : BitVec 32 := Scalar.select v169 c1_i32_95 c0_i32_96
  let v171 : BitVec 32 := Scalar.select v168 c3_i32_97 v170
  let v172 : BitVec 32 := Scalar.select v167 c2_i32_98 v171
  let c8_i32_99 : BitVec 32 := 8#32
  let v173 : BitVec 32 := Scalar.muli v172 c8_i32_99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v174 : BitVec 32 := Scalar.addi v173 v29
  let c1_i32_1086 : BitVec 32 := 1#32
  let v1332 : BitVec 32 := Scalar.muli v174 c1_i32_1086
  let v1333 : BitVec 32 := Scalar.addi c0_i32_1087 v1332
  v1333.toNat
def k0_dev42 (d0 : Dev nD) : Nat :=
  let c0_i32_1121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_100 : BitVec 32 := 1#32
  let v175 : BitVec 32 := Scalar.subi v69 c1_i32_100
  let c4_i32_101 : BitVec 32 := 4#32
  let c0_i32_102 : BitVec 32 := 0#32
  let v176 : BitVec 1 := Scalar.cmpi .eq c4_i32_101 c0_i32_102
  let c1_i32_103 : BitVec 32 := 1#32
  let v177 : BitVec 32 := Scalar.select v176 c1_i32_103 c4_i32_101
  let v178 : BitVec 32 := Scalar.remsi v175 v177
  let c0_i32_105 : BitVec 32 := 0#32
  let v180 : BitVec 1 := Scalar.cmpi .slt v178 c0_i32_105
  let c0_i32_106 : BitVec 32 := 0#32
  let v181 : BitVec 1 := Scalar.cmpi .slt v177 c0_i32_106
  let v182 : BitVec 1 := Scalar.xori v180 v181
  let c0_i32_104 : BitVec 32 := 0#32
  let v179 : BitVec 1 := Scalar.cmpi .ne v178 c0_i32_104
  let v183 : BitVec 1 := Scalar.andi v182 v179
  let v184 : BitVec 32 := Scalar.addi v178 v177
  let v185 : BitVec 32 := Scalar.select v183 v184 v178
  let c1_i32_107 : BitVec 32 := 1#32
  let v186 : BitVec 1 := Scalar.cmpi .eq v185 c1_i32_107
  let c2_i32_113 : BitVec 32 := 2#32
  let c2_i32_108 : BitVec 32 := 2#32
  let v187 : BitVec 1 := Scalar.cmpi .eq v185 c2_i32_108
  let c3_i32_112 : BitVec 32 := 3#32
  let c3_i32_109 : BitVec 32 := 3#32
  let v188 : BitVec 1 := Scalar.cmpi .eq v185 c3_i32_109
  let c1_i32_110 : BitVec 32 := 1#32
  let c0_i32_111 : BitVec 32 := 0#32
  let v189 : BitVec 32 := Scalar.select v188 c1_i32_110 c0_i32_111
  let v190 : BitVec 32 := Scalar.select v187 c3_i32_112 v189
  let v191 : BitVec 32 := Scalar.select v186 c2_i32_113 v190
  let c8_i32_114 : BitVec 32 := 8#32
  let v192 : BitVec 32 := Scalar.muli v191 c8_i32_114
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_1120 : BitVec 32 := 1#32
  let v1378 : BitVec 32 := Scalar.muli v193 c1_i32_1120
  let v1379 : BitVec 32 := Scalar.addi c0_i32_1121 v1378
  v1379.toNat
def k0_dev43 (d0 : Dev nD) : Nat :=
  let c0_i32_1148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_100 : BitVec 32 := 1#32
  let v175 : BitVec 32 := Scalar.subi v69 c1_i32_100
  let c4_i32_101 : BitVec 32 := 4#32
  let c0_i32_102 : BitVec 32 := 0#32
  let v176 : BitVec 1 := Scalar.cmpi .eq c4_i32_101 c0_i32_102
  let c1_i32_103 : BitVec 32 := 1#32
  let v177 : BitVec 32 := Scalar.select v176 c1_i32_103 c4_i32_101
  let v178 : BitVec 32 := Scalar.remsi v175 v177
  let c0_i32_105 : BitVec 32 := 0#32
  let v180 : BitVec 1 := Scalar.cmpi .slt v178 c0_i32_105
  let c0_i32_106 : BitVec 32 := 0#32
  let v181 : BitVec 1 := Scalar.cmpi .slt v177 c0_i32_106
  let v182 : BitVec 1 := Scalar.xori v180 v181
  let c0_i32_104 : BitVec 32 := 0#32
  let v179 : BitVec 1 := Scalar.cmpi .ne v178 c0_i32_104
  let v183 : BitVec 1 := Scalar.andi v182 v179
  let v184 : BitVec 32 := Scalar.addi v178 v177
  let v185 : BitVec 32 := Scalar.select v183 v184 v178
  let c1_i32_107 : BitVec 32 := 1#32
  let v186 : BitVec 1 := Scalar.cmpi .eq v185 c1_i32_107
  let c2_i32_113 : BitVec 32 := 2#32
  let c2_i32_108 : BitVec 32 := 2#32
  let v187 : BitVec 1 := Scalar.cmpi .eq v185 c2_i32_108
  let c3_i32_112 : BitVec 32 := 3#32
  let c3_i32_109 : BitVec 32 := 3#32
  let v188 : BitVec 1 := Scalar.cmpi .eq v185 c3_i32_109
  let c1_i32_110 : BitVec 32 := 1#32
  let c0_i32_111 : BitVec 32 := 0#32
  let v189 : BitVec 32 := Scalar.select v188 c1_i32_110 c0_i32_111
  let v190 : BitVec 32 := Scalar.select v187 c3_i32_112 v189
  let v191 : BitVec 32 := Scalar.select v186 c2_i32_113 v190
  let c8_i32_114 : BitVec 32 := 8#32
  let v192 : BitVec 32 := Scalar.muli v191 c8_i32_114
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_1147 : BitVec 32 := 1#32
  let v1409 : BitVec 32 := Scalar.muli v193 c1_i32_1147
  let v1410 : BitVec 32 := Scalar.addi c0_i32_1148 v1409
  v1410.toNat
def k0_dev44 (d0 : Dev nD) : Nat :=
  let c0_i32_1172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_85 : BitVec 32 := 1#32
  let v156 : BitVec 32 := Scalar.addi v69 c1_i32_85
  let c4_i32_86 : BitVec 32 := 4#32
  let c0_i32_87 : BitVec 32 := 0#32
  let v157 : BitVec 1 := Scalar.cmpi .eq c4_i32_86 c0_i32_87
  let c1_i32_88 : BitVec 32 := 1#32
  let v158 : BitVec 32 := Scalar.select v157 c1_i32_88 c4_i32_86
  let v159 : BitVec 32 := Scalar.remsi v156 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let c1_i32_92 : BitVec 32 := 1#32
  let v167 : BitVec 1 := Scalar.cmpi .eq v166 c1_i32_92
  let c2_i32_98 : BitVec 32 := 2#32
  let c2_i32_93 : BitVec 32 := 2#32
  let v168 : BitVec 1 := Scalar.cmpi .eq v166 c2_i32_93
  let c3_i32_97 : BitVec 32 := 3#32
  let c3_i32_94 : BitVec 32 := 3#32
  let v169 : BitVec 1 := Scalar.cmpi .eq v166 c3_i32_94
  let c1_i32_95 : BitVec 32 := 1#32
  let c0_i32_96 : BitVec 32 := 0#32
  let v170 : BitVec 32 := Scalar.select v169 c1_i32_95 c0_i32_96
  let v171 : BitVec 32 := Scalar.select v168 c3_i32_97 v170
  let v172 : BitVec 32 := Scalar.select v167 c2_i32_98 v171
  let c8_i32_99 : BitVec 32 := 8#32
  let v173 : BitVec 32 := Scalar.muli v172 c8_i32_99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v174 : BitVec 32 := Scalar.addi v173 v29
  let c1_i32_1171 : BitVec 32 := 1#32
  let v1433 : BitVec 32 := Scalar.muli v174 c1_i32_1171
  let v1434 : BitVec 32 := Scalar.addi c0_i32_1172 v1433
  v1434.toNat
def k0_off9 (d0 : Dev nD) (c0_i32_1182 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_1173 : BitVec 32 := 1#32
  let v1435 : BitVec 32 := Scalar.addi v63 c1_i32_1173
  let c8_i32_1174 : BitVec 32 := 8#32
  let c0_i32_1175 : BitVec 32 := 0#32
  let v1436 : BitVec 1 := Scalar.cmpi .eq c8_i32_1174 c0_i32_1175
  let c1_i32_1176 : BitVec 32 := 1#32
  let v1437 : BitVec 32 := Scalar.select v1436 c1_i32_1176 c8_i32_1174
  let v1438 : BitVec 32 := Scalar.remsi v1435 v1437
  let c0_i32_1178 : BitVec 32 := 0#32
  let v1440 : BitVec 1 := Scalar.cmpi .slt v1438 c0_i32_1178
  let c0_i32_1179 : BitVec 32 := 0#32
  let v1441 : BitVec 1 := Scalar.cmpi .slt v1437 c0_i32_1179
  let v1442 : BitVec 1 := Scalar.xori v1440 v1441
  let c0_i32_1177 : BitVec 32 := 0#32
  let v1439 : BitVec 1 := Scalar.cmpi .ne v1438 c0_i32_1177
  let v1443 : BitVec 1 := Scalar.andi v1442 v1439
  let v1444 : BitVec 32 := Scalar.addi v1438 v1437
  let v1445 : BitVec 32 := Scalar.select v1443 v1444 v1438
  let c128_i32_1180 : BitVec 32 := 128#32
  let v1446 : BitVec 32 := Scalar.muli v1445 c128_i32_1180
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_1181 : BitVec 32 := 1#32
  let v1447 : BitVec 32 := Scalar.addi v69 c1_i32_1181
  let v1448 : BitVec 32 := Scalar.subi v1447 c0_i32_1182
  let c4_i32_1183 : BitVec 32 := 4#32
  let c0_i32_1184 : BitVec 32 := 0#32
  let v1449 : BitVec 1 := Scalar.cmpi .eq c4_i32_1183 c0_i32_1184
  let c1_i32_1185 : BitVec 32 := 1#32
  let v1450 : BitVec 32 := Scalar.select v1449 c1_i32_1185 c4_i32_1183
  let v1451 : BitVec 32 := Scalar.remsi v1448 v1450
  let c0_i32_1187 : BitVec 32 := 0#32
  let v1453 : BitVec 1 := Scalar.cmpi .slt v1451 c0_i32_1187
  let c0_i32_1188 : BitVec 32 := 0#32
  let v1454 : BitVec 1 := Scalar.cmpi .slt v1450 c0_i32_1188
  let v1455 : BitVec 1 := Scalar.xori v1453 v1454
  let c0_i32_1186 : BitVec 32 := 0#32
  let v1452 : BitVec 1 := Scalar.cmpi .ne v1451 c0_i32_1186
  let v1456 : BitVec 1 := Scalar.andi v1455 v1452
  let v1457 : BitVec 32 := Scalar.addi v1451 v1450
  let v1458 : BitVec 32 := Scalar.select v1456 v1457 v1451
  let c32_i32_1198 : BitVec 32 := 32#32
  let v1470 : BitVec 32 := Scalar.muli v1458 c32_i32_1198
  let v1471 : BitVec 32 := Scalar.addi v1446 v1470
  let c0_i32_1206 : BitVec 32 := 0#32
  ![v1471.toNat, 0]
def k0_dev45 (d0 : Dev nD) : Nat :=
  let c0_i32_1203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_85 : BitVec 32 := 1#32
  let v156 : BitVec 32 := Scalar.addi v69 c1_i32_85
  let c4_i32_86 : BitVec 32 := 4#32
  let c0_i32_87 : BitVec 32 := 0#32
  let v157 : BitVec 1 := Scalar.cmpi .eq c4_i32_86 c0_i32_87
  let c1_i32_88 : BitVec 32 := 1#32
  let v158 : BitVec 32 := Scalar.select v157 c1_i32_88 c4_i32_86
  let v159 : BitVec 32 := Scalar.remsi v156 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let c1_i32_92 : BitVec 32 := 1#32
  let v167 : BitVec 1 := Scalar.cmpi .eq v166 c1_i32_92
  let c2_i32_98 : BitVec 32 := 2#32
  let c2_i32_93 : BitVec 32 := 2#32
  let v168 : BitVec 1 := Scalar.cmpi .eq v166 c2_i32_93
  let c3_i32_97 : BitVec 32 := 3#32
  let c3_i32_94 : BitVec 32 := 3#32
  let v169 : BitVec 1 := Scalar.cmpi .eq v166 c3_i32_94
  let c1_i32_95 : BitVec 32 := 1#32
  let c0_i32_96 : BitVec 32 := 0#32
  let v170 : BitVec 32 := Scalar.select v169 c1_i32_95 c0_i32_96
  let v171 : BitVec 32 := Scalar.select v168 c3_i32_97 v170
  let v172 : BitVec 32 := Scalar.select v167 c2_i32_98 v171
  let c8_i32_99 : BitVec 32 := 8#32
  let v173 : BitVec 32 := Scalar.muli v172 c8_i32_99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v174 : BitVec 32 := Scalar.addi v173 v29
  let c1_i32_1202 : BitVec 32 := 1#32
  let v1472 : BitVec 32 := Scalar.muli v174 c1_i32_1202
  let v1473 : BitVec 32 := Scalar.addi c0_i32_1203 v1472
  v1473.toNat
def k0_off10 (d0 : Dev nD) (c0_i32_1216 : BitVec 32) : Fin 2 → Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let v209 : BitVec 32 := Scalar.subi c0_i32_133 v63
  let c8_i32_134 : BitVec 32 := 8#32
  let c0_i32_135 : BitVec 32 := 0#32
  let v210 : BitVec 1 := Scalar.cmpi .eq c8_i32_134 c0_i32_135
  let c1_i32_136 : BitVec 32 := 1#32
  let v211 : BitVec 32 := Scalar.select v210 c1_i32_136 c8_i32_134
  let v212 : BitVec 32 := Scalar.remsi v209 v211
  let c0_i32_138 : BitVec 32 := 0#32
  let v214 : BitVec 1 := Scalar.cmpi .slt v212 c0_i32_138
  let c0_i32_139 : BitVec 32 := 0#32
  let v215 : BitVec 1 := Scalar.cmpi .slt v211 c0_i32_139
  let v216 : BitVec 1 := Scalar.xori v214 v215
  let c0_i32_137 : BitVec 32 := 0#32
  let v213 : BitVec 1 := Scalar.cmpi .ne v212 c0_i32_137
  let v217 : BitVec 1 := Scalar.andi v216 v213
  let v218 : BitVec 32 := Scalar.addi v212 v211
  let v219 : BitVec 32 := Scalar.select v217 v218 v212
  let c1_i32_1207 : BitVec 32 := 1#32
  let v1481 : BitVec 32 := Scalar.addi v219 c1_i32_1207
  let c8_i32_1208 : BitVec 32 := 8#32
  let c0_i32_1209 : BitVec 32 := 0#32
  let v1482 : BitVec 1 := Scalar.cmpi .eq c8_i32_1208 c0_i32_1209
  let c1_i32_1210 : BitVec 32 := 1#32
  let v1483 : BitVec 32 := Scalar.select v1482 c1_i32_1210 c8_i32_1208
  let v1484 : BitVec 32 := Scalar.remsi v1481 v1483
  let c0_i32_1212 : BitVec 32 := 0#32
  let v1486 : BitVec 1 := Scalar.cmpi .slt v1484 c0_i32_1212
  let c0_i32_1213 : BitVec 32 := 0#32
  let v1487 : BitVec 1 := Scalar.cmpi .slt v1483 c0_i32_1213
  let v1488 : BitVec 1 := Scalar.xori v1486 v1487
  let c0_i32_1211 : BitVec 32 := 0#32
  let v1485 : BitVec 1 := Scalar.cmpi .ne v1484 c0_i32_1211
  let v1489 : BitVec 1 := Scalar.andi v1488 v1485
  let v1490 : BitVec 32 := Scalar.addi v1484 v1483
  let v1491 : BitVec 32 := Scalar.select v1489 v1490 v1484
  let c128_i32_1214 : BitVec 32 := 128#32
  let v1492 : BitVec 32 := Scalar.muli v1491 c128_i32_1214
  let c0_i32_140 : BitVec 32 := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let v220 : BitVec 32 := Scalar.subi c0_i32_140 v69
  let c4_i32_141 : BitVec 32 := 4#32
  let c0_i32_142 : BitVec 32 := 0#32
  let v221 : BitVec 1 := Scalar.cmpi .eq c4_i32_141 c0_i32_142
  let c1_i32_143 : BitVec 32 := 1#32
  let v222 : BitVec 32 := Scalar.select v221 c1_i32_143 c4_i32_141
  let v223 : BitVec 32 := Scalar.remsi v220 v222
  let c0_i32_145 : BitVec 32 := 0#32
  let v225 : BitVec 1 := Scalar.cmpi .slt v223 c0_i32_145
  let c0_i32_146 : BitVec 32 := 0#32
  let v226 : BitVec 1 := Scalar.cmpi .slt v222 c0_i32_146
  let v227 : BitVec 1 := Scalar.xori v225 v226
  let c0_i32_144 : BitVec 32 := 0#32
  let v224 : BitVec 1 := Scalar.cmpi .ne v223 c0_i32_144
  let v228 : BitVec 1 := Scalar.andi v227 v224
  let v229 : BitVec 32 := Scalar.addi v223 v222
  let v230 : BitVec 32 := Scalar.select v228 v229 v223
  let c1_i32_1215 : BitVec 32 := 1#32
  let v1493 : BitVec 32 := Scalar.addi v230 c1_i32_1215
  let v1494 : BitVec 32 := Scalar.subi v1493 c0_i32_1216
  let c4_i32_1217 : BitVec 32 := 4#32
  let c0_i32_1218 : BitVec 32 := 0#32
  let v1495 : BitVec 1 := Scalar.cmpi .eq c4_i32_1217 c0_i32_1218
  let c1_i32_1219 : BitVec 32 := 1#32
  let v1496 : BitVec 32 := Scalar.select v1495 c1_i32_1219 c4_i32_1217
  let v1497 : BitVec 32 := Scalar.remsi v1494 v1496
  let c0_i32_1221 : BitVec 32 := 0#32
  let v1499 : BitVec 1 := Scalar.cmpi .slt v1497 c0_i32_1221
  let c0_i32_1222 : BitVec 32 := 0#32
  let v1500 : BitVec 1 := Scalar.cmpi .slt v1496 c0_i32_1222
  let v1501 : BitVec 1 := Scalar.xori v1499 v1500
  let c0_i32_1220 : BitVec 32 := 0#32
  let v1498 : BitVec 1 := Scalar.cmpi .ne v1497 c0_i32_1220
  let v1502 : BitVec 1 := Scalar.andi v1501 v1498
  let v1503 : BitVec 32 := Scalar.addi v1497 v1496
  let v1504 : BitVec 32 := Scalar.select v1502 v1503 v1497
  let c32_i32_1232 : BitVec 32 := 32#32
  let v1516 : BitVec 32 := Scalar.muli v1504 c32_i32_1232
  let v1517 : BitVec 32 := Scalar.addi v1492 v1516
  let c512_i32_1240 : BitVec 32 := 512#32
  ![v1517.toNat, 512]
def k0_dev46 (d0 : Dev nD) : Nat :=
  let c0_i32_1237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_100 : BitVec 32 := 1#32
  let v175 : BitVec 32 := Scalar.subi v69 c1_i32_100
  let c4_i32_101 : BitVec 32 := 4#32
  let c0_i32_102 : BitVec 32 := 0#32
  let v176 : BitVec 1 := Scalar.cmpi .eq c4_i32_101 c0_i32_102
  let c1_i32_103 : BitVec 32 := 1#32
  let v177 : BitVec 32 := Scalar.select v176 c1_i32_103 c4_i32_101
  let v178 : BitVec 32 := Scalar.remsi v175 v177
  let c0_i32_105 : BitVec 32 := 0#32
  let v180 : BitVec 1 := Scalar.cmpi .slt v178 c0_i32_105
  let c0_i32_106 : BitVec 32 := 0#32
  let v181 : BitVec 1 := Scalar.cmpi .slt v177 c0_i32_106
  let v182 : BitVec 1 := Scalar.xori v180 v181
  let c0_i32_104 : BitVec 32 := 0#32
  let v179 : BitVec 1 := Scalar.cmpi .ne v178 c0_i32_104
  let v183 : BitVec 1 := Scalar.andi v182 v179
  let v184 : BitVec 32 := Scalar.addi v178 v177
  let v185 : BitVec 32 := Scalar.select v183 v184 v178
  let c1_i32_107 : BitVec 32 := 1#32
  let v186 : BitVec 1 := Scalar.cmpi .eq v185 c1_i32_107
  let c2_i32_113 : BitVec 32 := 2#32
  let c2_i32_108 : BitVec 32 := 2#32
  let v187 : BitVec 1 := Scalar.cmpi .eq v185 c2_i32_108
  let c3_i32_112 : BitVec 32 := 3#32
  let c3_i32_109 : BitVec 32 := 3#32
  let v188 : BitVec 1 := Scalar.cmpi .eq v185 c3_i32_109
  let c1_i32_110 : BitVec 32 := 1#32
  let c0_i32_111 : BitVec 32 := 0#32
  let v189 : BitVec 32 := Scalar.select v188 c1_i32_110 c0_i32_111
  let v190 : BitVec 32 := Scalar.select v187 c3_i32_112 v189
  let v191 : BitVec 32 := Scalar.select v186 c2_i32_113 v190
  let c8_i32_114 : BitVec 32 := 8#32
  let v192 : BitVec 32 := Scalar.muli v191 c8_i32_114
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_1236 : BitVec 32 := 1#32
  let v1518 : BitVec 32 := Scalar.muli v193 c1_i32_1236
  let v1519 : BitVec 32 := Scalar.addi c0_i32_1237 v1518
  v1519.toNat
def k0_off11 (d0 : Dev nD) (c0_i32_1189 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_1173 : BitVec 32 := 1#32
  let v1435 : BitVec 32 := Scalar.addi v63 c1_i32_1173
  let c8_i32_1174 : BitVec 32 := 8#32
  let c0_i32_1175 : BitVec 32 := 0#32
  let v1436 : BitVec 1 := Scalar.cmpi .eq c8_i32_1174 c0_i32_1175
  let c1_i32_1176 : BitVec 32 := 1#32
  let v1437 : BitVec 32 := Scalar.select v1436 c1_i32_1176 c8_i32_1174
  let v1438 : BitVec 32 := Scalar.remsi v1435 v1437
  let c0_i32_1178 : BitVec 32 := 0#32
  let v1440 : BitVec 1 := Scalar.cmpi .slt v1438 c0_i32_1178
  let c0_i32_1179 : BitVec 32 := 0#32
  let v1441 : BitVec 1 := Scalar.cmpi .slt v1437 c0_i32_1179
  let v1442 : BitVec 1 := Scalar.xori v1440 v1441
  let c0_i32_1177 : BitVec 32 := 0#32
  let v1439 : BitVec 1 := Scalar.cmpi .ne v1438 c0_i32_1177
  let v1443 : BitVec 1 := Scalar.andi v1442 v1439
  let v1444 : BitVec 32 := Scalar.addi v1438 v1437
  let v1445 : BitVec 32 := Scalar.select v1443 v1444 v1438
  let c128_i32_1180 : BitVec 32 := 128#32
  let v1446 : BitVec 32 := Scalar.muli v1445 c128_i32_1180
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let v1459 : BitVec 32 := Scalar.subi v69 c0_i32_1189
  let c4_i32_1190 : BitVec 32 := 4#32
  let c0_i32_1191 : BitVec 32 := 0#32
  let v1460 : BitVec 1 := Scalar.cmpi .eq c4_i32_1190 c0_i32_1191
  let c1_i32_1192 : BitVec 32 := 1#32
  let v1461 : BitVec 32 := Scalar.select v1460 c1_i32_1192 c4_i32_1190
  let v1462 : BitVec 32 := Scalar.remsi v1459 v1461
  let c0_i32_1194 : BitVec 32 := 0#32
  let v1464 : BitVec 1 := Scalar.cmpi .slt v1462 c0_i32_1194
  let c0_i32_1195 : BitVec 32 := 0#32
  let v1465 : BitVec 1 := Scalar.cmpi .slt v1461 c0_i32_1195
  let v1466 : BitVec 1 := Scalar.xori v1464 v1465
  let c0_i32_1193 : BitVec 32 := 0#32
  let v1463 : BitVec 1 := Scalar.cmpi .ne v1462 c0_i32_1193
  let v1467 : BitVec 1 := Scalar.andi v1466 v1463
  let v1468 : BitVec 32 := Scalar.addi v1462 v1461
  let v1469 : BitVec 32 := Scalar.select v1467 v1468 v1462
  let c32_i32_1256 : BitVec 32 := 32#32
  let v1539 : BitVec 32 := Scalar.muli v1469 c32_i32_1256
  let v1540 : BitVec 32 := Scalar.addi v1446 v1539
  let v1543 : Index := Scalar.indexCast v1540
  let c0_1260 : Index := 0#32
  ![v1543.toNat, 0]
def k0_dev47 (d0 : Dev nD) : Nat :=
  let c0_i32_1263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_100 : BitVec 32 := 1#32
  let v175 : BitVec 32 := Scalar.subi v69 c1_i32_100
  let c4_i32_101 : BitVec 32 := 4#32
  let c0_i32_102 : BitVec 32 := 0#32
  let v176 : BitVec 1 := Scalar.cmpi .eq c4_i32_101 c0_i32_102
  let c1_i32_103 : BitVec 32 := 1#32
  let v177 : BitVec 32 := Scalar.select v176 c1_i32_103 c4_i32_101
  let v178 : BitVec 32 := Scalar.remsi v175 v177
  let c0_i32_105 : BitVec 32 := 0#32
  let v180 : BitVec 1 := Scalar.cmpi .slt v178 c0_i32_105
  let c0_i32_106 : BitVec 32 := 0#32
  let v181 : BitVec 1 := Scalar.cmpi .slt v177 c0_i32_106
  let v182 : BitVec 1 := Scalar.xori v180 v181
  let c0_i32_104 : BitVec 32 := 0#32
  let v179 : BitVec 1 := Scalar.cmpi .ne v178 c0_i32_104
  let v183 : BitVec 1 := Scalar.andi v182 v179
  let v184 : BitVec 32 := Scalar.addi v178 v177
  let v185 : BitVec 32 := Scalar.select v183 v184 v178
  let c1_i32_107 : BitVec 32 := 1#32
  let v186 : BitVec 1 := Scalar.cmpi .eq v185 c1_i32_107
  let c2_i32_113 : BitVec 32 := 2#32
  let c2_i32_108 : BitVec 32 := 2#32
  let v187 : BitVec 1 := Scalar.cmpi .eq v185 c2_i32_108
  let c3_i32_112 : BitVec 32 := 3#32
  let c3_i32_109 : BitVec 32 := 3#32
  let v188 : BitVec 1 := Scalar.cmpi .eq v185 c3_i32_109
  let c1_i32_110 : BitVec 32 := 1#32
  let c0_i32_111 : BitVec 32 := 0#32
  let v189 : BitVec 32 := Scalar.select v188 c1_i32_110 c0_i32_111
  let v190 : BitVec 32 := Scalar.select v187 c3_i32_112 v189
  let v191 : BitVec 32 := Scalar.select v186 c2_i32_113 v190
  let c8_i32_114 : BitVec 32 := 8#32
  let v192 : BitVec 32 := Scalar.muli v191 c8_i32_114
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_1262 : BitVec 32 := 1#32
  let v1545 : BitVec 32 := Scalar.muli v193 c1_i32_1262
  let v1546 : BitVec 32 := Scalar.addi c0_i32_1263 v1545
  v1546.toNat
def k0_off12 (d0 : Dev nD) (c0_i32_1223 : BitVec 32) : Fin 2 → Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let v209 : BitVec 32 := Scalar.subi c0_i32_133 v63
  let c8_i32_134 : BitVec 32 := 8#32
  let c0_i32_135 : BitVec 32 := 0#32
  let v210 : BitVec 1 := Scalar.cmpi .eq c8_i32_134 c0_i32_135
  let c1_i32_136 : BitVec 32 := 1#32
  let v211 : BitVec 32 := Scalar.select v210 c1_i32_136 c8_i32_134
  let v212 : BitVec 32 := Scalar.remsi v209 v211
  let c0_i32_138 : BitVec 32 := 0#32
  let v214 : BitVec 1 := Scalar.cmpi .slt v212 c0_i32_138
  let c0_i32_139 : BitVec 32 := 0#32
  let v215 : BitVec 1 := Scalar.cmpi .slt v211 c0_i32_139
  let v216 : BitVec 1 := Scalar.xori v214 v215
  let c0_i32_137 : BitVec 32 := 0#32
  let v213 : BitVec 1 := Scalar.cmpi .ne v212 c0_i32_137
  let v217 : BitVec 1 := Scalar.andi v216 v213
  let v218 : BitVec 32 := Scalar.addi v212 v211
  let v219 : BitVec 32 := Scalar.select v217 v218 v212
  let c1_i32_1207 : BitVec 32 := 1#32
  let v1481 : BitVec 32 := Scalar.addi v219 c1_i32_1207
  let c8_i32_1208 : BitVec 32 := 8#32
  let c0_i32_1209 : BitVec 32 := 0#32
  let v1482 : BitVec 1 := Scalar.cmpi .eq c8_i32_1208 c0_i32_1209
  let c1_i32_1210 : BitVec 32 := 1#32
  let v1483 : BitVec 32 := Scalar.select v1482 c1_i32_1210 c8_i32_1208
  let v1484 : BitVec 32 := Scalar.remsi v1481 v1483
  let c0_i32_1212 : BitVec 32 := 0#32
  let v1486 : BitVec 1 := Scalar.cmpi .slt v1484 c0_i32_1212
  let c0_i32_1213 : BitVec 32 := 0#32
  let v1487 : BitVec 1 := Scalar.cmpi .slt v1483 c0_i32_1213
  let v1488 : BitVec 1 := Scalar.xori v1486 v1487
  let c0_i32_1211 : BitVec 32 := 0#32
  let v1485 : BitVec 1 := Scalar.cmpi .ne v1484 c0_i32_1211
  let v1489 : BitVec 1 := Scalar.andi v1488 v1485
  let v1490 : BitVec 32 := Scalar.addi v1484 v1483
  let v1491 : BitVec 32 := Scalar.select v1489 v1490 v1484
  let c128_i32_1214 : BitVec 32 := 128#32
  let v1492 : BitVec 32 := Scalar.muli v1491 c128_i32_1214
  let c0_i32_140 : BitVec 32 := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let v220 : BitVec 32 := Scalar.subi c0_i32_140 v69
  let c4_i32_141 : BitVec 32 := 4#32
  let c0_i32_142 : BitVec 32 := 0#32
  let v221 : BitVec 1 := Scalar.cmpi .eq c4_i32_141 c0_i32_142
  let c1_i32_143 : BitVec 32 := 1#32
  let v222 : BitVec 32 := Scalar.select v221 c1_i32_143 c4_i32_141
  let v223 : BitVec 32 := Scalar.remsi v220 v222
  let c0_i32_145 : BitVec 32 := 0#32
  let v225 : BitVec 1 := Scalar.cmpi .slt v223 c0_i32_145
  let c0_i32_146 : BitVec 32 := 0#32
  let v226 : BitVec 1 := Scalar.cmpi .slt v222 c0_i32_146
  let v227 : BitVec 1 := Scalar.xori v225 v226
  let c0_i32_144 : BitVec 32 := 0#32
  let v224 : BitVec 1 := Scalar.cmpi .ne v223 c0_i32_144
  let v228 : BitVec 1 := Scalar.andi v227 v224
  let v229 : BitVec 32 := Scalar.addi v223 v222
  let v230 : BitVec 32 := Scalar.select v228 v229 v223
  let v1505 : BitVec 32 := Scalar.subi v230 c0_i32_1223
  let c4_i32_1224 : BitVec 32 := 4#32
  let c0_i32_1225 : BitVec 32 := 0#32
  let v1506 : BitVec 1 := Scalar.cmpi .eq c4_i32_1224 c0_i32_1225
  let c1_i32_1226 : BitVec 32 := 1#32
  let v1507 : BitVec 32 := Scalar.select v1506 c1_i32_1226 c4_i32_1224
  let v1508 : BitVec 32 := Scalar.remsi v1505 v1507
  let c0_i32_1228 : BitVec 32 := 0#32
  let v1510 : BitVec 1 := Scalar.cmpi .slt v1508 c0_i32_1228
  let c0_i32_1229 : BitVec 32 := 0#32
  let v1511 : BitVec 1 := Scalar.cmpi .slt v1507 c0_i32_1229
  let v1512 : BitVec 1 := Scalar.xori v1510 v1511
  let c0_i32_1227 : BitVec 32 := 0#32
  let v1509 : BitVec 1 := Scalar.cmpi .ne v1508 c0_i32_1227
  let v1513 : BitVec 1 := Scalar.andi v1512 v1509
  let v1514 : BitVec 32 := Scalar.addi v1508 v1507
  let v1515 : BitVec 32 := Scalar.select v1513 v1514 v1508
  let c32_i32_1279 : BitVec 32 := 32#32
  let v1559 : BitVec 32 := Scalar.muli v1515 c32_i32_1279
  let v1560 : BitVec 32 := Scalar.addi v1492 v1559
  let v1563 : Index := Scalar.indexCast v1560
  let c512_1283 : Index := 512#32
  ![v1563.toNat, 512]
def k0_dev48 (d0 : Dev nD) : Nat :=
  let c0_i32_1286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_85 : BitVec 32 := 1#32
  let v156 : BitVec 32 := Scalar.addi v69 c1_i32_85
  let c4_i32_86 : BitVec 32 := 4#32
  let c0_i32_87 : BitVec 32 := 0#32
  let v157 : BitVec 1 := Scalar.cmpi .eq c4_i32_86 c0_i32_87
  let c1_i32_88 : BitVec 32 := 1#32
  let v158 : BitVec 32 := Scalar.select v157 c1_i32_88 c4_i32_86
  let v159 : BitVec 32 := Scalar.remsi v156 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let c1_i32_92 : BitVec 32 := 1#32
  let v167 : BitVec 1 := Scalar.cmpi .eq v166 c1_i32_92
  let c2_i32_98 : BitVec 32 := 2#32
  let c2_i32_93 : BitVec 32 := 2#32
  let v168 : BitVec 1 := Scalar.cmpi .eq v166 c2_i32_93
  let c3_i32_97 : BitVec 32 := 3#32
  let c3_i32_94 : BitVec 32 := 3#32
  let v169 : BitVec 1 := Scalar.cmpi .eq v166 c3_i32_94
  let c1_i32_95 : BitVec 32 := 1#32
  let c0_i32_96 : BitVec 32 := 0#32
  let v170 : BitVec 32 := Scalar.select v169 c1_i32_95 c0_i32_96
  let v171 : BitVec 32 := Scalar.select v168 c3_i32_97 v170
  let v172 : BitVec 32 := Scalar.select v167 c2_i32_98 v171
  let c8_i32_99 : BitVec 32 := 8#32
  let v173 : BitVec 32 := Scalar.muli v172 c8_i32_99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v174 : BitVec 32 := Scalar.addi v173 v29
  let c1_i32_1285 : BitVec 32 := 1#32
  let v1565 : BitVec 32 := Scalar.muli v174 c1_i32_1285
  let v1566 : BitVec 32 := Scalar.addi c0_i32_1286 v1565
  v1566.toNat
def k0_dev49 (d0 : Dev nD) : Nat :=
  let c0_i32_1317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_85 : BitVec 32 := 1#32
  let v156 : BitVec 32 := Scalar.addi v69 c1_i32_85
  let c4_i32_86 : BitVec 32 := 4#32
  let c0_i32_87 : BitVec 32 := 0#32
  let v157 : BitVec 1 := Scalar.cmpi .eq c4_i32_86 c0_i32_87
  let c1_i32_88 : BitVec 32 := 1#32
  let v158 : BitVec 32 := Scalar.select v157 c1_i32_88 c4_i32_86
  let v159 : BitVec 32 := Scalar.remsi v156 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let c1_i32_92 : BitVec 32 := 1#32
  let v167 : BitVec 1 := Scalar.cmpi .eq v166 c1_i32_92
  let c2_i32_98 : BitVec 32 := 2#32
  let c2_i32_93 : BitVec 32 := 2#32
  let v168 : BitVec 1 := Scalar.cmpi .eq v166 c2_i32_93
  let c3_i32_97 : BitVec 32 := 3#32
  let c3_i32_94 : BitVec 32 := 3#32
  let v169 : BitVec 1 := Scalar.cmpi .eq v166 c3_i32_94
  let c1_i32_95 : BitVec 32 := 1#32
  let c0_i32_96 : BitVec 32 := 0#32
  let v170 : BitVec 32 := Scalar.select v169 c1_i32_95 c0_i32_96
  let v171 : BitVec 32 := Scalar.select v168 c3_i32_97 v170
  let v172 : BitVec 32 := Scalar.select v167 c2_i32_98 v171
  let c8_i32_99 : BitVec 32 := 8#32
  let v173 : BitVec 32 := Scalar.muli v172 c8_i32_99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v174 : BitVec 32 := Scalar.addi v173 v29
  let c1_i32_1316 : BitVec 32 := 1#32
  let v1604 : BitVec 32 := Scalar.muli v174 c1_i32_1316
  let v1605 : BitVec 32 := Scalar.addi c0_i32_1317 v1604
  v1605.toNat
def k0_dev50 (d0 : Dev nD) : Nat :=
  let c0_i32_1351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_100 : BitVec 32 := 1#32
  let v175 : BitVec 32 := Scalar.subi v69 c1_i32_100
  let c4_i32_101 : BitVec 32 := 4#32
  let c0_i32_102 : BitVec 32 := 0#32
  let v176 : BitVec 1 := Scalar.cmpi .eq c4_i32_101 c0_i32_102
  let c1_i32_103 : BitVec 32 := 1#32
  let v177 : BitVec 32 := Scalar.select v176 c1_i32_103 c4_i32_101
  let v178 : BitVec 32 := Scalar.remsi v175 v177
  let c0_i32_105 : BitVec 32 := 0#32
  let v180 : BitVec 1 := Scalar.cmpi .slt v178 c0_i32_105
  let c0_i32_106 : BitVec 32 := 0#32
  let v181 : BitVec 1 := Scalar.cmpi .slt v177 c0_i32_106
  let v182 : BitVec 1 := Scalar.xori v180 v181
  let c0_i32_104 : BitVec 32 := 0#32
  let v179 : BitVec 1 := Scalar.cmpi .ne v178 c0_i32_104
  let v183 : BitVec 1 := Scalar.andi v182 v179
  let v184 : BitVec 32 := Scalar.addi v178 v177
  let v185 : BitVec 32 := Scalar.select v183 v184 v178
  let c1_i32_107 : BitVec 32 := 1#32
  let v186 : BitVec 1 := Scalar.cmpi .eq v185 c1_i32_107
  let c2_i32_113 : BitVec 32 := 2#32
  let c2_i32_108 : BitVec 32 := 2#32
  let v187 : BitVec 1 := Scalar.cmpi .eq v185 c2_i32_108
  let c3_i32_112 : BitVec 32 := 3#32
  let c3_i32_109 : BitVec 32 := 3#32
  let v188 : BitVec 1 := Scalar.cmpi .eq v185 c3_i32_109
  let c1_i32_110 : BitVec 32 := 1#32
  let c0_i32_111 : BitVec 32 := 0#32
  let v189 : BitVec 32 := Scalar.select v188 c1_i32_110 c0_i32_111
  let v190 : BitVec 32 := Scalar.select v187 c3_i32_112 v189
  let v191 : BitVec 32 := Scalar.select v186 c2_i32_113 v190
  let c8_i32_114 : BitVec 32 := 8#32
  let v192 : BitVec 32 := Scalar.muli v191 c8_i32_114
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_1350 : BitVec 32 := 1#32
  let v1650 : BitVec 32 := Scalar.muli v193 c1_i32_1350
  let v1651 : BitVec 32 := Scalar.addi c0_i32_1351 v1650
  v1651.toNat
def k0_dev51 (d0 : Dev nD) : Nat :=
  let c0_i32_1425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_85 : BitVec 32 := 1#32
  let v156 : BitVec 32 := Scalar.addi v69 c1_i32_85
  let c4_i32_86 : BitVec 32 := 4#32
  let c0_i32_87 : BitVec 32 := 0#32
  let v157 : BitVec 1 := Scalar.cmpi .eq c4_i32_86 c0_i32_87
  let c1_i32_88 : BitVec 32 := 1#32
  let v158 : BitVec 32 := Scalar.select v157 c1_i32_88 c4_i32_86
  let v159 : BitVec 32 := Scalar.remsi v156 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let c1_i32_92 : BitVec 32 := 1#32
  let v167 : BitVec 1 := Scalar.cmpi .eq v166 c1_i32_92
  let c2_i32_98 : BitVec 32 := 2#32
  let c2_i32_93 : BitVec 32 := 2#32
  let v168 : BitVec 1 := Scalar.cmpi .eq v166 c2_i32_93
  let c3_i32_97 : BitVec 32 := 3#32
  let c3_i32_94 : BitVec 32 := 3#32
  let v169 : BitVec 1 := Scalar.cmpi .eq v166 c3_i32_94
  let c1_i32_95 : BitVec 32 := 1#32
  let c0_i32_96 : BitVec 32 := 0#32
  let v170 : BitVec 32 := Scalar.select v169 c1_i32_95 c0_i32_96
  let v171 : BitVec 32 := Scalar.select v168 c3_i32_97 v170
  let v172 : BitVec 32 := Scalar.select v167 c2_i32_98 v171
  let c8_i32_99 : BitVec 32 := 8#32
  let v173 : BitVec 32 := Scalar.muli v172 c8_i32_99
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v174 : BitVec 32 := Scalar.addi v173 v29
  let c1_i32_1424 : BitVec 32 := 1#32
  let v1732 : BitVec 32 := Scalar.muli v174 c1_i32_1424
  let v1733 : BitVec 32 := Scalar.addi c0_i32_1425 v1732
  v1733.toNat
def k0_dev52 (d0 : Dev nD) : Nat :=
  let c0_i32_1459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_27 : BitVec 32 := 1#32
  let v64 : BitVec 1 := Scalar.cmpi .eq v19 c1_i32_27
  let c3_i32_32 : BitVec 32 := 3#32
  let c2_i32_28 : BitVec 32 := 2#32
  let v65 : BitVec 1 := Scalar.cmpi .eq v19 c2_i32_28
  let c1_i32_31 : BitVec 32 := 1#32
  let c3_i32 : BitVec 32 := 3#32
  let v66 : BitVec 1 := Scalar.cmpi .eq v19 c3_i32
  let c2_i32_29 : BitVec 32 := 2#32
  let c0_i32_30 : BitVec 32 := 0#32
  let v67 : BitVec 32 := Scalar.select v66 c2_i32_29 c0_i32_30
  let v68 : BitVec 32 := Scalar.select v65 c1_i32_31 v67
  let v69 : BitVec 32 := Scalar.select v64 c3_i32_32 v68
  let c1_i32_100 : BitVec 32 := 1#32
  let v175 : BitVec 32 := Scalar.subi v69 c1_i32_100
  let c4_i32_101 : BitVec 32 := 4#32
  let c0_i32_102 : BitVec 32 := 0#32
  let v176 : BitVec 1 := Scalar.cmpi .eq c4_i32_101 c0_i32_102
  let c1_i32_103 : BitVec 32 := 1#32
  let v177 : BitVec 32 := Scalar.select v176 c1_i32_103 c4_i32_101
  let v178 : BitVec 32 := Scalar.remsi v175 v177
  let c0_i32_105 : BitVec 32 := 0#32
  let v180 : BitVec 1 := Scalar.cmpi .slt v178 c0_i32_105
  let c0_i32_106 : BitVec 32 := 0#32
  let v181 : BitVec 1 := Scalar.cmpi .slt v177 c0_i32_106
  let v182 : BitVec 1 := Scalar.xori v180 v181
  let c0_i32_104 : BitVec 32 := 0#32
  let v179 : BitVec 1 := Scalar.cmpi .ne v178 c0_i32_104
  let v183 : BitVec 1 := Scalar.andi v182 v179
  let v184 : BitVec 32 := Scalar.addi v178 v177
  let v185 : BitVec 32 := Scalar.select v183 v184 v178
  let c1_i32_107 : BitVec 32 := 1#32
  let v186 : BitVec 1 := Scalar.cmpi .eq v185 c1_i32_107
  let c2_i32_113 : BitVec 32 := 2#32
  let c2_i32_108 : BitVec 32 := 2#32
  let v187 : BitVec 1 := Scalar.cmpi .eq v185 c2_i32_108
  let c3_i32_112 : BitVec 32 := 3#32
  let c3_i32_109 : BitVec 32 := 3#32
  let v188 : BitVec 1 := Scalar.cmpi .eq v185 c3_i32_109
  let c1_i32_110 : BitVec 32 := 1#32
  let c0_i32_111 : BitVec 32 := 0#32
  let v189 : BitVec 32 := Scalar.select v188 c1_i32_110 c0_i32_111
  let v190 : BitVec 32 := Scalar.select v187 c3_i32_112 v189
  let v191 : BitVec 32 := Scalar.select v186 c2_i32_113 v190
  let c8_i32_114 : BitVec 32 := 8#32
  let v192 : BitVec 32 := Scalar.muli v191 c8_i32_114
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_1458 : BitVec 32 := 1#32
  let v1778 : BitVec 32 := Scalar.muli v193 c1_i32_1458
  let v1779 : BitVec 32 := Scalar.addi c0_i32_1459 v1778
  v1779.toNat
def k0_off13 (d0 : Dev nD) (c0_i32_1504 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_1503 : BitVec 32 := 1#32
  let v1823 : BitVec 32 := Scalar.addi v63 c1_i32_1503
  let v1824 : BitVec 32 := Scalar.subi v1823 c0_i32_1504
  let c8_i32_1505 : BitVec 32 := 8#32
  let c0_i32_1506 : BitVec 32 := 0#32
  let v1825 : BitVec 1 := Scalar.cmpi .eq c8_i32_1505 c0_i32_1506
  let c1_i32_1507 : BitVec 32 := 1#32
  let v1826 : BitVec 32 := Scalar.select v1825 c1_i32_1507 c8_i32_1505
  let v1827 : BitVec 32 := Scalar.remsi v1824 v1826
  let c0_i32_1509 : BitVec 32 := 0#32
  let v1829 : BitVec 1 := Scalar.cmpi .slt v1827 c0_i32_1509
  let c0_i32_1510 : BitVec 32 := 0#32
  let v1830 : BitVec 1 := Scalar.cmpi .slt v1826 c0_i32_1510
  let v1831 : BitVec 1 := Scalar.xori v1829 v1830
  let c0_i32_1508 : BitVec 32 := 0#32
  let v1828 : BitVec 1 := Scalar.cmpi .ne v1827 c0_i32_1508
  let v1832 : BitVec 1 := Scalar.andi v1831 v1828
  let v1833 : BitVec 32 := Scalar.addi v1827 v1826
  let v1834 : BitVec 32 := Scalar.select v1832 v1833 v1827
  let c128_i32_1520 : BitVec 32 := 128#32
  let v1846 : BitVec 32 := Scalar.muli v1834 c128_i32_1520
  let c0_i32_1528 : BitVec 32 := 0#32
  ![v1846.toNat, 0]
def k0_dev53 (d0 : Dev nD) : Nat :=
  let c0_i32_1525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_1524 : BitVec 32 := 1#32
  let v1847 : BitVec 32 := Scalar.muli v112 c1_i32_1524
  let v1848 : BitVec 32 := Scalar.addi c0_i32_1525 v1847
  v1848.toNat
def k0_off14 (d0 : Dev nD) (c0_i32_1530 : BitVec 32) : Fin 2 → Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let v209 : BitVec 32 := Scalar.subi c0_i32_133 v63
  let c8_i32_134 : BitVec 32 := 8#32
  let c0_i32_135 : BitVec 32 := 0#32
  let v210 : BitVec 1 := Scalar.cmpi .eq c8_i32_134 c0_i32_135
  let c1_i32_136 : BitVec 32 := 1#32
  let v211 : BitVec 32 := Scalar.select v210 c1_i32_136 c8_i32_134
  let v212 : BitVec 32 := Scalar.remsi v209 v211
  let c0_i32_138 : BitVec 32 := 0#32
  let v214 : BitVec 1 := Scalar.cmpi .slt v212 c0_i32_138
  let c0_i32_139 : BitVec 32 := 0#32
  let v215 : BitVec 1 := Scalar.cmpi .slt v211 c0_i32_139
  let v216 : BitVec 1 := Scalar.xori v214 v215
  let c0_i32_137 : BitVec 32 := 0#32
  let v213 : BitVec 1 := Scalar.cmpi .ne v212 c0_i32_137
  let v217 : BitVec 1 := Scalar.andi v216 v213
  let v218 : BitVec 32 := Scalar.addi v212 v211
  let v219 : BitVec 32 := Scalar.select v217 v218 v212
  let c1_i32_1529 : BitVec 32 := 1#32
  let v1856 : BitVec 32 := Scalar.addi v219 c1_i32_1529
  let v1857 : BitVec 32 := Scalar.subi v1856 c0_i32_1530
  let c8_i32_1531 : BitVec 32 := 8#32
  let c0_i32_1532 : BitVec 32 := 0#32
  let v1858 : BitVec 1 := Scalar.cmpi .eq c8_i32_1531 c0_i32_1532
  let c1_i32_1533 : BitVec 32 := 1#32
  let v1859 : BitVec 32 := Scalar.select v1858 c1_i32_1533 c8_i32_1531
  let v1860 : BitVec 32 := Scalar.remsi v1857 v1859
  let c0_i32_1535 : BitVec 32 := 0#32
  let v1862 : BitVec 1 := Scalar.cmpi .slt v1860 c0_i32_1535
  let c0_i32_1536 : BitVec 32 := 0#32
  let v1863 : BitVec 1 := Scalar.cmpi .slt v1859 c0_i32_1536
  let v1864 : BitVec 1 := Scalar.xori v1862 v1863
  let c0_i32_1534 : BitVec 32 := 0#32
  let v1861 : BitVec 1 := Scalar.cmpi .ne v1860 c0_i32_1534
  let v1865 : BitVec 1 := Scalar.andi v1864 v1861
  let v1866 : BitVec 32 := Scalar.addi v1860 v1859
  let v1867 : BitVec 32 := Scalar.select v1865 v1866 v1860
  let c128_i32_1546 : BitVec 32 := 128#32
  let v1879 : BitVec 32 := Scalar.muli v1867 c128_i32_1546
  let c512_i32_1554 : BitVec 32 := 512#32
  ![v1879.toNat, 512]
def k0_dev54 (d0 : Dev nD) : Nat :=
  let c0_i32_1551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_1550 : BitVec 32 := 1#32
  let v1880 : BitVec 32 := Scalar.muli v155 c1_i32_1550
  let v1881 : BitVec 32 := Scalar.addi c0_i32_1551 v1880
  v1881.toNat
def k0_off15 (d0 : Dev nD) (c0_i32_1511 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let v1835 : BitVec 32 := Scalar.subi v63 c0_i32_1511
  let c8_i32_1512 : BitVec 32 := 8#32
  let c0_i32_1513 : BitVec 32 := 0#32
  let v1836 : BitVec 1 := Scalar.cmpi .eq c8_i32_1512 c0_i32_1513
  let c1_i32_1514 : BitVec 32 := 1#32
  let v1837 : BitVec 32 := Scalar.select v1836 c1_i32_1514 c8_i32_1512
  let v1838 : BitVec 32 := Scalar.remsi v1835 v1837
  let c0_i32_1516 : BitVec 32 := 0#32
  let v1840 : BitVec 1 := Scalar.cmpi .slt v1838 c0_i32_1516
  let c0_i32_1517 : BitVec 32 := 0#32
  let v1841 : BitVec 1 := Scalar.cmpi .slt v1837 c0_i32_1517
  let v1842 : BitVec 1 := Scalar.xori v1840 v1841
  let c0_i32_1515 : BitVec 32 := 0#32
  let v1839 : BitVec 1 := Scalar.cmpi .ne v1838 c0_i32_1515
  let v1843 : BitVec 1 := Scalar.andi v1842 v1839
  let v1844 : BitVec 32 := Scalar.addi v1838 v1837
  let v1845 : BitVec 32 := Scalar.select v1843 v1844 v1838
  let c128_i32_1570 : BitVec 32 := 128#32
  let v1901 : BitVec 32 := Scalar.muli v1845 c128_i32_1570
  let v1904 : Index := Scalar.indexCast v1901
  let c0_1574 : Index := 0#32
  ![v1904.toNat, 0]
def k0_dev55 (d0 : Dev nD) : Nat :=
  let c0_i32_1577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_1576 : BitVec 32 := 1#32
  let v1906 : BitVec 32 := Scalar.muli v155 c1_i32_1576
  let v1907 : BitVec 32 := Scalar.addi c0_i32_1577 v1906
  v1907.toNat
def k0_off16 (d0 : Dev nD) (c0_i32_1537 : BitVec 32) : Fin 2 → Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let v209 : BitVec 32 := Scalar.subi c0_i32_133 v63
  let c8_i32_134 : BitVec 32 := 8#32
  let c0_i32_135 : BitVec 32 := 0#32
  let v210 : BitVec 1 := Scalar.cmpi .eq c8_i32_134 c0_i32_135
  let c1_i32_136 : BitVec 32 := 1#32
  let v211 : BitVec 32 := Scalar.select v210 c1_i32_136 c8_i32_134
  let v212 : BitVec 32 := Scalar.remsi v209 v211
  let c0_i32_138 : BitVec 32 := 0#32
  let v214 : BitVec 1 := Scalar.cmpi .slt v212 c0_i32_138
  let c0_i32_139 : BitVec 32 := 0#32
  let v215 : BitVec 1 := Scalar.cmpi .slt v211 c0_i32_139
  let v216 : BitVec 1 := Scalar.xori v214 v215
  let c0_i32_137 : BitVec 32 := 0#32
  let v213 : BitVec 1 := Scalar.cmpi .ne v212 c0_i32_137
  let v217 : BitVec 1 := Scalar.andi v216 v213
  let v218 : BitVec 32 := Scalar.addi v212 v211
  let v219 : BitVec 32 := Scalar.select v217 v218 v212
  let v1868 : BitVec 32 := Scalar.subi v219 c0_i32_1537
  let c8_i32_1538 : BitVec 32 := 8#32
  let c0_i32_1539 : BitVec 32 := 0#32
  let v1869 : BitVec 1 := Scalar.cmpi .eq c8_i32_1538 c0_i32_1539
  let c1_i32_1540 : BitVec 32 := 1#32
  let v1870 : BitVec 32 := Scalar.select v1869 c1_i32_1540 c8_i32_1538
  let v1871 : BitVec 32 := Scalar.remsi v1868 v1870
  let c0_i32_1542 : BitVec 32 := 0#32
  let v1873 : BitVec 1 := Scalar.cmpi .slt v1871 c0_i32_1542
  let c0_i32_1543 : BitVec 32 := 0#32
  let v1874 : BitVec 1 := Scalar.cmpi .slt v1870 c0_i32_1543
  let v1875 : BitVec 1 := Scalar.xori v1873 v1874
  let c0_i32_1541 : BitVec 32 := 0#32
  let v1872 : BitVec 1 := Scalar.cmpi .ne v1871 c0_i32_1541
  let v1876 : BitVec 1 := Scalar.andi v1875 v1872
  let v1877 : BitVec 32 := Scalar.addi v1871 v1870
  let v1878 : BitVec 32 := Scalar.select v1876 v1877 v1871
  let c128_i32_1593 : BitVec 32 := 128#32
  let v1920 : BitVec 32 := Scalar.muli v1878 c128_i32_1593
  let v1923 : Index := Scalar.indexCast v1920
  let c512_1597 : Index := 512#32
  ![v1923.toNat, 512]
def k0_dev56 (d0 : Dev nD) : Nat :=
  let c0_i32_1600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_1599 : BitVec 32 := 1#32
  let v1925 : BitVec 32 := Scalar.muli v112 c1_i32_1599
  let v1926 : BitVec 32 := Scalar.addi c0_i32_1600 v1925
  v1926.toNat
def k0_dev57 (d0 : Dev nD) : Nat :=
  let c0_i32_1623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_1622 : BitVec 32 := 1#32
  let v1951 : BitVec 32 := Scalar.muli v112 c1_i32_1622
  let v1952 : BitVec 32 := Scalar.addi c0_i32_1623 v1951
  v1952.toNat
def k0_dev58 (d0 : Dev nD) : Nat :=
  let c0_i32_1649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_1648 : BitVec 32 := 1#32
  let v1984 : BitVec 32 := Scalar.muli v155 c1_i32_1648
  let v1985 : BitVec 32 := Scalar.addi c0_i32_1649 v1984
  v1985.toNat
def k0_dev59 (d0 : Dev nD) : Nat :=
  let c0_i32_1675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_1674 : BitVec 32 := 1#32
  let v2010 : BitVec 32 := Scalar.muli v155 c1_i32_1674
  let v2011 : BitVec 32 := Scalar.addi c0_i32_1675 v2010
  v2011.toNat
def k0_dev60 (d0 : Dev nD) : Nat :=
  let c0_i32_1698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_1697 : BitVec 32 := 1#32
  let v2029 : BitVec 32 := Scalar.muli v112 c1_i32_1697
  let v2030 : BitVec 32 := Scalar.addi c0_i32_1698 v2029
  v2030.toNat
def k0_dev61 (d0 : Dev nD) : Nat :=
  let c0_i32_1721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_1720 : BitVec 32 := 1#32
  let v2055 : BitVec 32 := Scalar.muli v112 c1_i32_1720
  let v2056 : BitVec 32 := Scalar.addi c0_i32_1721 v2055
  v2056.toNat
def k0_dev62 (d0 : Dev nD) : Nat :=
  let c0_i32_1747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_1746 : BitVec 32 := 1#32
  let v2088 : BitVec 32 := Scalar.muli v155 c1_i32_1746
  let v2089 : BitVec 32 := Scalar.addi c0_i32_1747 v2088
  v2089.toNat
def k0_dev63 (d0 : Dev nD) : Nat :=
  let c0_i32_1773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_1772 : BitVec 32 := 1#32
  let v2114 : BitVec 32 := Scalar.muli v155 c1_i32_1772
  let v2115 : BitVec 32 := Scalar.addi c0_i32_1773 v2114
  v2115.toNat
def k0_dev64 (d0 : Dev nD) : Nat :=
  let c0_i32_1796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_1795 : BitVec 32 := 1#32
  let v2133 : BitVec 32 := Scalar.muli v112 c1_i32_1795
  let v2134 : BitVec 32 := Scalar.addi c0_i32_1796 v2133
  v2134.toNat
def k0_dev65 (d0 : Dev nD) : Nat :=
  let c0_i32_1819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_1818 : BitVec 32 := 1#32
  let v2159 : BitVec 32 := Scalar.muli v112 c1_i32_1818
  let v2160 : BitVec 32 := Scalar.addi c0_i32_1819 v2159
  v2160.toNat
def k0_dev66 (d0 : Dev nD) : Nat :=
  let c0_i32_1845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_1844 : BitVec 32 := 1#32
  let v2192 : BitVec 32 := Scalar.muli v155 c1_i32_1844
  let v2193 : BitVec 32 := Scalar.addi c0_i32_1845 v2192
  v2193.toNat
def k0_dev67 (d0 : Dev nD) : Nat :=
  let c0_i32_1871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_1870 : BitVec 32 := 1#32
  let v2218 : BitVec 32 := Scalar.muli v155 c1_i32_1870
  let v2219 : BitVec 32 := Scalar.addi c0_i32_1871 v2218
  v2219.toNat
def k0_dev68 (d0 : Dev nD) : Nat :=
  let c0_i32_1894 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_1893 : BitVec 32 := 1#32
  let v2237 : BitVec 32 := Scalar.muli v112 c1_i32_1893
  let v2238 : BitVec 32 := Scalar.addi c0_i32_1894 v2237
  v2238.toNat
def k0_dev69 (d0 : Dev nD) : Nat :=
  let c0_i32_1917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_1916 : BitVec 32 := 1#32
  let v2263 : BitVec 32 := Scalar.muli v112 c1_i32_1916
  let v2264 : BitVec 32 := Scalar.addi c0_i32_1917 v2263
  v2264.toNat
def k0_dev70 (d0 : Dev nD) : Nat :=
  let c0_i32_1943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_1942 : BitVec 32 := 1#32
  let v2296 : BitVec 32 := Scalar.muli v155 c1_i32_1942
  let v2297 : BitVec 32 := Scalar.addi c0_i32_1943 v2296
  v2297.toNat
def k0_dev71 (d0 : Dev nD) : Nat :=
  let c0_i32_1969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_1968 : BitVec 32 := 1#32
  let v2322 : BitVec 32 := Scalar.muli v155 c1_i32_1968
  let v2323 : BitVec 32 := Scalar.addi c0_i32_1969 v2322
  v2323.toNat
def k0_dev72 (d0 : Dev nD) : Nat :=
  let c0_i32_1992 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_1991 : BitVec 32 := 1#32
  let v2341 : BitVec 32 := Scalar.muli v112 c1_i32_1991
  let v2342 : BitVec 32 := Scalar.addi c0_i32_1992 v2341
  v2342.toNat
def k0_dev73 (d0 : Dev nD) : Nat :=
  let c0_i32_2015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_2014 : BitVec 32 := 1#32
  let v2367 : BitVec 32 := Scalar.muli v112 c1_i32_2014
  let v2368 : BitVec 32 := Scalar.addi c0_i32_2015 v2367
  v2368.toNat
def k0_dev74 (d0 : Dev nD) : Nat :=
  let c0_i32_2041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_2040 : BitVec 32 := 1#32
  let v2400 : BitVec 32 := Scalar.muli v155 c1_i32_2040
  let v2401 : BitVec 32 := Scalar.addi c0_i32_2041 v2400
  v2401.toNat
def k0_dev75 (d0 : Dev nD) : Nat :=
  let c0_i32_2107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_58 : BitVec 32 := 8#32
  let v111 : BitVec 32 := Scalar.muli v19 c8_i32_58
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_33 : BitVec 32 := 1#32
  let v70 : BitVec 32 := Scalar.addi v63 c1_i32_33
  let c8_i32_34 : BitVec 32 := 8#32
  let c0_i32_35 : BitVec 32 := 0#32
  let v71 : BitVec 1 := Scalar.cmpi .eq c8_i32_34 c0_i32_35
  let c1_i32_36 : BitVec 32 := 1#32
  let v72 : BitVec 32 := Scalar.select v71 c1_i32_36 c8_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c4_i32_42 : BitVec 32 := 4#32
  let v84 : BitVec 1 := Scalar.cmpi .slt v80 c4_i32_42
  let c2_i32_43 : BitVec 32 := 2#32
  let c4_i32_40 : BitVec 32 := 4#32
  let v81 : BitVec 1 := Scalar.cmpi .slt v80 c4_i32_40
  let c7_i32_41 : BitVec 32 := 7#32
  let v82 : BitVec 32 := Scalar.subi c7_i32_41 v80
  let v83 : BitVec 32 := Scalar.select v81 v80 v82
  let v85 : BitVec 32 := Scalar.muli c2_i32_43 v83
  let c2_i32_44 : BitVec 32 := 2#32
  let c0_i32_45 : BitVec 32 := 0#32
  let v86 : BitVec 1 := Scalar.cmpi .eq c2_i32_44 c0_i32_45
  let c1_i32_46 : BitVec 32 := 1#32
  let v87 : BitVec 32 := Scalar.select v86 c1_i32_46 c2_i32_44
  let v88 : BitVec 32 := Scalar.remsi v83 v87
  let c0_i32_48 : BitVec 32 := 0#32
  let v90 : BitVec 1 := Scalar.cmpi .slt v88 c0_i32_48
  let c0_i32_49 : BitVec 32 := 0#32
  let v91 : BitVec 1 := Scalar.cmpi .slt v87 c0_i32_49
  let v92 : BitVec 1 := Scalar.xori v90 v91
  let c0_i32_47 : BitVec 32 := 0#32
  let v89 : BitVec 1 := Scalar.cmpi .ne v88 c0_i32_47
  let v93 : BitVec 1 := Scalar.andi v92 v89
  let v94 : BitVec 32 := Scalar.addi v88 v87
  let v95 : BitVec 32 := Scalar.select v93 v94 v88
  let v96 : BitVec 32 := Scalar.addi v85 v95
  let c2_i32_50 : BitVec 32 := 2#32
  let v97 : BitVec 32 := Scalar.muli c2_i32_50 v83
  let c1_i32_51 : BitVec 32 := 1#32
  let v98 : BitVec 32 := Scalar.addi v97 c1_i32_51
  let c2_i32_52 : BitVec 32 := 2#32
  let c0_i32_53 : BitVec 32 := 0#32
  let v99 : BitVec 1 := Scalar.cmpi .eq c2_i32_52 c0_i32_53
  let c1_i32_54 : BitVec 32 := 1#32
  let v100 : BitVec 32 := Scalar.select v99 c1_i32_54 c2_i32_52
  let v101 : BitVec 32 := Scalar.remsi v83 v100
  let c0_i32_56 : BitVec 32 := 0#32
  let v103 : BitVec 1 := Scalar.cmpi .slt v101 c0_i32_56
  let c0_i32_57 : BitVec 32 := 0#32
  let v104 : BitVec 1 := Scalar.cmpi .slt v100 c0_i32_57
  let v105 : BitVec 1 := Scalar.xori v103 v104
  let c0_i32_55 : BitVec 32 := 0#32
  let v102 : BitVec 1 := Scalar.cmpi .ne v101 c0_i32_55
  let v106 : BitVec 1 := Scalar.andi v105 v102
  let v107 : BitVec 32 := Scalar.addi v101 v100
  let v108 : BitVec 32 := Scalar.select v106 v107 v101
  let v109 : BitVec 32 := Scalar.subi v98 v108
  let v110 : BitVec 32 := Scalar.select v84 v96 v109
  let v112 : BitVec 32 := Scalar.addi v111 v110
  let c1_i32_2106 : BitVec 32 := 1#32
  let v2467 : BitVec 32 := Scalar.muli v112 c1_i32_2106
  let v2468 : BitVec 32 := Scalar.addi c0_i32_2107 v2467
  v2468.toNat
def k0_dev76 (d0 : Dev nD) : Nat :=
  let c0_i32_2133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_84 : BitVec 32 := 8#32
  let v154 : BitVec 32 := Scalar.muli v19 c8_i32_84
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c0_i32_26 : BitVec 32 := 0#32
  let v61 : BitVec 1 := Scalar.cmpi .eq v60 c0_i32_26
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c7_i32 : BitVec 32 := 7#32
  let v62 : BitVec 32 := Scalar.subi c7_i32 v46
  let v63 : BitVec 32 := Scalar.select v61 v46 v62
  let c1_i32_59 : BitVec 32 := 1#32
  let v113 : BitVec 32 := Scalar.subi v63 c1_i32_59
  let c8_i32_60 : BitVec 32 := 8#32
  let c0_i32_61 : BitVec 32 := 0#32
  let v114 : BitVec 1 := Scalar.cmpi .eq c8_i32_60 c0_i32_61
  let c1_i32_62 : BitVec 32 := 1#32
  let v115 : BitVec 32 := Scalar.select v114 c1_i32_62 c8_i32_60
  let v116 : BitVec 32 := Scalar.remsi v113 v115
  let c0_i32_64 : BitVec 32 := 0#32
  let v118 : BitVec 1 := Scalar.cmpi .slt v116 c0_i32_64
  let c0_i32_65 : BitVec 32 := 0#32
  let v119 : BitVec 1 := Scalar.cmpi .slt v115 c0_i32_65
  let v120 : BitVec 1 := Scalar.xori v118 v119
  let c0_i32_63 : BitVec 32 := 0#32
  let v117 : BitVec 1 := Scalar.cmpi .ne v116 c0_i32_63
  let v121 : BitVec 1 := Scalar.andi v120 v117
  let v122 : BitVec 32 := Scalar.addi v116 v115
  let v123 : BitVec 32 := Scalar.select v121 v122 v116
  let c4_i32_68 : BitVec 32 := 4#32
  let v127 : BitVec 1 := Scalar.cmpi .slt v123 c4_i32_68
  let c2_i32_69 : BitVec 32 := 2#32
  let c4_i32_66 : BitVec 32 := 4#32
  let v124 : BitVec 1 := Scalar.cmpi .slt v123 c4_i32_66
  let c7_i32_67 : BitVec 32 := 7#32
  let v125 : BitVec 32 := Scalar.subi c7_i32_67 v123
  let v126 : BitVec 32 := Scalar.select v124 v123 v125
  let v128 : BitVec 32 := Scalar.muli c2_i32_69 v126
  let c2_i32_70 : BitVec 32 := 2#32
  let c0_i32_71 : BitVec 32 := 0#32
  let v129 : BitVec 1 := Scalar.cmpi .eq c2_i32_70 c0_i32_71
  let c1_i32_72 : BitVec 32 := 1#32
  let v130 : BitVec 32 := Scalar.select v129 c1_i32_72 c2_i32_70
  let v131 : BitVec 32 := Scalar.remsi v126 v130
  let c0_i32_74 : BitVec 32 := 0#32
  let v133 : BitVec 1 := Scalar.cmpi .slt v131 c0_i32_74
  let c0_i32_75 : BitVec 32 := 0#32
  let v134 : BitVec 1 := Scalar.cmpi .slt v130 c0_i32_75
  let v135 : BitVec 1 := Scalar.xori v133 v134
  let c0_i32_73 : BitVec 32 := 0#32
  let v132 : BitVec 1 := Scalar.cmpi .ne v131 c0_i32_73
  let v136 : BitVec 1 := Scalar.andi v135 v132
  let v137 : BitVec 32 := Scalar.addi v131 v130
  let v138 : BitVec 32 := Scalar.select v136 v137 v131
  let v139 : BitVec 32 := Scalar.addi v128 v138
  let c2_i32_76 : BitVec 32 := 2#32
  let v140 : BitVec 32 := Scalar.muli c2_i32_76 v126
  let c1_i32_77 : BitVec 32 := 1#32
  let v141 : BitVec 32 := Scalar.addi v140 c1_i32_77
  let c2_i32_78 : BitVec 32 := 2#32
  let c0_i32_79 : BitVec 32 := 0#32
  let v142 : BitVec 1 := Scalar.cmpi .eq c2_i32_78 c0_i32_79
  let c1_i32_80 : BitVec 32 := 1#32
  let v143 : BitVec 32 := Scalar.select v142 c1_i32_80 c2_i32_78
  let v144 : BitVec 32 := Scalar.remsi v126 v143
  let c0_i32_82 : BitVec 32 := 0#32
  let v146 : BitVec 1 := Scalar.cmpi .slt v144 c0_i32_82
  let c0_i32_83 : BitVec 32 := 0#32
  let v147 : BitVec 1 := Scalar.cmpi .slt v143 c0_i32_83
  let v148 : BitVec 1 := Scalar.xori v146 v147
  let c0_i32_81 : BitVec 32 := 0#32
  let v145 : BitVec 1 := Scalar.cmpi .ne v144 c0_i32_81
  let v149 : BitVec 1 := Scalar.andi v148 v145
  let v150 : BitVec 32 := Scalar.addi v144 v143
  let v151 : BitVec 32 := Scalar.select v149 v150 v144
  let v152 : BitVec 32 := Scalar.subi v141 v151
  let v153 : BitVec 32 := Scalar.select v127 v139 v152
  let v155 : BitVec 32 := Scalar.addi v154 v153
  let c1_i32_2132 : BitVec 32 := 1#32
  let v2500 : BitVec 32 := Scalar.muli v155 c1_i32_2132
  let v2501 : BitVec 32 := Scalar.addi c0_i32_2133 v2500
  v2501.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x16384 : Shape := ⟨2, ![1024, 16384]⟩
abbrev S16384x1024 : Shape := ⟨2, ![16384, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S16384x1024, .f32⟩
  | .hbm, ⟨2, _⟩ => ⟨S1024x1024, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Rings.lean ====
/-
# The two rings of the mesh, and the kernel's body as one list of ring steps

Thirty-two devices stand on a torus of eight by four: a device has a position `posP` on its plane's ring of eight and a
position `posZ` on its column's ring of four. The kernel sends two streams round each ring, `r` in the direction of
rising positions and `l` against it. This module names the rings, the streams, the neighbours, the blocks of the result
which a step sends and receives, and writes the kernel's body as a list of twenty ring steps, each the same few lines.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.Hier

open Cert.KernelIdeal Cert.KernelIdeal.Gen
open Idealize.ShloMosaic
open Idealize.SL.Sem

/-- The two kinds of ring: the eight devices of a plane (`P`), the four of a column (`Z`). -/
inductive Ring | P | Z
  deriving DecidableEq

instance : Fintype Ring := ⟨{.P, .Z}, fun x => by cases x <;> decide⟩

/-- The two streams round a ring: towards rising positions (`r`), towards falling ones (`l`). -/
inductive Dir | r | l
  deriving DecidableEq

instance : Fintype Dir := ⟨{.r, .l}, fun x => by cases x <;> decide⟩

/-- The other stream. -/
def Dir.flip : Dir → Dir
  | .r => .l
  | .l => .r

/-! ## Positions and neighbours -/

/-- A device's position on its plane's ring. -/
def posP (c : Dev nD) : ℕ :=
  if c.val % 4 = 1 ∨ c.val % 4 = 2 then 7 - c.val % 8 / 2 else c.val % 8 / 2

/-- A device's position on its column's ring: the levels 0, 1, 2, 3 stand at 0, 3, 1, 2. -/
def posZ (c : Dev nD) : ℕ :=
  match c.val / 8 with
  | 0 => 0
  | 1 => 3
  | 2 => 1
  | _ => 2

/-- The level at a position of the column's ring. -/
def levelAt : ℕ → ℕ
  | 0 => 0
  | 1 => 2
  | 2 => 3
  | _ => 1

/-- The number within its plane of the device at a position of the plane's ring. -/
def planeAt (u : ℕ) : ℕ :=
  if u < 4 then 2 * u + u % 2 else 2 * (7 - u) + (8 - u) % 2

theorem at_lt (u v : ℕ) : 8 * levelAt (v % 4) + planeAt (u % 8) < nD := by
  have hu : u % 8 < 8 := Nat.mod_lt _ (by decide)
  have hv : v % 4 < 4 := Nat.mod_lt _ (by decide)
  generalize u % 8 = a at hu ⊢; generalize v % 4 = b at hv ⊢
  have : ∀ a < 8, ∀ b < 4, 8 * levelAt b + planeAt a < 32 := by decide
  exact this a hu b hv

/-- The device at plane position `u` and column position `v`, both taken round their rings. -/
def devAt (u v : ℕ) : Dev nD := ⟨8 * levelAt (v % 4) + planeAt (u % 8), at_lt u v⟩

/-- The device to which a stream's copies go. -/
def nxt : Ring → Dir → Dev nD → Dev nD
  | .P, .r, c => devAt (posP c + 1) (posZ c)
  | .P, .l, c => devAt (posP c + 7) (posZ c)
  | .Z, .r, c => devAt (posP c) (posZ c + 1)
  | .Z, .l, c => devAt (posP c) (posZ c + 3)

/-- The device from which a stream's copies come. -/
def prv (ρ : Ring) (st : Dir) (c : Dev nD) : Dev nD := nxt ρ st.flip c

theorem nxt_prv (ρ : Ring) (st : Dir) (c : Dev nD) : nxt ρ st (prv ρ st c) = c := by
  revert c; cases ρ <;> cases st <;> decide +kernel

theorem prv_nxt (ρ : Ring) (st : Dir) (c : Dev nD) : prv ρ st (nxt ρ st c) = c := by
  revert c; cases ρ <;> cases st <;> decide +kernel

/-! ## Shapes, blocks and offsets -/

/-- The rows of one block: a plane's step moves an eighth of the rows, a column's step a quarter of that. -/
abbrev rows : Ring → ℕ
  | .P => 128
  | .Z => 32

/-- The number of devices of a ring. -/
abbrev size : Ring → ℕ
  | .P => 8
  | .Z => 4

/-- The steps in which a ring adds; -/
abbrev half : Ring → ℕ
  | .P => 7
  | .Z => 3

/-- and all its steps: those that add and as many that copy finished blocks on. -/
abbrev total : Ring → ℕ
  | .P => 14
  | .Z => 6

/-- One block, as it is sent. -/
abbrev SC (ρ : Ring) : Shape := ⟨2, ![rows ρ, 512]⟩
/-- One slot of a stream's two. -/
abbrev S1C (ρ : Ring) : Shape := ⟨3, ![1, rows ρ, 512]⟩
/-- A stream's two slots. -/
abbrev S2C (ρ : Ring) : Shape := ⟨3, ![2, rows ρ, 512]⟩

/-- A device's position in a stream: counted in the stream's own direction. -/
def pos : Ring → Dir → Dev nD → ℕ
  | .P, .r, c => posP c
  | .P, .l, c => (8 - posP c) % 8
  | .Z, .r, c => posZ c
  | .Z, .l, c => (4 - posZ c) % 4

/-- The first row of the part of the result that a stream of a ring moves: the plane's streams move all of it, the
    column's streams the eighth that the device's plane has finished on it. -/
def base : Ring → Dir → Dev nD → ℕ
  | .P, _, _ => 0
  | .Z, st, c => 128 * ((pos .P st c + 1) % 8)

/-- The first column of a stream's half of the result. -/
abbrev col : Dir → ℕ
  | .r => 0
  | .l => 512

/-- The first row of the block that a device sends at step `s` (and has received at step `s - 1`). -/
def row (ρ : Ring) (st : Dir) (s : ℕ) (c : Dev nD) : ℕ :=
  base ρ st c + rows ρ * ((pos ρ st c + (size ρ * 15 - s)) % size ρ)

/-- Where the block sent at step `s` stands in the result. -/
def sOff (ρ : Ring) (st : Dir) (s : ℕ) (c : Dev nD) : Fin 2 → ℕ := ![row ρ st s c, col st]

/-- Where the block received at step `s` stands in the result. -/
def rOff (ρ : Ring) (st : Dir) (s : ℕ) (c : Dev nD) : Fin 2 → ℕ := ![row ρ st (s + 1) c, col st]

theorem row_le (ρ : Ring) (st : Dir) (s : ℕ) (c : Dev nD) : row ρ st s c + rows ρ ≤ 1024 := by
  unfold row
  cases ρ
  · have := Nat.mod_lt (pos .P st c + (size .P * 15 - s)) (show 0 < size .P by decide)
    simp only [base, rows, size] at *; omega
  · have := Nat.mod_lt (pos .Z st c + (size .Z * 15 - s)) (show 0 < size .Z by decide)
    have h2 := Nat.mod_lt (pos .P st c + 1) (show 0 < 8 by decide)
    simp only [base, rows, size] at *; omega

theorem off_inb (ρ : Ring) (st : Dir) (s : ℕ) (c : Dev nD) :
    ∀ a, (![row ρ st s c, col st] : Fin 2 → ℕ) a + (SC ρ).size a ≤ S1024x1024.size a := by
  intro a
  fin_cases a
  · exact row_le ρ st s c
  · show col st + 512 ≤ 1024
    cases st <;> decide

/-- The block that a device sends at a step is the one that the next device receives. -/
theorem row_nxt (ρ : Ring) (st : Dir) (s : ℕ) (hs : s < total ρ) (c : Dev nD) :
    row ρ st (s + 1) (nxt ρ st c) = row ρ st s c := by
  have h : ∀ c : Dev nD, ∀ s : Fin (total ρ), row ρ st (s.val + 1) (nxt ρ st c) = row ρ st s.val c := by
    cases ρ <;> cases st <;> decide +kernel
  exact h c ⟨s, hs⟩

/-! ## What the program computes of them -/

/-- The device that step `s` of a stream copies to, as the program computes it. -/
def sendDev : Ring → Dir → ℕ → Dev nD → Dev nD
  | .P, .l, 0, c => ⟨k0_dev6 c, k0_dev6_lt c⟩
  | .P, .l, 1, c => ⟨k0_dev10 c, k0_dev10_lt c⟩
  | .P, .l, 2, c => ⟨k0_dev14 c, k0_dev14_lt c⟩
  | .P, .l, 3, c => ⟨k0_dev18 c, k0_dev18_lt c⟩
  | .P, .l, 4, c => ⟨k0_dev22 c, k0_dev22_lt c⟩
  | .P, .l, 5, c => ⟨k0_dev26 c, k0_dev26_lt c⟩
  | .P, .l, 6, c => ⟨k0_dev30 c, k0_dev30_lt c⟩
  | .P, .l, 7, c => ⟨k0_dev54 c, k0_dev54_lt c⟩
  | .P, .l, 8, c => ⟨k0_dev58 c, k0_dev58_lt c⟩
  | .P, .l, 9, c => ⟨k0_dev62 c, k0_dev62_lt c⟩
  | .P, .l, 10, c => ⟨k0_dev66 c, k0_dev66_lt c⟩
  | .P, .l, 11, c => ⟨k0_dev70 c, k0_dev70_lt c⟩
  | .P, .l, 12, c => ⟨k0_dev74 c, k0_dev74_lt c⟩
  | .P, .l, 13, c => ⟨k0_dev76 c, k0_dev76_lt c⟩
  | .P, .r, 0, c => ⟨k0_dev5 c, k0_dev5_lt c⟩
  | .P, .r, 1, c => ⟨k0_dev9 c, k0_dev9_lt c⟩
  | .P, .r, 2, c => ⟨k0_dev13 c, k0_dev13_lt c⟩
  | .P, .r, 3, c => ⟨k0_dev17 c, k0_dev17_lt c⟩
  | .P, .r, 4, c => ⟨k0_dev21 c, k0_dev21_lt c⟩
  | .P, .r, 5, c => ⟨k0_dev25 c, k0_dev25_lt c⟩
  | .P, .r, 6, c => ⟨k0_dev29 c, k0_dev29_lt c⟩
  | .P, .r, 7, c => ⟨k0_dev53 c, k0_dev53_lt c⟩
  | .P, .r, 8, c => ⟨k0_dev57 c, k0_dev57_lt c⟩
  | .P, .r, 9, c => ⟨k0_dev61 c, k0_dev61_lt c⟩
  | .P, .r, 10, c => ⟨k0_dev65 c, k0_dev65_lt c⟩
  | .P, .r, 11, c => ⟨k0_dev69 c, k0_dev69_lt c⟩
  | .P, .r, 12, c => ⟨k0_dev73 c, k0_dev73_lt c⟩
  | .P, .r, 13, c => ⟨k0_dev75 c, k0_dev75_lt c⟩
  | .Z, .l, 0, c => ⟨k0_dev34 c, k0_dev34_lt c⟩
  | .Z, .l, 1, c => ⟨k0_dev38 c, k0_dev38_lt c⟩
  | .Z, .l, 2, c => ⟨k0_dev42 c, k0_dev42_lt c⟩
  | .Z, .l, 3, c => ⟨k0_dev46 c, k0_dev46_lt c⟩
  | .Z, .l, 4, c => ⟨k0_dev50 c, k0_dev50_lt c⟩
  | .Z, .l, 5, c => ⟨k0_dev52 c, k0_dev52_lt c⟩
  | .Z, .r, 0, c => ⟨k0_dev33 c, k0_dev33_lt c⟩
  | .Z, .r, 1, c => ⟨k0_dev37 c, k0_dev37_lt c⟩
  | .Z, .r, 2, c => ⟨k0_dev41 c, k0_dev41_lt c⟩
  | .Z, .r, 3, c => ⟨k0_dev45 c, k0_dev45_lt c⟩
  | .Z, .r, 4, c => ⟨k0_dev49 c, k0_dev49_lt c⟩
  | .Z, .r, 5, c => ⟨k0_dev51 c, k0_dev51_lt c⟩
  | ρ, st, _, c => nxt ρ st c

/-- The device that step `s` of a stream grants a free slot to, as the program computes it. -/
def credDev : Ring → Dir → ℕ → Dev nD → Dev nD
  | .P, .l, 0, c => ⟨k0_dev8 c, k0_dev8_lt c⟩
  | .P, .l, 1, c => ⟨k0_dev12 c, k0_dev12_lt c⟩
  | .P, .l, 2, c => ⟨k0_dev16 c, k0_dev16_lt c⟩
  | .P, .l, 3, c => ⟨k0_dev20 c, k0_dev20_lt c⟩
  | .P, .l, 4, c => ⟨k0_dev24 c, k0_dev24_lt c⟩
  | .P, .l, 5, c => ⟨k0_dev28 c, k0_dev28_lt c⟩
  | .P, .l, 6, c => ⟨k0_dev32 c, k0_dev32_lt c⟩
  | .P, .l, 7, c => ⟨k0_dev56 c, k0_dev56_lt c⟩
  | .P, .l, 8, c => ⟨k0_dev60 c, k0_dev60_lt c⟩
  | .P, .l, 9, c => ⟨k0_dev64 c, k0_dev64_lt c⟩
  | .P, .l, 10, c => ⟨k0_dev68 c, k0_dev68_lt c⟩
  | .P, .l, 11, c => ⟨k0_dev72 c, k0_dev72_lt c⟩
  | .P, .r, 0, c => ⟨k0_dev7 c, k0_dev7_lt c⟩
  | .P, .r, 1, c => ⟨k0_dev11 c, k0_dev11_lt c⟩
  | .P, .r, 2, c => ⟨k0_dev15 c, k0_dev15_lt c⟩
  | .P, .r, 3, c => ⟨k0_dev19 c, k0_dev19_lt c⟩
  | .P, .r, 4, c => ⟨k0_dev23 c, k0_dev23_lt c⟩
  | .P, .r, 5, c => ⟨k0_dev27 c, k0_dev27_lt c⟩
  | .P, .r, 6, c => ⟨k0_dev31 c, k0_dev31_lt c⟩
  | .P, .r, 7, c => ⟨k0_dev55 c, k0_dev55_lt c⟩
  | .P, .r, 8, c => ⟨k0_dev59 c, k0_dev59_lt c⟩
  | .P, .r, 9, c => ⟨k0_dev63 c, k0_dev63_lt c⟩
  | .P, .r, 10, c => ⟨k0_dev67 c, k0_dev67_lt c⟩
  | .P, .r, 11, c => ⟨k0_dev71 c, k0_dev71_lt c⟩
  | .Z, .l, 0, c => ⟨k0_dev36 c, k0_dev36_lt c⟩
  | .Z, .l, 1, c => ⟨k0_dev40 c, k0_dev40_lt c⟩
  | .Z, .l, 2, c => ⟨k0_dev44 c, k0_dev44_lt c⟩
  | .Z, .l, 3, c => ⟨k0_dev48 c, k0_dev48_lt c⟩
  | .Z, .r, 0, c => ⟨k0_dev35 c, k0_dev35_lt c⟩
  | .Z, .r, 1, c => ⟨k0_dev39 c, k0_dev39_lt c⟩
  | .Z, .r, 2, c => ⟨k0_dev43 c, k0_dev43_lt c⟩
  | .Z, .r, 3, c => ⟨k0_dev47 c, k0_dev47_lt c⟩
  | ρ, st, _, c => prv ρ st c

/-- The offset of the block sent at step `s`, as the program computes it; -/
def sendOff : Ring → Dir → ℕ → Dev nD → Fin 2 → ℕ
  | .P, .r, s, c => if s < 7 then k0_off1 c (BitVec.ofNat 32 s) else if s < 14 then k0_off13 c (BitVec.ofNat 32 (s - 7)) else sOff .P .r s c
  | .P, .l, s, c => if s < 7 then k0_off2 c (BitVec.ofNat 32 s) else if s < 14 then k0_off14 c (BitVec.ofNat 32 (s - 7)) else sOff .P .l s c
  | .Z, .r, s, c => if s < 3 then k0_off5 c (BitVec.ofNat 32 s) else if s < 6 then k0_off9 c (BitVec.ofNat 32 (s - 3)) else sOff .Z .r s c
  | .Z, .l, s, c => if s < 3 then k0_off6 c (BitVec.ofNat 32 s) else if s < 6 then k0_off10 c (BitVec.ofNat 32 (s - 3)) else sOff .Z .l s c

/-- and of the block received. -/
def recvOff : Ring → Dir → ℕ → Dev nD → Fin 2 → ℕ
  | .P, .r, s, c => if s < 7 then k0_off3 c (BitVec.ofNat 32 s) else if s < 14 then k0_off15 c (BitVec.ofNat 32 (s - 7)) else rOff .P .r s c
  | .P, .l, s, c => if s < 7 then k0_off4 c (BitVec.ofNat 32 s) else if s < 14 then k0_off16 c (BitVec.ofNat 32 (s - 7)) else rOff .P .l s c
  | .Z, .r, s, c => if s < 3 then k0_off7 c (BitVec.ofNat 32 s) else if s < 6 then k0_off11 c (BitVec.ofNat 32 (s - 3)) else rOff .Z .r s c
  | .Z, .l, s, c => if s < 3 then k0_off8 c (BitVec.ofNat 32 s) else if s < 6 then k0_off12 c (BitVec.ofNat 32 (s - 3)) else rOff .Z .l s c

theorem sendOff_eq : sendOff = sOff := by
  funext ρ st s c
  by_cases hs : s < total ρ
  · have h : ∀ c : Dev nD, ∀ s : Fin (total ρ), sendOff ρ st s.val c = sOff ρ st s.val c := by
      cases ρ <;> cases st <;> decide +kernel
    exact h c ⟨s, hs⟩
  · cases ρ <;> cases st <;> simp only [total] at hs <;> simp only [sendOff] <;>
      rw [if_neg (by omega), if_neg (by omega)]

theorem recvOff_eq : recvOff = rOff := by
  funext ρ st s c
  by_cases hs : s < total ρ
  · have h : ∀ c : Dev nD, ∀ s : Fin (total ρ), recvOff ρ st s.val c = rOff ρ st s.val c := by
      cases ρ <;> cases st <;> decide +kernel
    exact h c ⟨s, hs⟩
  · cases ρ <;> cases st <;> simp only [total] at hs <;> simp only [recvOff] <;>
      rw [if_neg (by omega), if_neg (by omega)]

theorem sendDev_eq (ρ : Ring) (st : Dir) (s : ℕ) (c : Dev nD) : sendDev ρ st s c = nxt ρ st c := by
  by_cases hs : s < total ρ
  · have h : ∀ c : Dev nD, ∀ s : Fin (total ρ), sendDev ρ st s.val c = nxt ρ st c := by
      cases ρ <;> cases st <;> decide +kernel
    exact h c ⟨s, hs⟩
  · obtain ⟨k, rfl⟩ : ∃ k, s = k + total ρ := ⟨s - total ρ, by omega⟩
    cases ρ <;> cases st <;> rfl

theorem credDev_eq (ρ : Ring) (st : Dir) (s : ℕ) (c : Dev nD) : credDev ρ st s c = prv ρ st c := by
  by_cases hs : s < total ρ
  · have h : ∀ c : Dev nD, ∀ s : Fin (total ρ), credDev ρ st s.val c = prv ρ st c := by
      cases ρ <;> cases st <;> decide +kernel
    exact h c ⟨s, hs⟩
  · obtain ⟨k, rfl⟩ : ∃ k, s = k + total ρ := ⟨s - total ρ, by omega⟩
    cases ρ <;> cases st <;> rfl

/-- The four neighbours whom the barrier's signals go to, in the program's order. -/
theorem barDev_eq (c : Dev nD) :
    (⟨k0_dev1 c, k0_dev1_lt c⟩ : Dev nD) = nxt .P .r c ∧ (⟨k0_dev2 c, k0_dev2_lt c⟩ : Dev nD) = nxt .P .l c
      ∧ (⟨k0_dev3 c, k0_dev3_lt c⟩ : Dev nD) = nxt .Z .r c ∧ (⟨k0_dev4 c, k0_dev4_lt c⟩ : Dev nD) = nxt .Z .l c := by
  revert c; decide +kernel

end Cert.Hier

end
-- ==== Proof.Steps.lean ====
/-
# The kernel's body as a list of ring steps

The printed body is one long sequence. Here it is the entry (the barrier with the four neighbours, then the device's own
product, stored over the whole result) followed by twenty ring steps, each of which is the same program at its ring and
its number: `cc0_body_eq` says that the two are the same program.
-/
module

public import proofs.«01_k».proof.Proof.Rings

@[expose] public section

noncomputable section

namespace Cert.Hier

open Cert.KernelIdeal Cert.KernelIdeal.Gen
open Idealize.ShloMosaic
open Idealize.SL.Sem

variable {F : FTy → Type} [FloatOps F]

/-! ## Buffers and semaphores -/

/-- The device's blocks of the two operands and its result, each a whole buffer. -/
abbrev aM : Memref sig .tc .vmem S1024x512 .f32 := Memref.whole cc0_stg0_0
abbrev bM : Memref sig .tc .vmem S512x1024 .f32 := Memref.whole cc0_stg1_0
abbrev oM : Memref sig .tc .vmem S1024x1024 .f32 := Memref.whole cc0_stg2_0

/-- A stream's two slots, into which its neighbour's copies land. -/
abbrev comm : (ρ : Ring) → Dir → Memref sig .tc .vmem (S2C ρ) .f32
  | .P, .r => Memref.whole cc0_scratch0
  | .P, .l => Memref.whole cc0_scratch1
  | .Z, .r => Memref.whole cc0_scratch2
  | .Z, .l => Memref.whole cc0_scratch3

/-- The number of a stream's first send semaphore; -/
def sendNo : Ring → Dir → ℕ
  | .P, .r => 3
  | .P, .l => 7
  | .Z, .r => 11
  | .Z, .l => 15

/-- The semaphore on which a copy out of slot `σ`'s turn completes at the sender, -/
def sendSem (ρ : Ring) (st : Dir) (σ : Fin 2) : DmaSem sig :=
  ⟨sendNo ρ st + σ.val, by have := σ.isLt; cases ρ <;> cases st <;> simp only [sendNo] <;> show _ < 19 <;> omega⟩

/-- and the one on which it completes at the receiver. -/
def recvSem (ρ : Ring) (st : Dir) (σ : Fin 2) : DmaSem sig :=
  ⟨sendNo ρ st + 2 + σ.val, by have := σ.isLt; cases ρ <;> cases st <;> simp only [sendNo] <;> show _ < 19 <;> omega⟩

/-- The semaphore on which a stream's reader grants freed slots to its writer. -/
def credSem : Ring → Dir → Sem sig
  | .P, .r => ⟨0, by decide⟩
  | .P, .l => ⟨1, by decide⟩
  | .Z, .r => ⟨2, by decide⟩
  | .Z, .l => ⟨3, by decide⟩

/-- The barrier's semaphore. -/
def barSem : Sem sig := ⟨4, by decide⟩

/-- The slot whose turn it is at step `s`. -/
def par (s : ℕ) : Fin 2 := ⟨s % 2, Nat.mod_lt _ (by decide)⟩

theorem slot_inb (ρ : Ring) (σ : Fin 2) : ∀ a, (![σ.val, 0, 0] : Fin 3 → ℕ) a + (S1C ρ).size a ≤ (S2C ρ).size a := by
  revert σ; cases ρ <;> decide

theorem slot_sq (ρ : Ring) : (S1C ρ).Squeezes (SC ρ) := by cases ρ <;> decide
theorem pos_SC (ρ : Ring) : 0 < (SC ρ).numel := by cases ρ <;> decide
theorem pos_S1C (ρ : Ring) : 0 < (S1C ρ).numel := by cases ρ <;> decide
theorem cast_SC (ρ : Ring) : (SC ρ).ShapeCasts (SC ρ) := by cases ρ <;> decide
theorem cast_S1C (ρ : Ring) : (S1C ρ).ShapeCasts (SC ρ) := by cases ρ <;> decide

abbrev slotRect (ρ : Ring) (σ : Fin 2) : Rect (S2C ρ) := Rect.unit (s := S2C ρ) ![σ.val, 0, 0] (S1C ρ).size (slot_inb ρ σ)

/-- One slot, as the copies see it. -/
abbrev slotM (ρ : Ring) (st : Dir) (σ : Fin 2) : Memref sig .tc .vmem (SC ρ) .f32 :=
  ((comm ρ st).slice (slotRect ρ σ) (fun _ => rfl)).squeeze (SC ρ) (slot_sq ρ)

abbrev blkRect (ρ : Ring) (off : Fin 2 → ℕ) (h : ∀ a, off a + (SC ρ).size a ≤ S1024x1024.size a) : Rect S1024x1024 :=
  Rect.unit (s := S1024x1024) off (SC ρ).size h

/-- One block of the result, as the copies see it. -/
abbrev blkM (ρ : Ring) (off : Fin 2 → ℕ) (h : ∀ a, off a + (SC ρ).size a ≤ S1024x1024.size a) :
    Memref sig .tc .vmem (SC ρ) .f32 :=
  oM.slice (blkRect ρ off h) (fun _ => rfl)

/-! ## One step -/

/-- What an adding step stores: its own block plus the one received. -/
def addPay (ρ : Ring) (v : Vec F (SC ρ) .f32) (w : Vec F (S1C ρ) .f32) : FVec F (SC ρ) .f32 :=
  addf (shapeCast (SC ρ) v (cast_SC ρ)) (shapeCast (SC ρ) w (cast_S1C ρ))

/-- What a copying step stores: the block received. -/
def copyPay (ρ : Ring) (w : Vec F (S1C ρ) .f32) : FVec F (SC ρ) .f32 := shapeCast (SC ρ) w (cast_S1C ρ)

section

variable (so ro : Ring → Dir → ℕ → Dev nD → Fin 2 → ℕ)
  (hso : ∀ ρ st s c, ∀ a, so ρ st s c a + (SC ρ).size a ≤ S1024x1024.size a)
  (hro : ∀ ρ st s c, ∀ a, ro ρ st s c a + (SC ρ).size a ≤ S1024x1024.size a)
  (sd cd : Ring → Dir → ℕ → Dev nD → Dev nD)

/-- The start of a stream's step: from the third step on wait for a slot to be free, then start the copy. -/
def startP (ρ : Ring) (st : Dir) (s : ℕ) (c : Dev nD) : Prog (TpuEff nD τ sig (Elt F) Λ₀ .tc) PUnit := do
  if 2 ≤ s then semWaitWord (credSem ρ st) 1#32 else pure ⟨⟩
  Prog.lift (.enqueueDma (blkM ρ (so ρ st s c) (hso ρ st s c))
    (.remote (Dev.tc (sd ρ st s c)) (slotM ρ st (par s)) (.dma (sendSem ρ st (par s)))) (.dma (recvSem ρ st (par s)))
    (View.wordExact_bits rfl) ((View.wordExact_bits rfl).reshape _ _) ⟨⟨rfl, Or.inl rfl⟩, trivial⟩)

/-- What a stream's step does with the block received: add it to its own, or take it. -/
def takeP (ρ : Ring) (st : Dir) (s : ℕ) (c : Dev nD) : Prog (TpuEff nD τ sig (Elt F) Λ₀ .tc) PUnit :=
  if s < half ρ then do
    let v : Vec F (SC ρ) .f32 ← Prog.lift (.load oM (blkRect ρ (ro ρ st s c) (hro ρ st s c)).toLoadRect (View.loadsAt_vmem (pos_SC ρ)))
    let w : Vec F (S1C ρ) .f32 ← Prog.lift (.load (comm ρ st) (slotRect ρ (par s)).toLoadRect (View.loadsAt_vmem (pos_S1C ρ)))
    let _ : Vec F (SC ρ) .f32 ← Prog.lift (.load oM (blkRect ρ (ro ρ st s c) (hro ρ st s c)).toLoadRect (View.loadsAt_vmem (pos_SC ρ)))
    Prog.lift (.store oM (blkRect ρ (ro ρ st s c) (hro ρ st s c)) (addPay ρ v w) Finset.univ
      (View.stores_vmem_bits_univ (pos_SC ρ) rfl) (.inl rfl))
  else do
    let w : Vec F (S1C ρ) .f32 ← Prog.lift (.load (comm ρ st) (slotRect ρ (par s)).toLoadRect (View.loadsAt_vmem (pos_S1C ρ)))
    let _ : Vec F (SC ρ) .f32 ← Prog.lift (.load oM (blkRect ρ (ro ρ st s c) (hro ρ st s c)).toLoadRect (View.loadsAt_vmem (pos_SC ρ)))
    Prog.lift (.store oM (blkRect ρ (ro ρ st s c) (hro ρ st s c)) (copyPay ρ w) Finset.univ
      (View.stores_vmem_bits_univ (pos_SC ρ) rfl) (.inl rfl))

/-- The end of a stream's step: wait for the own copy and for the neighbour's, take the block received and, while a
    later copy will want the slot, grant it. -/
def finishP (ρ : Ring) (st : Dir) (s : ℕ) (c : Dev nD) : Prog (TpuEff nD τ sig (Elt F) Λ₀ .tc) PUnit := do
  Prog.lift (.waitDma2 (sendSem ρ st (par s)) (slotM ρ st (par s)) (blkM ρ (so ρ st s c) (hso ρ st s c))
    ((View.wordExact_bits rfl).reshape _ _) (View.wordExact_bits rfl))
  Prog.lift (.waitDma2 (recvSem ρ st (par s)) (blkM ρ (so ρ st s c) (hso ρ st s c)) (slotM ρ st (par s))
    (View.wordExact_bits rfl) ((View.wordExact_bits rfl).reshape _ _))
  takeP ro hro ρ st s c
  if s + 2 < total ρ then semSignalWord (cd ρ st s c) (credSem ρ st) 1#32 else pure ⟨⟩

/-- One ring step: both streams' copies started, then both finished. -/
def stepP (ρ : Ring) (s : ℕ) (c : Dev nD) : Prog (TpuEff nD τ sig (Elt F) Λ₀ .tc) PUnit := do
  startP so hso sd ρ .r s c
  startP so hso sd ρ .l s c
  finishP so ro hso hro cd ρ .r s c
  finishP so ro hso hro cd ρ .l s c

/-- Ring steps one after another. -/
def stepsP : List (Ring × ℕ) → Dev nD → Prog (TpuEff nD τ sig (Elt F) Λ₀ .tc) PUnit
  | [], _ => pure ⟨⟩
  | x :: L, c => do
    stepP so ro hso hro sd cd x.1 x.2 c
    stepsP L c

/-- The twenty steps: the plane's ring adds, the column's ring adds and copies, the plane's ring copies. -/
def order : List (Ring × ℕ) :=
  [(.P, 0), (.P, 1), (.P, 2), (.P, 3), (.P, 4), (.P, 5), (.P, 6), (.Z, 0), (.Z, 1), (.Z, 2), (.Z, 3), (.Z, 4), (.Z, 5),
    (.P, 7), (.P, 8), (.P, 9), (.P, 10), (.P, 11), (.P, 12), (.P, 13)]

/-- The barrier: a signal to each neighbour, then a wait for theirs. -/
def barP (b : Fin 4 → Dev nD → Dev nD) (c : Dev nD) : Prog (TpuEff nD τ sig (Elt F) Λ₀ .tc) PUnit := do
  semSignalWord (b 0 c) barSem 1#32
  semSignalWord (b 1 c) barSem 1#32
  semSignalWord (b 2 c) barSem 1#32
  semSignalWord (b 3 c) barSem 1#32
  semWaitWord barSem 4#32

abbrev aRect : Rect S1024x512 := Rect.unit (s := S1024x512) ![0, 0] S1024x512.size inb_S1024x512_S1024x512_0_0
abbrev bRect : Rect S512x1024 := Rect.unit (s := S512x1024) ![0, 0] S512x1024.size inb_S512x1024_S512x1024_0_0
abbrev oRect : Rect S1024x1024 := Rect.unit (s := S1024x1024) ![0, 0] S1024x1024.size inb_S1024x1024_S1024x1024_0_0

/-- The device's own product, stored over the whole result. -/
def dotP : Prog (TpuEff nD τ sig (Elt F) Λ₀ .tc) PUnit := do
  let v : Vec F S1024x512 .f32 ← Prog.lift (.load aM aRect.toLoadRect (View.loadsAt_vmem h_S1024x512))
  let w : Vec F S512x1024 .f32 ← Prog.lift (.load bM bRect.toLoadRect (View.loadsAt_vmem h_S512x1024))
  let _ : Vec F S1024x1024 .f32 ← Prog.lift (.load oM oRect.toLoadRect (View.loadsAt_vmem h_S1024x1024))
  Prog.lift (.store oM oRect (k0_pay2 v w) Finset.univ (View.stores_vmem_bits_univ h_S1024x1024 rfl) (.inl rfl))

/-- The whole body. -/
def bodyP (b : Fin 4 → Dev nD → Dev nD) : Prog (TpuEff nD τ sig (Elt F) Λ₀ .tc) PUnit := do
  let c : Dev nD ← Prog.lift .deviceId
  barP b c
  dotP
  stepsP so ro hso hro sd cd order c

end

theorem sendOff_inb (ρ : Ring) (st : Dir) (s : ℕ) (c : Dev nD) : ∀ a, sendOff ρ st s c a + (SC ρ).size a ≤ S1024x1024.size a := by
  rw [sendOff_eq]; exact off_inb ρ st s c

theorem recvOff_inb (ρ : Ring) (st : Dir) (s : ℕ) (c : Dev nD) : ∀ a, recvOff ρ st s c a + (SC ρ).size a ≤ S1024x1024.size a := by
  rw [recvOff_eq]; exact off_inb ρ st (s + 1) c

/-- The barrier's targets as the program computes them. -/
def barDev : Fin 4 → Dev nD → Dev nD
  | 0, c => ⟨k0_dev1 c, k0_dev1_lt c⟩
  | 1, c => ⟨k0_dev2 c, k0_dev2_lt c⟩
  | 2, c => ⟨k0_dev3 c, k0_dev3_lt c⟩
  | 3, c => ⟨k0_dev4 c, k0_dev4_lt c⟩

/-- The printed body is the list of steps. -/
theorem cc0_body_eq :
    bodyAt0 (F := F) t0_0 = bodyP (F := F) sendOff recvOff sendOff_inb recvOff_inb sendDev credDev barDev := by
  sl_kernel_rfl

/-- The barrier's targets: the four neighbours. -/
def barTo : Fin 4 → Dev nD → Dev nD
  | 0, c => nxt .P .r c
  | 1, c => nxt .P .l c
  | 2, c => nxt .Z .r c
  | 3, c => nxt .Z .l c

theorem barDev_to : barDev = barTo := by
  funext k c
  obtain ⟨h1, h2, h3, h4⟩ := barDev_eq c
  match k with
  | 0 => exact h1
  | 1 => exact h2
  | 2 => exact h3
  | 3 => exact h4

theorem bodyP_congr {so so' ro ro' : Ring → Dir → ℕ → Dev nD → Fin 2 → ℕ} {hso hso' hro hro'}
    {sd sd' cd cd' : Ring → Dir → ℕ → Dev nD → Dev nD} {b b' : Fin 4 → Dev nD → Dev nD}
    (h1 : so = so') (h2 : ro = ro') (h3 : sd = sd') (h4 : cd = cd') (h5 : b = b') :
    bodyP (F := F) so ro hso hro sd cd b = bodyP so' ro' hso' hro' sd' cd' b' := by
  subst h1 h2 h3 h4 h5; rfl

/-- The printed body, with every offset and every neighbour in closed form. -/
theorem cc0_body_closed :
    bodyAt0 (F := F) t0_0 = bodyP (F := F) sOff rOff off_inb (fun ρ st s c => off_inb ρ st (s + 1) c)
      (fun ρ st _ c => nxt ρ st c) (fun ρ st _ c => prv ρ st c) barTo :=
  cc0_body_eq.trans (bodyP_congr sendOff_eq recvOff_eq (by funext ρ st s c; exact sendDev_eq ρ st s c)
    (by funext ρ st s c; exact credDev_eq ρ st s c) barDev_to)

end Cert.Hier

end
-- ==== Proof.Protocol.lean ====
/-
# The protocol between the devices

Semaphores, and what each hands over.

* The barrier's cell of a device is raised by its four neighbours, once each; a neighbour's unit says that it has put
  its two slots of the stream from this device at the writer's disposal.
* A stream's send cells: the copy of step `s` gives back the block of the result that it read.
* A stream's receive cells: the copy of step `s` hands over the slot, holding the sender's block at the sender's
  contents before the step.
* A stream's grant cell: after each step but the last two its reader sends one unit, which says how often each of the
  two slots has been read. These units run ahead of the writer, so they are duties of one round.

A slot between its reader and its next writer waits in an invariant; only the fact of its release travels.
-/
module

public import proofs.«01_k».proof.Proof.Steps
public import Idealize.ShloMosaic.Lib.Pipeline.Launch
public import Idealize.ShloMosaic.Lib.Pipeline.Kit
public import Idealize.ShloMosaic.Lib.Tactic
public import Idealize.ShloMosaic.Lib.Release
public import Idealize.ShloMosaic.Lib.Rounds
public import Mathlib.Algebra.BigOperators.Intervals

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The resource algebra -/

/-- A slot: its writer, its stream and its number. -/
abbrev Key : Type := Dev nD × Ring × Dir × Fin 2

abbrev UK : Type := URounds (GSem nD τ sig) ℕ × USlots Key
abbrev UU : Type := UR sig nD τ × UK

local notation "𝕄" => MT nD τ sig ℕ (Elt F) ℕ UU ℕ

abbrev EP : Emb (UR sig nD τ) 𝕄 := embL
def ER : Emb (URounds (GSem nD τ sig) ℕ) 𝕄 := (Emb.inl : Emb (URounds (GSem nD τ sig) ℕ) UK).trans embR
def ES : Emb (USlots Key) 𝕄 := (Emb.inr : Emb (USlots Key) UK).trans embR

instance ER_landsIn : (ER (F := F)).LandsIn (upEmb : UEmb _ 𝕄) := by unfold ER; infer_instance
instance ES_landsIn : (ES (F := F)).LandsIn (upEmb : UEmb _ 𝕄) := by unfold ES; infer_instance

/-! ## The cells -/

/-- What a semaphore is for. -/
inductive Kd where
  | snd (ρ : Ring) (st : Dir) (σ : Fin 2)
  | rcv (ρ : Ring) (st : Dir) (σ : Fin 2)
  | grant (ρ : Ring) (st : Dir)
  | bar
  | oth
  deriving DecidableEq

def dmaKind : ℕ → Kd
  | 3 => .snd .P .r 0
  | 4 => .snd .P .r 1
  | 5 => .rcv .P .r 0
  | 6 => .rcv .P .r 1
  | 7 => .snd .P .l 0
  | 8 => .snd .P .l 1
  | 9 => .rcv .P .l 0
  | 10 => .rcv .P .l 1
  | 11 => .snd .Z .r 0
  | 12 => .snd .Z .r 1
  | 13 => .rcv .Z .r 0
  | 14 => .rcv .Z .r 1
  | 15 => .snd .Z .l 0
  | 16 => .snd .Z .l 1
  | 17 => .rcv .Z .l 0
  | 18 => .rcv .Z .l 1
  | _ => .oth

def regKind : ℕ → Kd
  | 0 => .grant .P .r
  | 1 => .grant .P .l
  | 2 => .grant .Z .r
  | 3 => .grant .Z .l
  | 4 => .bar
  | _ => .oth

def kindOf : SemLoc sig → Kd
  | .reg s => regKind s.val
  | .dma s => dmaKind s.val

theorem kind_snd (ρ : Ring) (st : Dir) (σ : Fin 2) : kindOf (.dma (sendSem ρ st σ)) = .snd ρ st σ := by
  cases ρ <;> cases st <;> fin_cases σ <;> rfl
theorem kind_rcv (ρ : Ring) (st : Dir) (σ : Fin 2) : kindOf (.dma (recvSem ρ st σ)) = .rcv ρ st σ := by
  cases ρ <;> cases st <;> fin_cases σ <;> rfl
theorem kind_grant (ρ : Ring) (st : Dir) : kindOf (.reg (credSem ρ st)) = .grant ρ st := by
  cases ρ <;> cases st <;> rfl
theorem kind_bar : kindOf (.reg barSem) = .bar := rfl

abbrev sndC (c : Dev nD) (ρ : Ring) (st : Dir) (σ : Fin 2) : GSem nD τ sig := ((c : Thread nD τ), .dma (sendSem ρ st σ))
abbrev rcvC (c : Dev nD) (ρ : Ring) (st : Dir) (σ : Fin 2) : GSem nD τ sig := ((c : Thread nD τ), .dma (recvSem ρ st σ))
abbrev grC (c : Dev nD) (ρ : Ring) (st : Dir) : GSem nD τ sig := ((c : Thread nD τ), .reg (credSem ρ st))
abbrev barC (c : Dev nD) : GSem nD τ sig := ((c : Thread nD τ), .reg barSem)

/-! ## Times -/

/-- When a ring's step happens, of the twenty. -/
def time : Ring → ℕ → ℕ
  | .P, s => if s < 7 then s else s + 6
  | .Z, s => 7 + s

/-- The ring and the step of each time. -/
def orderAt (t : ℕ) : Ring × ℕ := if t < 7 then (.P, t) else if t < 13 then (.Z, t - 7) else (.P, t - 6)

theorem orderAt_time (ρ : Ring) (s : ℕ) (hs : s < total ρ) : orderAt (time ρ s) = (ρ, s) := by
  cases ρ
  · have h : s < 14 := hs
    by_cases h7 : s < 7
    · have e : time .P s = s := if_pos h7
      rw [e, orderAt, if_pos h7]
    · have e : time .P s = s + 6 := if_neg h7
      rw [e, orderAt, if_neg (by omega), if_neg (by omega), Nat.add_sub_cancel]
  · have h : s < 6 := hs
    have e : time .Z s = 7 + s := rfl
    rw [e, orderAt, if_neg (by omega), if_pos (by omega), Nat.add_sub_cancel_left]

theorem time_lt {ρ : Ring} {s s' : ℕ} (h : s < s') : time ρ s < time ρ s' := by
  cases ρ <;> unfold time <;> simp only <;> (try split_ifs) <;> omega

theorem two_half (s : ℕ) : 2 * (s / 2) + (par s).val = s := by show 2 * (s / 2) + s % 2 = s; omega
theorem par_two (s : ℕ) : par (s + 2) = par s := Fin.ext (by show (s + 2) % 2 = s % 2; omega)
theorem half_two (s : ℕ) : (s + 2) / 2 = s / 2 + 1 := by omega

/-- How often each slot is used. -/
abbrev rnds (ρ : Ring) : ℕ := total ρ / 2

theorem total_even (ρ : Ring) : total ρ = 2 * rnds ρ := by cases ρ <;> rfl

theorem half_lt {ρ : Ring} {s : ℕ} (h : s < total ρ) : s / 2 < rnds ρ := by
  have := total_even ρ; omega

/-! ## Contents -/

/-- Contents of a device's result. -/
abbrev OC (F : FTy → Type) : Type := (cc0_stg2_0 : Ref sig .tc).ty.Contents (Elt F)

theorem sOff_inb (ρ : Ring) (st : Dir) (s : ℕ) (c : Dev nD) (a : Fin 2) : sOff ρ st s c a + (SC ρ).size a ≤ S1024x1024.size a :=
  off_inb ρ st s c a
theorem rOff_inb (ρ : Ring) (st : Dir) (s : ℕ) (c : Dev nD) (a : Fin 2) : rOff ρ st s c a + (SC ρ).size a ≤ S1024x1024.size a :=
  off_inb ρ st (s + 1) c a

/-- The block of the result that a stream sends at step `s`, -/
abbrev sBlk (ρ : Ring) (st : Dir) (s : ℕ) (c : Dev nD) : Memref sig .tc .vmem (SC ρ) .f32 :=
  blkM ρ (sOff ρ st s c) (sOff_inb ρ st s c)
/-- the rectangle of the block that it receives, -/
abbrev rRect (ρ : Ring) (st : Dir) (s : ℕ) (c : Dev nD) : Rect S1024x1024 :=
  blkRect ρ (rOff ρ st s c) (rOff_inb ρ st s c)
/-- and what it sends. -/
def sent (ρ : Ring) (st : Dir) (s : ℕ) (X : OC F) (c : Dev nD) : (SC ρ).Idx → Elt F .f32 :=
  (sBlk ρ st s c).view.read (Elt F) X

/-- What a step stores: the device's own block plus the one received, or the one received. -/
def kept (ρ : Ring) (st : Dir) (s : ℕ) (c : Dev nD) (X : OC F) (w : (SC ρ).Idx → Elt F .f32) : FVec F (SC ρ) .f32 :=
  if s < half ρ then
    addf (shapeCast (SC ρ) ((oM.view.readAt (Elt F) (rRect ρ st s c).toLoadRect X : Vec F (SC ρ) .f32)) (cast_SC ρ)) w
  else w

/-- The result after a stream's step: own contents `X`, received block `w`. -/
def put (ρ : Ring) (st : Dir) (s : ℕ) (c : Dev nD) (X : OC F) (w : (SC ρ).Idx → Elt F .f32) : OC F :=
  (oM.access (rRect ρ st s c)).write (Elt F) X (kept ρ st s c X w) Finset.univ

/-- One ring step on every device's contents. -/
def stepO (ρ : Ring) (s : ℕ) (X : Dev nD → OC F) (c : Dev nD) : OC F :=
  put ρ .l s c (put ρ .r s c (X c) (sent ρ .r s (X (prv ρ .r c)) (prv ρ .r c))) (sent ρ .l s (X (prv ρ .l c)) (prv ρ .l c))

section

variable (X₀ : Dev nD → OC F)

/-- The contents of every device's result at every time. -/
def O : ℕ → Dev nD → OC F
  | 0 => X₀
  | t + 1 => stepO (orderAt t).1 (orderAt t).2 (O t)

theorem O_step (ρ : Ring) (s : ℕ) (hs : s < total ρ) : O X₀ (time ρ s + 1) = stepO ρ s (O X₀ (time ρ s)) := by
  show stepO (orderAt (time ρ s)).1 (orderAt (time ρ s)).2 (O X₀ (time ρ s)) = _
  rw [orderAt_time ρ s hs]

/-! ## Points-to -/

/-- Elements of a device's result. -/
abbrev oPts (c : Dev nD) (I : Finset (Idx (oM.view.loc (c : Thread nD τ)))) (X : OC F) : sProp 𝕄 :=
  (oM.view.loc (c : Thread nD τ)) ↦[I]{fullShare} X

/-- The elements of the block sent. -/
abbrev sSet (ρ : Ring) (st : Dir) (s : ℕ) (c : Dev nD) : Finset (Idx (oM.view.loc (c : Thread nD τ))) := (sBlk ρ st s c).view.set

/-- A device's slot, at some contents. -/
def slotAt (c : Dev nD) (ρ : Ring) (st : Dir) (σ : Fin 2) : sProp 𝕄 :=
  slot ((slotM ρ st σ).view.loc (c : Thread nD τ)) (slotM ρ st σ).view.set

/-- A device's slot, holding a block. -/
def slotHas (c : Dev nD) (ρ : Ring) (st : Dir) (σ : Fin 2) (w : (SC ρ).Idx → Elt F .f32) : sProp 𝕄 :=
  iprop(∃ f : Buf (Elt F) ((slotM ρ st σ).view.loc (c : Thread nD τ)), ⌜(slotM ρ st σ).view.read (Elt F) f = w⌝
    ∗ ((slotM ρ st σ).view.loc (c : Thread nD τ) ↦[(slotM ρ st σ).view.set]{fullShare} f))

omit [FloatOps F] in
instance slotAt_storable (c : Dev nD) (ρ : Ring) (st : Dir) (σ : Fin 2) :
    BI.Storable (upEmb : UEmb _ 𝕄) (slotAt (F := F) c ρ st σ) := by unfold slotAt; infer_instance
omit [FloatOps F] in
instance slotHas_storable (c : Dev nD) (ρ : Ring) (st : Dir) (σ : Fin 2) (w : (SC ρ).Idx → Elt F .f32) :
    BI.Storable (upEmb : UEmb _ 𝕄) (slotHas (F := F) c ρ st σ w) := by unfold slotHas; infer_instance

/-- What a copy's landing is worth. -/
abbrev N (ρ : Ring) (st : Dir) : ℕ := (slotM ρ st 0).view.dmaCredit
theorem N_pos (ρ : Ring) (st : Dir) : 0 < N ρ st := View.dmaCredit_pos _ (by cases ρ <;> decide)
theorem N_slot (ρ : Ring) (st : Dir) (σ : Fin 2) : (slotM ρ st σ).view.dmaCredit = N ρ st := rfl
theorem N_blk (ρ : Ring) (st : Dir) (off : Fin 2 → ℕ) (h) : (blkM ρ off h).view.dmaCredit = N ρ st := by
  cases ρ <;> cases st <;> rfl

/-! ## Payloads and the schedule -/

/-- What a stream's reader says after step `d`: how often it has released each slot, and that it awaits their next copies. -/
def grantPay (c : Dev nD) (ρ : Ring) (st : Dir) (d : ℕ) : sProp 𝕄 :=
  iprop(released ES ((c, ρ, st, par d) : Key) (d / 2 + 2) ∗ reached ER (rcvC (nxt ρ st c) ρ st (par d)) (d / 2 + 1)
    ∗ released ES ((c, ρ, st, par (d + 1)) : Key) ((d + 1) / 2 + 1) ∗ reached ER (rcvC (nxt ρ st c) ρ st (par (d + 1))) ((d + 1) / 2))

/-- What a neighbour's barrier signal says: its two slots are at the writer's disposal. -/
def openPay (c : Dev nD) (ρ : Ring) (st : Dir) : sProp 𝕄 :=
  iprop(released ES ((c, ρ, st, 0) : Key) 1 ∗ released ES ((c, ρ, st, 1) : Key) 1)

/-- The stream on which each of the four barrier signals goes. -/
def laneOf : ℕ → Ring × Dir
  | 0 => (.P, .r)
  | 1 => (.P, .l)
  | 2 => (.Z, .r)
  | _ => (.Z, .l)

def sndPay (c : Dev nD) (ρ : Ring) (st : Dir) (s : ℕ) : sProp 𝕄 := oPts c (sSet ρ st s c) (O X₀ (time ρ s) c)
def rcvPay (c : Dev nD) (ρ : Ring) (st : Dir) (σ : Fin 2) (s : ℕ) : sProp 𝕄 :=
  slotHas c ρ st σ (sent ρ st s (O X₀ (time ρ s) (prv ρ st c)) (prv ρ st c))

def kDuties : Kd → ℕ → Finset ℕ
  | .snd ρ _ _, r => if r < rnds ρ then {0} else ∅
  | .rcv ρ _ _, r => if r < rnds ρ then {0} else ∅
  | .grant ρ _, r => if r = 0 then Finset.range (total ρ - 2) else ∅
  | .bar, r => if r = 0 then Finset.range 4 else ∅
  | .oth, _ => ∅

def kAmount : Kd → ℕ
  | .snd ρ st _ => N ρ st
  | .rcv ρ st _ => N ρ st
  | _ => 1

theorem kAmount_pos (k : Kd) : 0 < kAmount k := by
  cases k <;> first | exact N_pos _ _ | exact Nat.one_pos

def kPay (c : Dev nD) : Kd → ℕ → ℕ → sProp 𝕄
  | .snd ρ st σ, r, _ => sndPay X₀ c ρ st (2 * r + σ.val)
  | .rcv ρ st σ, r, _ => rcvPay X₀ c ρ st σ (2 * r + σ.val)
  | .grant ρ st, _, d => grantPay c ρ st d
  | .bar, _, d => openPay c (laneOf d).1 (laneOf d).2.flip
  | .oth, _, _ => iprop(emp)

/-- The schedule of every cell. -/
def Rd : Rounds.Schedule (GSem nD τ sig) ℕ 𝕄 where
  duties g r := kDuties (kindOf g.2) r
  unitless _ := False
  amount g _ _ := kAmount (kindOf g.2)
  payload g r d := kPay X₀ g.1.1 (kindOf g.2) r d
  amount_pos g _ _ _ := kAmount_pos _

instance Rd_payload_storable (g : GSem nD τ sig) (r : ℕ) (d : ℕ) : BI.Storable (upEmb : UEmb _ 𝕄) ((Rd X₀).payload g r d) := by
  show BI.Storable upEmb (kPay X₀ g.1.1 (kindOf g.2) r d)
  cases kindOf g.2 <;> unfold kPay <;> simp only [] <;> first
    | (unfold sndPay; infer_instance)
    | (unfold rcvPay; infer_instance)
    | (unfold grantPay; infer_instance)
    | (unfold openPay; infer_instance)
    | infer_instance

section Tables

variable (c : Dev nD) (ρ : Ring) (st : Dir) (σ : Fin 2)

theorem duties_snd {r : ℕ} (h : r < rnds ρ) : (Rd X₀).duties (sndC c ρ st σ) r = {0} := by
  show kDuties (kindOf (.dma (sendSem ρ st σ))) r = _
  rw [kind_snd]; exact if_pos h
theorem duties_rcv {r : ℕ} (h : r < rnds ρ) : (Rd X₀).duties (rcvC c ρ st σ) r = {0} := by
  show kDuties (kindOf (.dma (recvSem ρ st σ))) r = _
  rw [kind_rcv]; exact if_pos h
theorem duties_gr : (Rd X₀).duties (grC c ρ st) 0 = Finset.range (total ρ - 2) := by
  show kDuties (kindOf (.reg (credSem ρ st))) 0 = _
  rw [kind_grant]; rfl
theorem duties_bar : (Rd X₀).duties (barC c) 0 = Finset.range 4 := rfl

theorem late_snd : ∀ r, rnds ρ ≤ r → (Rd X₀).duties (sndC c ρ st σ) r = ∅ := fun r h => by
  show kDuties (kindOf (.dma (sendSem ρ st σ))) r = _
  rw [kind_snd]; exact if_neg (by omega)
theorem late_rcv : ∀ r, rnds ρ ≤ r → (Rd X₀).duties (rcvC c ρ st σ) r = ∅ := fun r h => by
  show kDuties (kindOf (.dma (recvSem ρ st σ))) r = _
  rw [kind_rcv]; exact if_neg (by omega)
theorem late_gr : ∀ r, 1 ≤ r → (Rd X₀).duties (grC c ρ st) r = ∅ := fun r h => by
  show kDuties (kindOf (.reg (credSem ρ st))) r = _
  rw [kind_grant]; exact if_neg (by omega)
theorem late_bar : ∀ r, 1 ≤ r → (Rd X₀).duties (barC c) r = ∅ := fun r h => by
  show kDuties .bar r = _
  exact if_neg (by omega)

theorem amount_snd (r d : ℕ) : (Rd X₀).amount (sndC c ρ st σ) r d = N ρ st := by
  show kAmount (kindOf (.dma (sendSem ρ st σ))) = _
  rw [kind_snd]; rfl
theorem amount_rcv (r d : ℕ) : (Rd X₀).amount (rcvC c ρ st σ) r d = N ρ st := by
  show kAmount (kindOf (.dma (recvSem ρ st σ))) = _
  rw [kind_rcv]; rfl
theorem amount_gr (r d : ℕ) : (Rd X₀).amount (grC c ρ st) r d = 1 := by
  show kAmount (kindOf (.reg (credSem ρ st))) = _
  rw [kind_grant]; rfl
theorem amount_bar (r d : ℕ) : (Rd X₀).amount (barC c) r d = 1 := rfl

theorem expect_snd {r : ℕ} (h : r < rnds ρ) : (Rd X₀).expect (sndC c ρ st σ) r = N ρ st := by
  unfold Schedule.expect Schedule.amountOf; rw [duties_snd X₀ c ρ st σ h, Finset.sum_singleton, amount_snd]
theorem expect_rcv {r : ℕ} (h : r < rnds ρ) : (Rd X₀).expect (rcvC c ρ st σ) r = N ρ st := by
  unfold Schedule.expect Schedule.amountOf; rw [duties_rcv X₀ c ρ st σ h, Finset.sum_singleton, amount_rcv]
theorem expect_gr : (Rd X₀).expect (grC c ρ st) 0 = total ρ - 2 := by
  unfold Schedule.expect Schedule.amountOf
  rw [duties_gr, Finset.sum_congr rfl fun d _ => amount_gr X₀ c ρ st 0 d, Finset.sum_const, Finset.card_range, smul_eq_mul, mul_one]
theorem expect_bar : (Rd X₀).expect (barC c) 0 = 4 := by
  unfold Schedule.expect Schedule.amountOf
  rw [duties_bar, Finset.sum_congr rfl fun d _ => amount_bar X₀ c 0 d, Finset.sum_const, Finset.card_range, smul_eq_mul, mul_one]

theorem pay_snd (s d : ℕ) : (Rd X₀).payload (sndC c ρ st (par s)) (s / 2) d = sndPay X₀ c ρ st s := by
  show kPay X₀ c (kindOf (.dma (sendSem ρ st (par s)))) (s / 2) d = _
  rw [kind_snd]; show sndPay X₀ c ρ st (2 * (s / 2) + (par s).val) = _; rw [two_half]
theorem pay_rcv (s d : ℕ) : (Rd X₀).payload (rcvC c ρ st (par s)) (s / 2) d = rcvPay X₀ c ρ st (par s) s := by
  show kPay X₀ c (kindOf (.dma (recvSem ρ st (par s)))) (s / 2) d = _
  rw [kind_rcv]; show rcvPay X₀ c ρ st (par s) (2 * (s / 2) + (par s).val) = _; rw [two_half]
theorem pay_gr (r d : ℕ) : (Rd X₀).payload (grC c ρ st) r d = grantPay c ρ st d := by
  show kPay X₀ c (kindOf (.reg (credSem ρ st))) r d = _
  rw [kind_grant]; rfl
theorem pay_bar (r d : ℕ) : (Rd X₀).payload (barC c) r d = openPay c (laneOf d).1 (laneOf d).2.flip := rfl

end Tables

end

/-! ## Levels -/

def L (g : GSem nD τ sig) : Finset ℕ := if g.1.2 = .tc then Finset.range 32 else ∅
theorem L_of_ne (g : GSem nD τ sig) (h : g.1.2 ≠ .tc) : L g = ∅ := if_neg h
theorem L_tc (c : Dev nD) (sm : SemLoc sig) : L ((c : Thread nD τ), sm) = Finset.range 32 := if_pos rfl

def kLev : Kd → ℕ → ℕ
  | .rcv ρ _ _, s => 2 * time ρ s + 2
  | .grant ρ _, d => 2 * time ρ d + 3
  | .bar, _ => 1
  | _, _ => 0

/-- The level of a cell's wait at an index (a step). -/
def lv (g : GSem nD τ sig) (ι : ℕ) : ℕ := kLev (kindOf g.2) ι

theorem lv_snd (c : Dev nD) (ρ : Ring) (st : Dir) (σ : Fin 2) (ι : ℕ) : lv (sndC c ρ st σ) ι = 0 := by
  show kLev (kindOf (.dma (sendSem ρ st σ))) ι = _; rw [kind_snd]; rfl
theorem lv_rcv (c : Dev nD) (ρ : Ring) (st : Dir) (σ : Fin 2) (ι : ℕ) : lv (rcvC c ρ st σ) ι = 2 * time ρ ι + 2 := by
  show kLev (kindOf (.dma (recvSem ρ st σ))) ι = _; rw [kind_rcv]; rfl
theorem lv_gr (c : Dev nD) (ρ : Ring) (st : Dir) (ι : ℕ) : lv (grC c ρ st) ι = 2 * time ρ ι + 3 := by
  show kLev (kindOf (.reg (credSem ρ st))) ι = _; rw [kind_grant]; rfl
theorem lv_bar (c : Dev nD) (ι : ℕ) : lv (barC c) ι = 1 := rfl

/-- Everything owed lies above level `b`. -/
def Above (b : ℕ) (D : CellTallies nD τ sig ℕ) : Prop := ∀ (g : GSem nD τ sig) (ι : ℕ), 0 < D g ι → ι ∈ L g ∧ b < lv g ι

theorem Above.zero (b : ℕ) : Above b 0 := fun g ι h => absurd h (Nat.lt_irrefl 0)
theorem Above.add {b : ℕ} {D E : CellTallies nD τ sig ℕ} (hD : Above b D) (hE : Above b E) : Above b (D + E) := fun g ι h => by
  rw [Pi.add_apply, Finsupp.add_apply] at h
  rcases Nat.eq_zero_or_pos (D g ι) with h0 | h0
  · exact hE g ι (by omega)
  · exact hD g ι h0
theorem Above.mono {b b' : ℕ} {D : CellTallies nD τ sig ℕ} (h : b' ≤ b) (hD : Above b D) : Above b' D :=
  fun g ι hg => ⟨(hD g ι hg).1, lt_of_le_of_lt h (hD g ι hg).2⟩
theorem Above.sum {I : Type} {b : ℕ} (S : Finset I) (D : I → CellTallies nD τ sig ℕ) (h : ∀ i ∈ S, Above b (D i)) :
    Above b (∑ i ∈ S, D i) := by
  classical
  induction S using Finset.induction_on with
  | empty => rw [Finset.sum_empty]; exact Above.zero b
  | insert i S hi ih =>
    rw [Finset.sum_insert hi]
    exact (h i (Finset.mem_insert_self _ _)).add (ih fun j hj => h j (Finset.mem_insert_of_mem hj))
theorem Above.tally {b : ℕ} {c : Dev nD} {sm : SemLoc sig} {ι n : ℕ} (hι : ι < 32) (h : b < lv ((c : Thread nD τ), sm) ι) :
    Above b (tallyAt ((c : Thread nD τ), sm) ι n) := fun g ι' hg => by
  rw [tallyAt_apply] at hg
  by_cases he : g = ((c : Thread nD τ), sm) ∧ ι' = ι
  · obtain ⟨rfl, rfl⟩ := he
    exact ⟨by rw [L_tc]; exact Finset.mem_range.mpr hι, h⟩
  · rw [if_neg he] at hg; exact absurd hg (Nat.lt_irrefl 0)

theorem mayWait {b : ℕ} {D : CellTallies nD τ sig ℕ} (hD : Above b D) (c : Dev nD) (sm : SemLoc sig) (ι : ℕ) (hι : ι < 32)
    (h : lv ((c : Thread nD τ), sm) ι ≤ b) : (levAts L lv : sProp 𝕄) ⊢ MayWait (c : Thread nD τ) sm ι D :=
  MayOwe.of_cut (L := L) (lev := lv) b
    (fun p hp => by rw [Finset.mem_singleton.mp hp, L_tc]; exact Finset.mem_range.mpr hι)
    (fun g ι hg => (hD g ι hg).1)
    (fun p hp => by rw [Finset.mem_singleton.mp hp]; exact h)
    (fun g ι hg => (hD g ι hg).2)

/-! ## What a device owes -/

/-- A stream's copy of step `s`, owed to the neighbour's receive cell, -/
def rcvT (c : Dev nD) (ρ : Ring) (st : Dir) (s : ℕ) : CellTallies nD τ sig ℕ := tallyAt (rcvC (nxt ρ st c) ρ st (par s)) s (N ρ st)
/-- its grant after step `s`, owed to the other neighbour's grant cell, -/
def grT (c : Dev nD) (ρ : Ring) (st : Dir) (s : ℕ) : CellTallies nD τ sig ℕ :=
  if s + 2 < total ρ then tallyAt (grC (prv ρ st c) ρ st) s 1 else 0
/-- the copies from step `s` on, -/
def owesR (c : Dev nD) (ρ : Ring) (st : Dir) (s : ℕ) : CellTallies nD τ sig ℕ := ∑ s' ∈ Finset.Ico s (total ρ), rcvT c ρ st s'
/-- and the grants. -/
def owesG (c : Dev nD) (ρ : Ring) (st : Dir) (s : ℕ) : CellTallies nD τ sig ℕ := ∑ s' ∈ Finset.Ico s (total ρ), grT c ρ st s'

theorem owesR_succ (c : Dev nD) (ρ : Ring) (st : Dir) {s : ℕ} (hs : s < total ρ) : owesR c ρ st s = rcvT c ρ st s + owesR c ρ st (s + 1) :=
  Finset.sum_eq_sum_Ico_succ_bot hs _
theorem owesG_succ (c : Dev nD) (ρ : Ring) (st : Dir) {s : ℕ} (hs : s < total ρ) : owesG c ρ st s = grT c ρ st s + owesG c ρ st (s + 1) :=
  Finset.sum_eq_sum_Ico_succ_bot hs _

theorem total_lt (ρ : Ring) : total ρ < 32 := by cases ρ <;> decide

theorem time_le {ρ : Ring} {s s' : ℕ} (h : s ≤ s') : time ρ s ≤ time ρ s' := by
  rcases Nat.lt_or_eq_of_le h with h | rfl
  · exact (time_lt h).le
  · exact le_rfl

theorem above_owesR (c : Dev nD) (ρ : Ring) (st : Dir) (s b : ℕ) (hb : s < total ρ → b < 2 * time ρ s + 2) : Above b (owesR c ρ st s) :=
  Above.sum _ _ fun s' hs' => by
    obtain ⟨h1, h2⟩ := Finset.mem_Ico.mp hs'
    refine Above.tally (h2.trans (total_lt ρ)) ?_
    rw [lv_rcv]; have := time_le (ρ := ρ) h1; have := hb (lt_of_le_of_lt h1 h2); omega
theorem above_grT (c : Dev nD) (ρ : Ring) (st : Dir) (s b : ℕ) (hs : s < total ρ) (hb : b < 2 * time ρ s + 3) : Above b (grT c ρ st s) := by
  unfold grT; split_ifs
  · exact Above.tally (hs.trans (total_lt ρ)) (by rw [lv_gr]; exact hb)
  · exact Above.zero b
theorem above_owesG (c : Dev nD) (ρ : Ring) (st : Dir) (s b : ℕ) (hb : s < total ρ → b < 2 * time ρ s + 3) : Above b (owesG c ρ st s) :=
  Above.sum _ _ fun s' hs' => by
    obtain ⟨h1, h2⟩ := Finset.mem_Ico.mp hs'
    exact above_grT c ρ st s' b h2 (by have := time_le (ρ := ρ) h1; have := hb (lt_of_le_of_lt h1 h2); omega)

end Cert.Hier

end
-- ==== Proof.Lane.lean ====
/-
# A stream's step

One device's part of one stream at a symbolic step: what it holds before, and the rules for the start of a copy
(`start_rule`) and for its end (`finish_rule`).
-/
module

public import proofs.«01_k».proof.Proof.Protocol
public import Idealize.SL.BI.BigOpNat

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

abbrev 𝒱₀ : Variants := Variants.none

/-- A program's weakest precondition on a device. -/
abbrev WP (c : Dev nD) (p : Prog (TpuEff nD τ sig (Elt F) Λ₀ .tc) PUnit) (Kt : PUnit → sProp 𝕄) : sProp 𝕄 :=
  wp frame (wpE (defs₀ (F := F)) 𝒱₀ (c : Thread nD τ) none) Set.univ p Kt

theorem WP_bind (c : Dev nD) (p : Prog (TpuEff nD τ sig (Elt F) Λ₀ .tc) PUnit)
    (k : PUnit → Prog (TpuEff nD τ sig (Elt F) Λ₀ .tc) PUnit) (Kt : PUnit → sProp 𝕄) :
    WP c (p >>= k) Kt = WP c p (fun x => WP c (k x) Kt) := wp_bind ..

theorem WP_ret (c : Dev nD) (Kt : PUnit → sProp 𝕄) :
    WP c (.ret ⟨⟩ : Prog (TpuEff nD τ sig (Elt F) Λ₀ .tc) PUnit) Kt = iprop(|={Set.univ}=> Kt ⟨⟩) := wp_ret ..

/-! ## What every device knows -/

/-- The semaphores that talk: sixteen of copies, four of grants, the barrier's. -/
def ksem (i : Fin 21) : SemLoc sig := if h : i.val < 16 then .dma ⟨3 + i.val, by show 3 + i.val < 19; omega⟩ else .reg ⟨i.val - 16, by show i.val - 16 < 5; omega⟩

abbrev kcell (x : Dev nD × Fin 21) : GSem nD τ sig := ((x.1 : Thread nD τ), ksem x.2)

theorem ksem_snd (ρ : Ring) (st : Dir) (σ : Fin 2) : ∃ i, ksem i = .dma (sendSem ρ st σ) := by
  cases ρ <;> cases st <;> fin_cases σ
  exacts [⟨0, rfl⟩, ⟨1, rfl⟩, ⟨4, rfl⟩, ⟨5, rfl⟩, ⟨8, rfl⟩, ⟨9, rfl⟩, ⟨12, rfl⟩, ⟨13, rfl⟩]
theorem ksem_rcv (ρ : Ring) (st : Dir) (σ : Fin 2) : ∃ i, ksem i = .dma (recvSem ρ st σ) := by
  cases ρ <;> cases st <;> fin_cases σ
  exacts [⟨2, rfl⟩, ⟨3, rfl⟩, ⟨6, rfl⟩, ⟨7, rfl⟩, ⟨10, rfl⟩, ⟨11, rfl⟩, ⟨14, rfl⟩, ⟨15, rfl⟩]
theorem ksem_gr (ρ : Ring) (st : Dir) : ∃ i, ksem i = .reg (credSem ρ st) := by
  cases ρ <;> cases st
  exacts [⟨16, rfl⟩, ⟨17, rfl⟩, ⟨18, rfl⟩, ⟨19, rfl⟩]
theorem ksem_bar : ksem 20 = .reg barSem := rfl

/-- The slot that a key names: it lies on the writer's neighbour. -/
def slotOf (k : Key) : sProp 𝕄 := slotAt (nxt k.2.1 k.2.2.1 k.1) k.2.1 k.2.2.1 k.2.2.2

instance slotOf_storable (k : Key) : BI.Storable (upEmb : UEmb _ 𝕄) (slotOf (F := F) k) := by unfold slotOf; infer_instance

theorem slot_nonempty (ρ : Ring) (st : Dir) (σ : Fin 2) : (slotM ρ st σ).view.set.Nonempty :=
  View.set_nonempty (by cases ρ <;> decide)

theorem slotOf_excl (k : Key) : iprop(slotOf k ∗ slotOf k) ⊢ (False : sProp 𝕄) := slot_slot_false (slot_nonempty _ _ _)

section

variable (X₀ : Dev nD → OC F)

/-- The levels, every cell's invariant and start, and every slot's invariant. -/
def know : sProp 𝕄 :=
  iprop(levAts L lv
    ∗ bigSep Finset.univ (fun x : Dev nD × Fin 21 => iprop((∃ κ, cellInv ER (Rd X₀) κ (kcell x)) ∗ reached ER (kcell x) 0))
    ∗ bigSep Finset.univ (fun k : Key => iprop(∃ ι, slotInv ES ι k (slotOf k))))

instance know_persistent : BI.Persistent (know X₀ : sProp 𝕄) := by unfold know; infer_instance

theorem know_may {b : ℕ} {D : CellTallies nD τ sig ℕ} (hD : Above b D) (c : Dev nD) (sm : SemLoc sig) (ι : ℕ) (hι : ι < 32)
    (h : lv ((c : Thread nD τ), sm) ι ≤ b) : know X₀ ⊢ (MayWait (c : Thread nD τ) sm ι D : sProp 𝕄) := by
  unfold know; iintro ⟨H, -, -⟩
  iapply (mayWait hD c sm ι hι h); iexact H
theorem know_cell (c : Dev nD) (sm : SemLoc sig) (h : ∃ i, ksem i = sm) :
    know X₀ ⊢ (iprop((∃ κ, cellInv ER (Rd X₀) κ ((c : Thread nD τ), sm)) ∗ reached ER ((c : Thread nD τ), sm) 0) : sProp 𝕄) := by
  obtain ⟨i, rfl⟩ := h
  have h : (bigSep Finset.univ (fun x : Dev nD × Fin 21 => (iprop((∃ κ, cellInv ER (Rd X₀) κ (kcell x)) ∗ reached ER (kcell x) 0) : sProp 𝕄)))
      ⊢ iprop((∃ κ, cellInv ER (Rd X₀) κ (kcell (c, i))) ∗ reached ER (kcell (c, i)) 0) := bigSep_elim (Finset.mem_univ ((c, i) : Dev nD × Fin 21))
  unfold know; iintro ⟨-, H, -⟩
  iapply h; iexact H
theorem know_slot (k : Key) : know X₀ ⊢ (iprop(∃ ι, slotInv ES ι k (slotOf k)) : sProp 𝕄) := by
  have h : (bigSep Finset.univ (fun k : Key => (iprop(∃ ι, slotInv ES ι k (slotOf k)) : sProp 𝕄))) ⊢ iprop(∃ ι, slotInv ES ι k (slotOf k)) :=
    bigSep_elim (Finset.mem_univ k)
  unfold know; iintro ⟨-, -, H⟩
  iapply h; iexact H

/-- What a device owes, whatever it has waited for. -/
def Ow (c : Dev nD) (D : CellTallies nD τ sig ℕ) : sProp 𝕄 := iprop(∃ W, owes (c : Thread nD τ) D W)

/-! ## The grants -/

/-- The grant cell after `m` grants received. -/
def grSt (c : Dev nD) (ρ : Ring) (st : Dir) (m : ℕ) : sProp 𝕄 :=
  if m = total ρ - 2 then atPos ER (grC c ρ st) 1 ∅ 0
  else iprop(∃ S : Finset ℕ, ⌜S ⊆ Finset.range (total ρ - 2) ∧ m ≤ S.card⌝ ∗ atPos ER (grC c ρ st) 0 S m
    ∗ bigSep S (fun d => grantPay c ρ st d))

/-- The credit for one grant. -/
def gcred (c : Dev nD) (ρ : Ring) (st : Dir) (s : ℕ) : sProp 𝕄 :=
  if s + 2 < total ρ then cred (tallyAt (grC c ρ st) s 1) else iprop(emp)

instance grantPay_persistent (c : Dev nD) (ρ : Ring) (st : Dir) (d : ℕ) : BI.Persistent (grantPay (F := F) c ρ st d) := by
  unfold grantPay; infer_instance
instance openPay_persistent (c : Dev nD) (ρ : Ring) (st : Dir) : BI.Persistent (openPay (F := F) c ρ st) := by
  unfold openPay; infer_instance

/-- Of more than `m` different numbers one is `m` or more. -/
theorem exists_late {S : Finset ℕ} {m : ℕ} (h : m + 1 ≤ S.card) : ∃ d ∈ S, m ≤ d := by
  by_contra hn
  push Not at hn
  have : S ⊆ Finset.range m := fun d hd => Finset.mem_range.mpr (hn d hd)
  have := Finset.card_le_card this
  rw [Finset.card_range] at this; omega

theorem grants_elim (c : Dev nD) (ρ : Ring) (st : Dir) {S : Finset ℕ} {d : ℕ} (hd : d ∈ S) :
    (bigSep S (fun d => grantPay c ρ st d) : sProp 𝕄) ⊢ grantPay c ρ st d := bigSep_elim hd
theorem pays_elim (c : Dev nD) (ρ : Ring) (st : Dir) {S : Finset ℕ} {d : ℕ} (hd : d ∈ S) :
    (bigSep S (fun d => (Rd X₀).payload (grC c ρ st) 0 d) : sProp 𝕄) ⊢ grantPay c ρ st d := by
  rw [← pay_gr X₀ c ρ st 0 d]; exact bigSep_elim (Φ := fun d => (Rd X₀).payload (grC c ρ st) 0 d) hd

/-- One wait for a grant. -/
theorem grant_rule (c : Dev nD) (ρ : Ring) (st : Dir) (m : ℕ) (hm : m + 2 < total ρ) (D : CellTallies nD τ sig ℕ)
    (hD : Above (2 * time ρ m + 3) D) (Kt : PUnit → sProp 𝕄) :
    iprop(know X₀ ∗ grSt c ρ st m ∗ cred (tallyAt (grC c ρ st) m 1) ∗ Ow c D)
      ⊢ iprop((grSt c ρ st (m + 1) ∗ (∃ d, ⌜m ≤ d⌝ ∗ grantPay c ρ st d) ∗ Ow c D -∗ Kt ⟨⟩)
          -∗ WP c (semWaitWord (credSem ρ st) 1#32) Kt) := by
  unfold Ow grSt
  rw [if_neg (show m ≠ total ρ - 2 by omega)]
  simp only [semWaitWord]
  iintro ⟨#Hk, Hg, Hc, ⟨%W, HO⟩⟩ HK
  ihave #Hc' := (know_cell X₀ c _ (ksem_gr ρ st)) $$ Hk
  icases Hc' with ⟨⟨%κ, #Hi⟩, -⟩
  icases Hg with ⟨%S, %hS, Hat, #Hp⟩
  obtain ⟨hS1, hS2⟩ := hS
  by_cases hl : m + 1 = total ρ - 2
  · rw [if_pos hl]
    iapply (Rounds.wp_wait_rest_token 𝒱₀ ER (Rd X₀) (c : Thread nD τ) none (κ := κ)
      (wpE_semWait_eq 𝒱₀ (c : Thread nD τ) none Set.univ) (Set.mem_univ _) m (O := D) (W := W) (R := 0) (m := m) (T := S)
      (by rw [expect_gr]; exact hl)) $$ [Hc HO Hat]
    · isplitr; · iexact Hi
      isplitl [Hc]; · iexact Hc
      isplitl [HO]; · iexact HO
      isplitr; · iapply (know_may X₀ hD c (.reg (credSem ρ st)) m (by have := total_lt ρ; omega) (le_of_eq (lv_gr c ρ st m))); iexact Hk
      iexact Hat
    iintro ⟨HO, Hat, -, Hpay⟩
    rw [wp_ret]; imodintro
    iapply HK
    isplitl [Hat]; · iexact Hat
    isplitl [Hpay]
    · obtain ⟨d, hd, hmd⟩ := exists_late (S := Finset.range (total ρ - 2)) (m := m) (by rw [Finset.card_range]; omega)
      iexists d
      isplitr; · ipureintro; exact hmd
      rw [duties_gr]
      by_cases hdS : d ∈ S
      · iapply (grants_elim c ρ st hdS); iexact Hp
      · iapply (pays_elim X₀ c ρ st (Finset.mem_sdiff.mpr ⟨hd, hdS⟩)); iexact Hpay
    iexists _; iexact HO
  · rw [if_neg hl]
    iapply (Rounds.wp_wait 𝒱₀ ER (Rd X₀) (c : Thread nD τ) none (κ := κ)
      (wpE_semWait_eq 𝒱₀ (c : Thread nD τ) none Set.univ) (Set.mem_univ _) (cr := Finsupp.single m 1) (O := D) (W := W)
      {(SemLoc.reg (credSem ρ st), m)} (R := 0) (m := m) (T := S)
      (by rw [Util.total_single]; decide) (image_single_subset _ m 1)) $$ [Hc HO Hat]
    · isplitr; · iexact Hi
      isplitl [Hc]; · iexact Hc
      isplitl [HO]; · iexact HO
      isplitr; · iapply (know_may X₀ hD c (.reg (credSem ρ st)) m (by have := total_lt ρ; omega) (le_of_eq (lv_gr c ρ st m))); iexact Hk
      iexact Hat
    iintro %S' ⟨%hS', HO, Hat, Hpay⟩
    obtain ⟨h1, h2, h3⟩ := hS'
    rw [duties_gr] at h2 h3
    rw [expect_gr, Finset.card_sdiff_of_subset h2, Finset.card_range] at h3
    have h3' : m + 1 + (total ρ - 2 - S'.card) ≤ total ρ - 2 := h3
    have hcard : m + 1 ≤ S'.card := by omega
    have hjoin : iprop(bigSep S (fun d => grantPay (F := F) c ρ st d) ∗ bigSep (S' \ S) (fun d => (Rd X₀).payload (grC c ρ st) 0 d))
        ⊢ bigSep S' (fun d => grantPay (F := F) c ρ st d) := by
      rw [bigSep_sdiff_split h1, bigSep_congr (fun d _ => pay_gr X₀ c ρ st 0 d)]
      exact BI.Entails.refl _
    ihave #Hp' := hjoin $$ [Hpay]
    · isplitr; · iexact Hp
      iexact Hpay
    rw [wp_ret]; imodintro
    iapply HK
    isplitl [Hat]
    · iexists S'
      isplitr; · ipureintro; exact ⟨h2, hcard⟩
      isplitl [Hat]; · iexact Hat
      iexact Hp'
    isplitr
    · obtain ⟨d, hd, hmd⟩ := exists_late hcard
      iexists d
      isplitr; · ipureintro; exact hmd
      iapply (grants_elim c ρ st hd); iexact Hp'
    iexists _; iexact HO

/-- A late enough grant frees the slot of step `s`. -/
theorem grant_use (c : Dev nD) (ρ : Ring) (st : Dir) (s d : ℕ) (hs : 2 ≤ s) (hd : s - 2 ≤ d) :
    grantPay (F := F) c ρ st d
      ⊢ iprop(released ES ((c, ρ, st, par s) : Key) (s / 2 + 1) ∗ reached ER (rcvC (nxt ρ st c) ρ st (par s)) (s / 2)) := by
  unfold grantPay
  iintro ⟨#H1, #H2, #H3, #H4⟩
  by_cases hp : d % 2 = s % 2
  · have e : par d = par s := Fin.ext hp
    rw [e]
    isplitr
    · iapply (released_mono (E := ES) (show s / 2 + 1 ≤ d / 2 + 2 by omega)); iexact H1
    · iapply (reached_mono ER (show s / 2 ≤ d / 2 + 1 by omega)); iexact H2
  · have e : par (d + 1) = par s := Fin.ext (by show (d + 1) % 2 = s % 2; omega)
    rw [e]
    isplitr
    · iapply (released_mono (E := ES) (show s / 2 + 1 ≤ (d + 1) / 2 + 1 by omega)); iexact H3
    · iapply (reached_mono ER (show s / 2 ≤ (d + 1) / 2 by omega)); iexact H4

/-! ## The start of a copy -/

/-- What a stream's start of step `s` needs for its part. -/
def startPre (c : Dev nD) (ρ : Ring) (st : Dir) (s : ℕ) : sProp 𝕄 :=
  iprop(dutyTok ER (sndC c ρ st (par s)) (s / 2) 0 ∗ dutyTok ER (rcvC (nxt ρ st c) ρ st (par s)) (s / 2) 0
    ∗ writeTok ES ((c, ρ, st, par s) : Key) (s / 2 + 1))

/-- The grant that step `s` waits for, if any: after it the slot is free. -/
theorem free_rule (c : Dev nD) (ρ : Ring) (st : Dir) (s : ℕ) (hs : s < total ρ) (D : CellTallies nD τ sig ℕ)
    (hD : 2 ≤ s → Above (2 * time ρ (s - 2) + 3) D) (Kt : PUnit → sProp 𝕄) :
    iprop(know X₀ ∗ openPay c ρ st ∗ grSt c ρ st (s - 2) ∗ bigSep (Finset.Ico (s - 2) (total ρ)) (gcred c ρ st) ∗ Ow c D)
      ⊢ iprop((grSt c ρ st (s + 1 - 2) ∗ bigSep (Finset.Ico (s + 1 - 2) (total ρ)) (gcred c ρ st) ∗ Ow c D
              ∗ released ES ((c, ρ, st, par s) : Key) (s / 2 + 1) ∗ reached ER (rcvC (nxt ρ st c) ρ st (par s)) (s / 2) -∗ Kt ⟨⟩)
          -∗ WP c (if 2 ≤ s then semWaitWord (credSem ρ st) 1#32 else pure ⟨⟩) Kt) := by
  by_cases h2 : 2 ≤ s
  · rw [if_pos h2, bigSep_Ico_succ_bot (show s - 2 < total ρ by omega)]
    have e : s + 1 - 2 = s - 2 + 1 := by omega
    rw [e]
    have eg : gcred (F := F) c ρ st (s - 2) = cred (tallyAt (grC c ρ st) (s - 2) 1) := if_pos (by omega)
    rw [eg]
    iintro ⟨#Hk, -, Hg, ⟨Hc, Hcs⟩, HO⟩ HK
    iapply (grant_rule X₀ c ρ st (s - 2) (by omega) D (hD h2)) $$ [Hg Hc HO]
    · isplitr; · iexact Hk
      isplitl [Hg]; · iexact Hg
      isplitl [Hc] <;> iassumption
    iintro ⟨Hg, ⟨%d, %hd, #Hp⟩, HO⟩
    iapply HK
    isplitl [Hg]; · iexact Hg
    isplitl [Hcs]; · iexact Hcs
    isplitl [HO]; · iexact HO
    iapply (grant_use c ρ st s d h2 hd); iexact Hp
  · rw [if_neg h2]
    have e1 : s - 2 = 0 := by omega
    have e2 : s + 1 - 2 = 0 := by omega
    have e3 : s / 2 = 0 := by omega
    rw [e1, e2, e3]
    iintro ⟨#Hk, #Hopen, Hg, Hcs, HO⟩ HK
    rw [Prog.pure_eq_ret, WP_ret]; imodintro
    iapply HK
    isplitl [Hg]; · iexact Hg
    isplitl [Hcs]; · iexact Hcs
    isplitl [HO]; · iexact HO
    isplitr
    · unfold openPay
      icases Hopen with ⟨H0, H1⟩
      rcases Nat.lt_or_ge s 1 with h | h
      · have e : par s = 0 := Fin.ext (by show s % 2 = 0; omega)
        rw [e]; iexact H0
      · have e : par s = 1 := Fin.ext (by show s % 2 = 1; omega)
        rw [e]; iexact H1
    · ihave #Hc := (know_cell X₀ (nxt ρ st c) _ (ksem_rcv ρ st (par s))) $$ Hk
      icases Hc with ⟨-, H⟩; iexact H

theorem slotHas_intro (c : Dev nD) (ρ : Ring) (st : Dir) (σ : Fin 2) (w : (SC ρ).Idx → Elt F .f32)
    (f : Buf (Elt F) ((slotM ρ st σ).view.loc (c : Thread nD τ))) (h : (slotM ρ st σ).view.read (Elt F) f = w) :
    ((slotM ρ st σ).view.loc (c : Thread nD τ) ↦[(slotM ρ st σ).view.set]{fullShare} f) ⊢ (slotHas c ρ st σ w : sProp 𝕄) := by
  unfold slotHas
  iintro H
  iexists f
  isplitr; · ipureintro; exact h
  iexact H

theorem prv_nxt' (ρ : Ring) (st : Dir) (c : Dev nD) : prv ρ st (nxt ρ st c) = c := prv_nxt ρ st c

/-- The copy that starts a stream's step. -/
def sendP (so : Ring → Dir → ℕ → Dev nD → Fin 2 → ℕ)
    (hso : ∀ ρ st s c, ∀ a, so ρ st s c a + (SC ρ).size a ≤ S1024x1024.size a) (sd : Ring → Dir → ℕ → Dev nD → Dev nD)
    (ρ : Ring) (st : Dir) (s : ℕ) (c : Dev nD) : Prog (TpuEff nD τ sig (Elt F) Λ₀ .tc) PUnit :=
  Prog.lift (.enqueueDma (blkM ρ (so ρ st s c) (hso ρ st s c))
    (.remote (Dev.tc (sd ρ st s c)) (slotM ρ st (par s)) (.dma (sendSem ρ st (par s)))) (.dma (recvSem ρ st (par s)))
    (View.wordExact_bits rfl) ((View.wordExact_bits rfl).reshape _ _) ⟨⟨rfl, Or.inl rfl⟩, trivial⟩)

theorem startP_eq (so : Ring → Dir → ℕ → Dev nD → Fin 2 → ℕ)
    (hso : ∀ ρ st s c, ∀ a, so ρ st s c a + (SC ρ).size a ≤ S1024x1024.size a) (sd : Ring → Dir → ℕ → Dev nD → Dev nD)
    (ρ : Ring) (st : Dir) (s : ℕ) (c : Dev nD) :
    startP (F := F) so hso sd ρ st s c
      = ((if 2 ≤ s then semWaitWord (credSem ρ st) 1#32 else pure ⟨⟩) >>= fun _ => sendP so hso sd ρ st s c) := by
  unfold startP sendP; split <;> rfl

/-- The start of the copy of step `s`. -/
theorem start_rule (c : Dev nD) (ρ : Ring) (st : Dir) (s : ℕ) (hs : s < total ρ) (D : CellTallies nD τ sig ℕ)
    (hD : 2 ≤ s → Above (2 * time ρ (s - 2) + 3) (D + rcvT c ρ st s)) (Kt : PUnit → sProp 𝕄) :
    iprop(know X₀ ∗ openPay c ρ st ∗ grSt c ρ st (s - 2) ∗ bigSep (Finset.Ico (s - 2) (total ρ)) (gcred c ρ st)
        ∗ reached ER (sndC c ρ st (par s)) (s / 2) ∗ startPre c ρ st s
        ∗ oPts c (sSet ρ st s c) (O X₀ (time ρ s) c) ∗ Ow c (D + rcvT c ρ st s))
      ⊢ iprop((grSt c ρ st (s + 1 - 2) ∗ bigSep (Finset.Ico (s + 1 - 2) (total ρ)) (gcred c ρ st)
              ∗ cred (tallyAt (sndC c ρ st (par s)) 0 (N ρ st)) ∗ Ow c D -∗ Kt ⟨⟩)
          -∗ WP c (startP sOff sOff_inb (fun ρ st _ c => nxt ρ st c) ρ st s c) Kt) := by
  unfold startPre
  rw [startP_eq, WP_bind]
  iintro ⟨#Hk, #Hopen, Hg, Hcs, #Hrs, ⟨Hts, Htr, Hw⟩, Hsrc, HO⟩ HK
  iapply (free_rule X₀ c ρ st s hs _ hD) $$ [Hg Hcs HO]
  · isplitr; · iexact Hk
    isplitr; · iexact Hopen
    isplitl [Hg]; · iexact Hg
    isplitl [Hcs] <;> iassumption
  iintro ⟨Hg, Hcs, HO, #Hrel, #Hrr⟩
  ihave #Hsl := (know_slot X₀ (c, ρ, st, par s)) $$ Hk
  icases Hsl with ⟨%ι, #Hsl⟩
  imod (slot_take ES (Set.mem_univ ι) (s / 2 + 1)) $$ [Hw] with Hdst
  · isplitr; · iexact Hsl
    isplitr; · iexact Hrel
    iexact Hw
  unfold slotOf slotAt slot
  icases Hdst with ⟨%fd, Hdst⟩
  ihave #Hc1 := (know_cell X₀ c _ (ksem_snd ρ st (par s))) $$ Hk
  icases Hc1 with ⟨⟨%κ₁, #Hi1⟩, -⟩
  ihave #Hc2 := (know_cell X₀ (nxt ρ st c) _ (ksem_rcv ρ st (par s))) $$ Hk
  icases Hc2 with ⟨⟨%κ₂, #Hi2⟩, -⟩
  unfold Ow
  icases HO with ⟨%W, HO⟩
  unfold sendP
  simp only [Prog.lift]
  iapply (Rounds.wp_send_pointsTo 𝒱₀ ER (Rd X₀) (c : Thread nD τ) none (κ₁ := κ₁) (κ₂ := κ₂)
    (r₁ := s / 2) (r₂ := s / 2) (d₁ := 0) (d₂ := 0) (fd := fd) (fs := O X₀ (time ρ s) c) (c' := (nxt ρ st c : Thread nD τ))
    (by rw [duties_snd X₀ c ρ st (par s) (half_lt hs)]; exact Finset.mem_singleton_self _)
    (by rw [duties_rcv X₀ (nxt ρ st c) ρ st (par s) (half_lt hs)]; exact Finset.mem_singleton_self _)
    s 0 (N ρ st) rfl (amount_snd X₀ c ρ st (par s) _ _) (amount_rcv X₀ _ ρ st (par s) _ _) D rfl (W := W)
    (by rw [pay_snd]; exact BI.Entails.refl _)
    (by rw [pay_rcv]; unfold rcvPay; rw [prv_nxt' ρ st c]; exact slotHas_intro _ _ _ _ _ _ (View.read_write_univ _ _))) $$ [Hsrc Hdst HO Hts Htr]
  · isplitr; · iexact Hi1
    isplitr; · iexact Hi2
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcr, HO⟩
  rw [wp_ret]; imodintro
  iapply HK
  isplitl [Hg]; · iexact Hg
  isplitl [Hcs]; · iexact Hcs
  isplitl [Hcr]; · iexact Hcr
  iexists W; iexact HO

end

end Cert.Hier

end
-- ==== Proof.Finish.lean ====
module

public import proofs.«01_k».proof.Proof.Lane
public import Idealize.SL.BI.BigOpNat

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Taking a block -/

/-- The elements of the block that a stream's step stores. -/
abbrev rSet (ρ : Ring) (st : Dir) (s : ℕ) (c : Dev nD) : Finset (Idx (oM.view.loc (c : Thread nD τ))) := (oM.access (rRect ρ st s c)).set

theorem slot_access_set (ρ : Ring) (st : Dir) (σ : Fin 2) : ((comm ρ st).access (slotRect ρ σ)).set = (slotM ρ st σ).view.set :=
  (View.set_reshape _ _).symm

/-- The step's loads and its store, on the device's own elements and the slot received. -/
theorem take_rule (c : Dev nD) (ρ : Ring) (st : Dir) (s : ℕ) (S : Finset (Idx (oM.view.loc (c : Thread nD τ)))) (X : OC F)
    (w : (SC ρ).Idx → Elt F .f32) (hr : rSet ρ st s c ⊆ S) (Kt : PUnit → sProp 𝕄) :
    iprop(oPts c S X ∗ slotHas c ρ st (par s) w)
      ⊢ iprop((oPts c S (put ρ st s c X w) ∗ slotAt c ρ st (par s) -∗ Kt ⟨⟩) -∗ WP c (takeP rOff rOff_inb ρ st s c) Kt) := by
  unfold slotHas
  iintro ⟨Ho, ⟨%f, %hf, Hf⟩⟩ HK
  subst hf
  unfold takeP
  by_cases hs : s < half ρ
  · rw [if_pos hs]
    simp only [Prog.lift, Prog.bind_op, Prog.bind_ret]
    iapply (wp_load_rect 𝒱₀ (c : Thread nD τ) none Set.univ (m := oM) hr) $$ Ho; iintro Ho
    iapply (wp_load_rect 𝒱₀ (c : Thread nD τ) none Set.univ (m := comm ρ st) (slot_access_set ρ st (par s)).subset) $$ Hf; iintro Hf
    iapply (wp_load_rect 𝒱₀ (c : Thread nD τ) none Set.univ (m := oM) hr) $$ Ho; iintro Ho
    iapply (wp_store 𝒱₀ (c : Thread nD τ) none Set.univ (m := oM) (r := rRect ρ st s c) (Mk := Finset.univ) hr) $$ Ho; iintro Ho
    rw [wp_ret]; imodintro
    iapply HK
    isplitl [Ho]
    · have e : put ρ st s c X ((slotM ρ st (par s)).view.read (Elt F) f)
          = (oM.access (rRect ρ st s c)).write (Elt F) X (addPay ρ ((oM.access (rRect ρ st s c)).read (Elt F) X)
              (((comm ρ st).access (slotRect ρ (par s))).read (Elt F) f)) Finset.univ := by
        unfold put kept; rw [if_pos hs]; rfl
      rw [e]; iexact Ho
    unfold slotAt slot; iexists f; iexact Hf
  · rw [if_neg hs]
    simp only [Prog.lift, Prog.bind_op, Prog.bind_ret]
    iapply (wp_load_rect 𝒱₀ (c : Thread nD τ) none Set.univ (m := comm ρ st) (slot_access_set ρ st (par s)).subset) $$ Hf; iintro Hf
    iapply (wp_load_rect 𝒱₀ (c : Thread nD τ) none Set.univ (m := oM) hr) $$ Ho; iintro Ho
    iapply (wp_store 𝒱₀ (c : Thread nD τ) none Set.univ (m := oM) (r := rRect ρ st s c) (Mk := Finset.univ) hr) $$ Ho; iintro Ho
    rw [wp_ret]; imodintro
    iapply HK
    isplitl [Ho]
    · have e : put ρ st s c X ((slotM ρ st (par s)).view.read (Elt F) f)
          = (oM.access (rRect ρ st s c)).write (Elt F) X (copyPay ρ (((comm ρ st).access (slotRect ρ (par s))).read (Elt F) f)) Finset.univ := by
        unfold put kept; rw [if_neg hs]; rfl
      rw [e]; iexact Ho
    unfold slotAt slot; iexists f; iexact Hf

/-! ## The end of a step -/

/-- The reader's side of slot `σ` after `n` of its uses: released for the next copy, or, after the last, held. -/
def rdSt (c : Dev nD) (ρ : Ring) (st : Dir) (σ : Fin 2) (n : ℕ) : sProp 𝕄 :=
  if n < rnds ρ then iprop(readerAt ES ((prv ρ st c, ρ, st, σ) : Key) (n + 1) ∗ released ES ((prv ρ st c, ρ, st, σ) : Key) (n + 1))
  else slotAt c ρ st σ

/-- A stream's cells and slot `σ` after `n` of their uses. -/
def slotSt (c : Dev nD) (ρ : Ring) (st : Dir) (σ : Fin 2) (n : ℕ) : sProp 𝕄 :=
  iprop(atPos ER (sndC c ρ st σ) n ∅ 0 ∗ reached ER (sndC c ρ st σ) n ∗ atPos ER (rcvC c ρ st σ) n ∅ 0 ∗ reached ER (rcvC c ρ st σ) n
    ∗ rdSt c ρ st σ n)

/-- The right to grant after step `s`, where there is one. -/
def grTok (c : Dev nD) (ρ : Ring) (st : Dir) (s : ℕ) : sProp 𝕄 :=
  if s + 2 < total ρ then dutyTok ER (grC (prv ρ st c) ρ st) 0 s else iprop(emp)

section

variable (X₀ : Dev nD → OC F)

theorem nxt_prv' (ρ : Ring) (st : Dir) (c : Dev nD) : nxt ρ st (prv ρ st c) = c := nxt_prv ρ st c

/-- The slot read is released and granted, or, near the end, kept. -/
theorem pass_rule (c : Dev nD) (ρ : Ring) (st : Dir) (s : ℕ) (hs : s < total ρ) (D : CellTallies nD τ sig ℕ) (Kt : PUnit → sProp 𝕄) :
    iprop(know X₀ ∗ slotAt c ρ st (par s) ∗ rdSt c ρ st (par s) (s / 2) ∗ reached ER (rcvC c ρ st (par s)) (s / 2 + 1)
        ∗ slotSt c ρ st (par (s + 1)) ((s + 1) / 2) ∗ grTok c ρ st s ∗ Ow c (D + grT c ρ st s))
      ⊢ iprop((rdSt c ρ st (par s) (s / 2 + 1) ∗ slotSt c ρ st (par (s + 1)) ((s + 1) / 2) ∗ Ow c D -∗ Kt ⟨⟩)
          -∗ WP c (if s + 2 < total ρ then semSignalWord (prv ρ st c) (credSem ρ st) 1#32 else pure ⟨⟩) Kt) := by
  have hev := total_even ρ
  by_cases h2 : s + 2 < total ρ
  · unfold rdSt slotSt grTok grT Ow
    rw [if_pos (show s / 2 < rnds ρ by omega), if_pos (show s / 2 + 1 < rnds ρ by omega), if_pos h2, if_pos h2, if_pos h2]
    unfold rdSt
    rw [if_pos (show (s + 1) / 2 < rnds ρ by omega)]
    simp only [semSignalWord]
    iintro ⟨#Hk, Hsl, ⟨Hrd, -⟩, #Hrv, ⟨Ha1, #Hr1, Ha2, #Hr2, Hrd2, #Hrel2⟩, Htok, ⟨%W, HO⟩⟩ HK
    ihave #Hi := (know_slot X₀ (prv ρ st c, ρ, st, par s)) $$ Hk
    icases Hi with ⟨%ι, #Hi⟩
    imod (slot_release ES (Set.mem_univ ι) (slotOf_excl _) (s / 2 + 1)) $$ [Hsl Hrd] with ⟨Hrd, #Hrel⟩
    · isplitr; · iexact Hi
      isplitl [Hrd]; · iexact Hrd
      unfold slotOf
      rw [nxt_prv' ρ st c]; iexact Hsl
    ihave #Hc := (know_cell X₀ (prv ρ st c) _ (ksem_gr ρ st)) $$ Hk
    icases Hc with ⟨⟨%κ, #Hg⟩, #Hg0⟩
    iapply (Rounds.wp_signal 𝒱₀ ER (Rd X₀) (c : Thread nD τ) none (dst := (prv ρ st c : Thread nD τ)) (κ := κ) (r := 0) (d := s)
      (by rw [duties_gr]; exact Finset.mem_range.mpr (by omega)) ((amount_gr X₀ (prv ρ st c) ρ st 0 s).trans (by decide)) s D rfl)
      $$ [HO Htok]
    · isplitr; · iexact Hg
      isplitl [HO]; · iexact HO
      isplitl [Htok]; · iexact Htok
      isplitr
      · rw [pay_gr]; unfold grantPay; rw [nxt_prv' ρ st c]
        isplitr; · iexact Hrel
        isplitr; · iexact Hrv
        isplitr; · iexact Hrel2
        iexact Hr2
      iexact Hg0
    iintro HO
    rw [wp_ret]; imodintro
    iapply HK
    isplitl [Hrd]
    · isplitl [Hrd]; · iexact Hrd
      iexact Hrel
    isplitr [HO]
    · isplitl [Ha1]; · iexact Ha1
      isplitr; · iexact Hr1
      isplitl [Ha2]; · iexact Ha2
      isplitr; · iexact Hr2
      isplitl [Hrd2]; · iexact Hrd2
      iexact Hrel2
    iexists W; iexact HO
  · unfold rdSt grT
    rw [if_neg (show ¬ s / 2 + 1 < rnds ρ by omega), if_neg h2, if_neg h2, add_zero, Prog.pure_eq_ret, WP_ret]
    iintro ⟨-, Hsl, -, -, Hs2, -, HO⟩ HK
    imodintro
    iapply HK
    isplitl [Hsl]; · iexact Hsl
    isplitl [Hs2]; · iexact Hs2
    iexact HO

theorem oPts_join (c : Dev nD) (S I : Finset (Idx (oM.view.loc (c : Thread nD τ)))) (X Y : OC F) (hd : Disjoint S I)
    (h : ∀ i ∈ I, Y i = X i) : iprop(oPts c S X ∗ oPts c I Y) ⊢ (oPts c (S ∪ I) X : sProp 𝕄) := by
  have e : (oPts c I Y : sProp 𝕄) = oPts c I X := pointsTo_congr h
  rw [e]
  exact (pointsTo_union hd).2

theorem rest_snd (c : Dev nD) (ρ : Ring) (st : Dir) (s : ℕ) (hs : s < total ρ) :
    (bigSep ((Rd X₀).duties (sndC c ρ st (par s)) (s / 2) \ ∅) (fun d => (Rd X₀).payload (sndC c ρ st (par s)) (s / 2) d) : sProp 𝕄)
      ⊢ oPts c (sSet ρ st s c) (O X₀ (time ρ s) c) := by
  rw [Finset.sdiff_empty, duties_snd X₀ c ρ st (par s) (half_lt hs), bigSep_singleton, pay_snd]
  exact BI.Entails.refl _
theorem rest_rcv (c : Dev nD) (ρ : Ring) (st : Dir) (s : ℕ) (hs : s < total ρ) :
    (bigSep ((Rd X₀).duties (rcvC c ρ st (par s)) (s / 2) \ ∅) (fun d => (Rd X₀).payload (rcvC c ρ st (par s)) (s / 2) d) : sProp 𝕄)
      ⊢ slotHas c ρ st (par s) (sent ρ st s (O X₀ (time ρ s) (prv ρ st c)) (prv ρ st c)) := by
  rw [Finset.sdiff_empty, duties_rcv X₀ c ρ st (par s) (half_lt hs), bigSep_singleton, pay_rcv]
  exact BI.Entails.refl _

/-- The end of step `s`: the own copy's source comes back, the neighbour's block is taken. -/
theorem finish_rule (c : Dev nD) (ρ : Ring) (st : Dir) (s : ℕ) (hs : s < total ρ) (D : CellTallies nD τ sig ℕ)
    (hD : Above (2 * time ρ s + 2) (D + grT c ρ st s)) (S : Finset (Idx (oM.view.loc (c : Thread nD τ)))) (X : OC F)
    (hdisj : Disjoint S (sSet ρ st s c)) (hX : ∀ i ∈ sSet ρ st s c, O X₀ (time ρ s) c i = X i)
    (hr : rSet ρ st s c ⊆ S ∪ sSet ρ st s c) (Kt : PUnit → sProp 𝕄) :
    iprop(know X₀ ∗ oPts c S X ∗ cred (tallyAt (sndC c ρ st (par s)) 0 (N ρ st)) ∗ cred (tallyAt (rcvC c ρ st (par s)) s (N ρ st))
        ∗ slotSt c ρ st (par s) (s / 2) ∗ slotSt c ρ st (par (s + 1)) ((s + 1) / 2) ∗ grTok c ρ st s ∗ Ow c (D + grT c ρ st s))
      ⊢ iprop((oPts c (S ∪ sSet ρ st s c) (put ρ st s c X (sent ρ st s (O X₀ (time ρ s) (prv ρ st c)) (prv ρ st c)))
              ∗ slotSt c ρ st (par s) (s / 2 + 1) ∗ slotSt c ρ st (par (s + 1)) ((s + 1) / 2) ∗ Ow c D -∗ Kt ⟨⟩)
          -∗ WP c (finishP sOff rOff sOff_inb rOff_inb (fun ρ st _ c => prv ρ st c) ρ st s c) Kt) := by
  conv_lhs => enter [2, 2, 2, 2, 1]; unfold slotSt
  unfold finishP
  simp only [Prog.lift, Prog.bind_op, Prog.bind_ret]
  iintro ⟨#Hk, Ho, Hcs, Hcr, ⟨Has, -, Har, -, Hrd⟩, Hs2, Htok, HO⟩ HK
  ihave #Hc1 := (know_cell X₀ c _ (ksem_snd ρ st (par s))) $$ Hk
  icases Hc1 with ⟨⟨%κ₁, #Hi1⟩, -⟩
  ihave #Hc2 := (know_cell X₀ c _ (ksem_rcv ρ st (par s))) $$ Hk
  icases Hc2 with ⟨⟨%κ₂, #Hi2⟩, -⟩
  unfold Ow
  icases HO with ⟨%W, HO⟩
  iapply (Rounds.wp_wait_rest_token 𝒱₀ ER (Rd X₀) (c : Thread nD τ) none (κ := κ₁)
    (wpE_waitDma2_eq 𝒱₀ (c : Thread nD τ) none Set.univ) (Set.mem_univ _) 0 (O := D + grT c ρ st s) (W := W) (R := s / 2) (m := 0) (T := ∅)
    (by rw [Nat.zero_add, expect_snd X₀ c ρ st (par s) (half_lt hs)])) $$ [Hcs HO Has]
  · isplitr; · iexact Hi1
    isplitl [Hcs]; · rw [N_blk ρ st _ _]; iexact Hcs
    isplitl [HO]; · iexact HO
    isplitr; · iapply (know_may X₀ hD c (.dma (sendSem ρ st (par s))) 0 (by decide) (by rw [lv_snd]; exact Nat.zero_le _)); iexact Hk
    iexact Has
  iintro ⟨HO, Has, #Hrs, Hpay⟩
  ihave Hpay := (rest_snd X₀ c ρ st s hs) $$ Hpay
  iapply (Rounds.wp_wait_rest_token 𝒱₀ ER (Rd X₀) (c : Thread nD τ) none (κ := κ₂)
    (wpE_waitDma2_eq 𝒱₀ (c : Thread nD τ) none Set.univ) (Set.mem_univ _) s (O := D + grT c ρ st s) (R := s / 2) (m := 0) (T := ∅)
    (by rw [Nat.zero_add, expect_rcv X₀ c ρ st (par s) (half_lt hs)])) $$ [Hcr HO Har]
  · isplitr; · iexact Hi2
    isplitl [Hcr]; · iexact Hcr
    isplitl [HO]; · iexact HO
    isplitr; · iapply (know_may X₀ hD c (.dma (recvSem ρ st (par s))) s (hs.trans (total_lt ρ)) (le_of_eq (lv_rcv c ρ st (par s) s))); iexact Hk
    iexact Har
  iintro ⟨HO, Har, #Hrr, Hslot⟩
  ihave Hslot := (rest_rcv X₀ c ρ st s hs) $$ Hslot
  ihave Ho := (oPts_join c S (sSet ρ st s c) X (O X₀ (time ρ s) c) hdisj hX) $$ [Ho Hpay]
  · isplitl [Ho]; · iexact Ho
    iexact Hpay
  rw [wp_bind]
  iapply (take_rule c ρ st s (S ∪ sSet ρ st s c) X _ hr) $$ [Ho Hslot]
  · isplitl [Ho]; · iexact Ho
    iexact Hslot
  iintro ⟨Ho, Hsl⟩
  iapply (pass_rule X₀ c ρ st s hs D) $$ [Hsl Hrd Hs2 Htok HO]
  · isplitr; · iexact Hk
    isplitl [Hsl]; · iexact Hsl
    isplitl [Hrd]; · iexact Hrd
    isplitr; · iexact Hrr
    isplitl [Hs2]; · iexact Hs2
    isplitl [Htok]; · iexact Htok
    unfold Ow; iexists _; iexact HO
  iintro ⟨Hrd, Hs2, HO⟩
  iapply HK
  isplitl [Ho]; · iexact Ho
  isplitr [Hs2 HO]
  · unfold slotSt
    isplitl [Has]; · iexact Has
    isplitr; · iexact Hrs
    isplitl [Har]; · iexact Har
    isplitr; · iexact Hrr
    iexact Hrd
  isplitl [Hs2]; · iexact Hs2
  unfold Ow; iexact HO

end

end Cert.Hier

end
-- ==== Proof.Step.lean ====
module

public import proofs.«01_k».proof.Proof.Finish
public import Idealize.SL.BI.BigOpNat

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## The two streams' blocks never meet -/

theorem sSet_disjoint (ρ : Ring) (s s' : ℕ) (c : Dev nD) : Disjoint (sSet ρ .r s c) (sSet ρ .l s' c) := by
  show Disjoint ((View.whole cc0_stg2_0).slice (blkRect ρ (sOff ρ .r s c) (sOff_inb ρ .r s c))).set
    ((View.whole cc0_stg2_0).slice (blkRect ρ (sOff ρ .l s' c) (sOff_inb ρ .l s' c))).set
  rw [View.set_slice_whole, View.set_slice_whole]
  refine Rect.disjoint_of_separated _ _ (1 : Fin 2) (Or.inl (Or.inr ?_))
  show 0 + 1 * ((SC ρ).size 1 - 1) < 512
  cases ρ <;> decide

theorem rSet_eq (ρ : Ring) (st : Dir) (s : ℕ) (c : Dev nD) : rSet ρ st s c = sSet ρ st (s + 1) c := rfl

theorem put_off (ρ : Ring) (st : Dir) (s : ℕ) (c : Dev nD) (X : OC F) (w : (SC ρ).Idx → Elt F .f32)
    (i : Idx (oM.view.loc (c : Thread nD τ))) (h : i ∉ rSet ρ st s c) : put ρ st s c X w i = X i :=
  View.write_of_not_mem _ _ _ h

/-! ## A stream between steps -/

/-- What a stream's step `s` spends: the rights of its copy, the credit of its neighbour's, the right to grant. -/
def ticket (c : Dev nD) (ρ : Ring) (st : Dir) (s : ℕ) : sProp 𝕄 :=
  iprop(startPre c ρ st s ∗ cred (tallyAt (rcvC c ρ st (par s)) s (N ρ st)) ∗ grTok c ρ st s)

/-- A device's part of a stream before step `s`. -/
def lane (c : Dev nD) (ρ : Ring) (st : Dir) (s : ℕ) : sProp 𝕄 :=
  iprop(openPay c ρ st ∗ grSt c ρ st (s - 2) ∗ bigSep (Finset.Ico (s - 2) (total ρ)) (gcred c ρ st)
    ∗ slotSt c ρ st (par s) (s / 2) ∗ slotSt c ρ st (par (s + 1)) ((s + 1) / 2)
    ∗ bigSep (Finset.Ico s (total ρ)) (ticket c ρ st))

/-- What it still owes. -/
def owesL (c : Dev nD) (ρ : Ring) (st : Dir) (s : ℕ) : CellTallies nD τ sig ℕ := owesR c ρ st s + owesG c ρ st s

theorem above_owesL (c : Dev nD) (ρ : Ring) (st : Dir) (s b : ℕ) (hb : s < total ρ → b < 2 * time ρ s + 2) : Above b (owesL c ρ st s) :=
  (above_owesR c ρ st s b hb).add (above_owesG c ρ st s b fun h => (hb h).trans (Nat.lt_succ_self _))

/-! ## One ring step -/

section

variable (X₀ : Dev nD → OC F)

theorem step_rule (c : Dev nD) (ρ : Ring) (s : ℕ) (hs : s < total ρ) (R : CellTallies nD τ sig ℕ) (hR : Above (2 * time ρ s + 2) R)
    (Kt : PUnit → sProp 𝕄) :
    iprop(know X₀ ∗ lane c ρ .r s ∗ lane c ρ .l s ∗ oPts c Finset.univ (O X₀ (time ρ s) c)
        ∗ Ow c (R + owesL c ρ .r s + owesL c ρ .l s))
      ⊢ iprop((lane c ρ .r (s + 1) ∗ lane c ρ .l (s + 1) ∗ oPts c Finset.univ (O X₀ (time ρ s + 1) c)
              ∗ Ow c (R + owesL c ρ .r (s + 1) + owesL c ρ .l (s + 1)) -∗ Kt ⟨⟩)
          -∗ WP c (stepP sOff rOff sOff_inb rOff_inb (fun ρ st _ c => nxt ρ st c) (fun ρ st _ c => prv ρ st c) ρ s c) Kt) := by
  have ht : time ρ s < time ρ (s + 1) := time_lt (Nat.lt_succ_self s)
  have ht2 (h : 2 ≤ s) : time ρ (s - 2) + 2 ≤ time ρ s := by
    have h1 : time ρ (s - 2) < time ρ (s - 1) := time_lt (by omega)
    have h2 : time ρ (s - 1) < time ρ s := time_lt (by omega)
    omega
  have hRst (st : Dir) : Above (2 * time ρ s + 2) (owesR c ρ st (s + 1)) := above_owesR c ρ st (s + 1) _ fun _ => by omega
  have hGst (st : Dir) : Above (2 * time ρ s + 2) (owesG c ρ st (s + 1)) := above_owesG c ρ st (s + 1) _ fun _ => by omega
  have hgst (st : Dir) : Above (2 * time ρ s + 2) (grT c ρ st s) := above_grT c ρ st s _ hs (by omega)
  have hrst (h : 2 ≤ s) (st : Dir) : Above (2 * time ρ (s - 2) + 3) (rcvT c ρ st s) :=
    Above.tally (hs.trans (total_lt ρ)) (by rw [lv_rcv]; have := ht2 h; omega)
  have hlow (h : 2 ≤ s) : 2 * time ρ (s - 2) + 3 ≤ 2 * time ρ s + 2 := by have := ht2 h; omega
  -- what is owed after each of the five moves
  have e0 : R + owesL c ρ .r s + owesL c ρ .l s
      = (R + (owesR c ρ .r (s + 1) + (grT c ρ .r s + owesG c ρ .r (s + 1)))
          + (rcvT c ρ .l s + owesR c ρ .l (s + 1) + (grT c ρ .l s + owesG c ρ .l (s + 1)))) + rcvT c ρ .r s := by
    unfold owesL; rw [owesR_succ c ρ .r hs, owesR_succ c ρ .l hs, owesG_succ c ρ .r hs, owesG_succ c ρ .l hs]; ac_rfl
  have e1 : (R + (owesR c ρ .r (s + 1) + (grT c ρ .r s + owesG c ρ .r (s + 1)))
          + (rcvT c ρ .l s + owesR c ρ .l (s + 1) + (grT c ρ .l s + owesG c ρ .l (s + 1))))
      = (R + (owesR c ρ .r (s + 1) + (grT c ρ .r s + owesG c ρ .r (s + 1)))
          + (owesR c ρ .l (s + 1) + (grT c ρ .l s + owesG c ρ .l (s + 1)))) + rcvT c ρ .l s := by ac_rfl
  have e2 : (R + (owesR c ρ .r (s + 1) + (grT c ρ .r s + owesG c ρ .r (s + 1)))
          + (owesR c ρ .l (s + 1) + (grT c ρ .l s + owesG c ρ .l (s + 1))))
      = (R + (owesR c ρ .r (s + 1) + owesG c ρ .r (s + 1))
          + (owesR c ρ .l (s + 1) + (grT c ρ .l s + owesG c ρ .l (s + 1)))) + grT c ρ .r s := by ac_rfl
  have e3 : (R + (owesR c ρ .r (s + 1) + owesG c ρ .r (s + 1))
          + (owesR c ρ .l (s + 1) + (grT c ρ .l s + owesG c ρ .l (s + 1))))
      = (R + owesL c ρ .r (s + 1) + owesL c ρ .l (s + 1)) + grT c ρ .l s := by unfold owesL; ac_rfl
  have hA2 : Above (2 * time ρ s + 2) ((R + (owesR c ρ .r (s + 1) + (grT c ρ .r s + owesG c ρ .r (s + 1)))
          + (owesR c ρ .l (s + 1) + (grT c ρ .l s + owesG c ρ .l (s + 1))))) :=
    (hR.add ((hRst .r).add ((hgst .r).add (hGst .r)))).add ((hRst .l).add ((hgst .l).add (hGst .l)))
  have hA1 (h : 2 ≤ s) := (hA2.mono (hlow h)).add (hrst h .l)
  rw [← e1] at hA1
  have hA0 (h : 2 ≤ s) := (hA1 h).add (hrst h .r)
  have hA3 : Above (2 * time ρ s + 2) ((R + (owesR c ρ .r (s + 1) + owesG c ρ .r (s + 1))
          + (owesR c ρ .l (s + 1) + (grT c ρ .l s + owesG c ρ .l (s + 1))))) :=
    (hR.add ((hRst .r).add (hGst .r))).add ((hRst .l).add ((hgst .l).add (hGst .l)))
  -- the blocks
  have hrl : Disjoint (sSet ρ .r s c) (sSet ρ .l s c) := sSet_disjoint ρ s s c
  have hS1 : ((Finset.univ \ sSet ρ .l s c) \ sSet ρ .r s c) ∪ sSet ρ .r s c = Finset.univ \ sSet ρ .l s c :=
    Finset.sdiff_union_of_subset fun i hi => Finset.mem_sdiff.mpr ⟨Finset.mem_univ _, Finset.disjoint_left.mp hrl hi⟩
  have hS2 : (Finset.univ \ sSet ρ .l s c) ∪ sSet ρ .l s c = Finset.univ := Finset.sdiff_union_of_subset (Finset.subset_univ _)
  have hsplit : (oPts c Finset.univ (O X₀ (time ρ s) c) : sProp 𝕄)
      ⊢ iprop(oPts c (sSet ρ .l s c) (O X₀ (time ρ s) c) ∗ oPts c (sSet ρ .r s c) (O X₀ (time ρ s) c)
          ∗ oPts c ((Finset.univ \ sSet ρ .l s c) \ sSet ρ .r s c) (O X₀ (time ρ s) c)) :=
    (pointsTo_split_subset (Finset.subset_univ (sSet ρ .l s c))).1.trans (BI.sep_mono (BI.Entails.refl _)
      (pointsTo_split_subset fun i hi => Finset.mem_sdiff.mpr ⟨Finset.mem_univ _, Finset.disjoint_left.mp hrl hi⟩).1)
  unfold lane stepP
  rw [WP_bind, bigSep_Ico_succ_bot hs (ticket c ρ .r), bigSep_Ico_succ_bot hs (ticket c ρ .l), e0]
  have ep : par (s + 1 + 1) = par s := par_two s
  have eh : (s + 1 + 1) / 2 = s / 2 + 1 := half_two s
  rw [ep, eh]
  conv_lhs => unfold ticket
  iintro ⟨#Hk, ⟨#Hopr, Hgr, Hcr, Hs1r, Hs2r, ⟨Hpr, Hkr, Htr⟩, Htsr⟩, ⟨#Hopl, Hgl, Hcl, Hs1l, Hs2l, ⟨Hpl, Hkl, Htl⟩, Htsl⟩, Ho, HO⟩ HK
  ihave Ho := hsplit $$ Ho
  icases Ho with ⟨Hol, Hor, Ho⟩
  unfold slotSt
  icases Hs1r with ⟨Hs1ra, #Hs1rb, Hs1rc, #Hs1rd, Hs1re⟩
  icases Hs1l with ⟨Hs1la, #Hs1lb, Hs1lc, #Hs1ld, Hs1le⟩
  iapply (start_rule X₀ c ρ .r s hs _ hA0) $$ [Hgr Hcr Hpr Hor HO]
  · isplitr; · iexact Hk
    isplitr; · iexact Hopr
    isplitl [Hgr]; · iexact Hgr
    isplitl [Hcr]; · iexact Hcr
    isplitr; · iexact Hs1rb
    isplitl [Hpr]; · iexact Hpr
    isplitl [Hor]; · iexact Hor
    iexact HO
  iintro ⟨Hgr, Hcr, Hsndr, HO⟩
  rw [WP_bind, e1]
  iapply (start_rule X₀ c ρ .l s hs _ (by rw [← e1]; exact hA1)) $$ [Hgl Hcl Hpl Hol HO]
  · isplitr; · iexact Hk
    isplitr; · iexact Hopl
    isplitl [Hgl]; · iexact Hgl
    isplitl [Hcl]; · iexact Hcl
    isplitr; · iexact Hs1lb
    isplitl [Hpl]; · iexact Hpl
    isplitl [Hol]; · iexact Hol
    iexact HO
  iintro ⟨Hgl, Hcl, Hsndl, HO⟩
  rw [WP_bind, e2]
  iapply (finish_rule X₀ c ρ .r s hs _ (by rw [← e2]; exact hA2) ((Finset.univ \ sSet ρ .l s c) \ sSet ρ .r s c) (O X₀ (time ρ s) c)
    Finset.sdiff_disjoint (fun _ _ => rfl) (by
      rw [hS1]; exact fun i hi => Finset.mem_sdiff.mpr ⟨Finset.mem_univ _, Finset.disjoint_left.mp (sSet_disjoint ρ (s + 1) s c) hi⟩))
    $$ [Ho Hsndr Hkr Hs1ra Hs1rc Hs1re Hs2r Htr HO]
  · isplitr; · iexact Hk
    isplitl [Ho]; · iexact Ho
    isplitl [Hsndr]; · iexact Hsndr
    isplitl [Hkr]; · iexact Hkr
    isplitl [Hs1ra Hs1rc Hs1re]
    · unfold slotSt
      isplitl [Hs1ra]; · iexact Hs1ra
      isplitr; · iexact Hs1rb
      isplitl [Hs1rc]; · iexact Hs1rc
      isplitr; · iexact Hs1rd
      iexact Hs1re
    isplitl [Hs2r]; · unfold slotSt; iexact Hs2r
    isplitl [Htr]; · iexact Htr
    iexact HO
  iintro ⟨Ho, Hs1r, Hs2r, HO⟩
  rw [hS1, e3]
  iapply (finish_rule X₀ c ρ .l s hs _ (by rw [← e3]; exact hA3) (Finset.univ \ sSet ρ .l s c)
    (put ρ .r s c (O X₀ (time ρ s) c) (sent ρ .r s (O X₀ (time ρ s) (prv ρ .r c)) (prv ρ .r c)))
    Finset.sdiff_disjoint
    (fun i hi => (put_off ρ .r s c _ _ i fun h => Finset.disjoint_left.mp (sSet_disjoint ρ (s + 1) s c) h hi).symm)
    (by rw [hS2]; exact Finset.subset_univ _))
    $$ [Ho Hsndl Hkl Hs1la Hs1lc Hs1le Hs2l Htl HO]
  · isplitr; · iexact Hk
    isplitl [Ho]; · iexact Ho
    isplitl [Hsndl]; · iexact Hsndl
    isplitl [Hkl]; · iexact Hkl
    isplitl [Hs1la Hs1lc Hs1le]
    · unfold slotSt
      isplitl [Hs1la]; · iexact Hs1la
      isplitr; · iexact Hs1lb
      isplitl [Hs1lc]; · iexact Hs1lc
      isplitr; · iexact Hs1ld
      iexact Hs1le
    isplitl [Hs2l]; · unfold slotSt; iexact Hs2l
    isplitl [Htl]; · iexact Htl
    iexact HO
  iintro ⟨Ho, Hs1l, Hs2l, HO⟩
  iapply HK
  isplitl [Hgr Hcr Hs1r Hs2r Htsr]
  · isplitr; · iexact Hopr
    isplitl [Hgr]; · iexact Hgr
    isplitl [Hcr]; · iexact Hcr
    isplitl [Hs2r]; · unfold slotSt; iexact Hs2r
    isplitl [Hs1r]; · unfold slotSt; iexact Hs1r
    iexact Htsr
  isplitl [Hgl Hcl Hs1l Hs2l Htsl]
  · isplitr; · iexact Hopl
    isplitl [Hgl]; · iexact Hgl
    isplitl [Hcl]; · iexact Hcl
    isplitl [Hs2l]; · unfold slotSt; iexact Hs2l
    isplitl [Hs1l]; · unfold slotSt; iexact Hs1l
    iexact Htsl
  isplitl [Ho]
  · rw [O_step X₀ ρ s hs, hS2]
    iexact Ho
  iexact HO

end

end Cert.Hier

end
-- ==== Proof.Order.lean ====
module

public import proofs.«01_k».proof.Proof.Step
public import Idealize.SL.BI.BigOpNat

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section

variable (X₀ : Dev nD → OC F)

/-! ## A run of steps on one ring -/

/-- The list of `n` steps of a ring from step `s`. -/
def stretch (ρ : Ring) : ℕ → ℕ → List (Ring × ℕ)
  | 0, _ => []
  | n + 1, s => (ρ, s) :: stretch ρ n (s + 1)

theorem stretch_rule (c : Dev nD) (ρ : Ring) (R : CellTallies nD τ sig ℕ) (L : List (Ring × ℕ)) (Kt : PUnit → sProp 𝕄) (n : ℕ) :
    ∀ (s t : ℕ), s + n ≤ total ρ → (∀ k, k < n → time ρ (s + k) = t + k) → (∀ k, k < n → Above (2 * (t + k) + 2) R) →
    iprop(know X₀ ∗ lane c ρ .r s ∗ lane c ρ .l s ∗ oPts c Finset.univ (O X₀ t c) ∗ Ow c (R + owesL c ρ .r s + owesL c ρ .l s))
      ⊢ iprop((lane c ρ .r (s + n) ∗ lane c ρ .l (s + n) ∗ oPts c Finset.univ (O X₀ (t + n) c)
              ∗ Ow c (R + owesL c ρ .r (s + n) + owesL c ρ .l (s + n))
            -∗ WP c (stepsP sOff rOff sOff_inb rOff_inb (fun ρ st _ c => nxt ρ st c) (fun ρ st _ c => prv ρ st c) L c) Kt)
          -∗ WP c (stepsP sOff rOff sOff_inb rOff_inb (fun ρ st _ c => nxt ρ st c) (fun ρ st _ c => prv ρ st c) (stretch ρ n s ++ L) c) Kt) := by
  induction n with
  | zero =>
    intro s t _ _ _
    iintro ⟨-, H1, H2, H3, H4⟩ HK
    iapply HK
    isplitl [H1]; · iexact H1
    isplitl [H2]; · iexact H2
    isplitl [H3]; · iexact H3
    iexact H4
  | succ n ih =>
    intro s t hs ht hR
    have ht0 : time ρ s = t := ht 0 (Nat.succ_pos n)
    have hs0 : s < total ρ := by omega
    have h1 := step_rule X₀ c ρ s hs0 R (by rw [ht0]; exact hR 0 (Nat.succ_pos n))
    have h2 := ih (s + 1) (t + 1) (by omega)
      (fun k hk => by have := ht (k + 1) (by omega); rw [show s + 1 + k = s + (k + 1) by omega, this]; omega)
      (fun k hk => by have := hR (k + 1) (by omega); rwa [show t + 1 + k = t + (k + 1) by omega])
    rw [ht0] at h1
    rw [show s + 1 + n = s + (n + 1) by omega, show t + 1 + n = t + (n + 1) by omega] at h2
    show _ ⊢ iprop(_ -∗ WP c (stepP sOff rOff sOff_inb rOff_inb (fun ρ st _ c => nxt ρ st c) (fun ρ st _ c => prv ρ st c) ρ s c
      >>= fun _ => stepsP sOff rOff sOff_inb rOff_inb (fun ρ st _ c => nxt ρ st c) (fun ρ st _ c => prv ρ st c)
        (stretch ρ n (s + 1) ++ L) c) Kt)
    rw [WP_bind]
    iintro ⟨#Hk, H⟩ HK
    iapply (h1 _) $$ [H]
    · isplitr; · iexact Hk
      iexact H
    iintro H
    iapply h2 $$ [H]
    · isplitr; · iexact Hk
      iexact H
    iexact HK

/-! ## All the steps -/

theorem order_eq : order = stretch .P 7 0 ++ (stretch .Z 6 0 ++ (stretch .P 7 7 ++ [])) := rfl

theorem owesL_end (c : Dev nD) (ρ : Ring) (st : Dir) : owesL c ρ st (total ρ) = 0 := by
  unfold owesL owesR owesG
  rw [Finset.Ico_self, Finset.sum_empty, Finset.sum_empty, add_zero]

/-- What a device owes before the first step. -/
def owesAll (c : Dev nD) : CellTallies nD τ sig ℕ := owesL c .P .r 0 + owesL c .P .l 0 + owesL c .Z .r 0 + owesL c .Z .l 0

theorem order_rule (c : Dev nD) (Kt : PUnit → sProp 𝕄) :
    iprop(know X₀ ∗ (lane c .P .r 0 ∗ lane c .P .l 0 ∗ lane c .Z .r 0 ∗ lane c .Z .l 0) ∗ oPts c Finset.univ (X₀ c) ∗ Ow c (owesAll c))
      ⊢ iprop(((lane c .P .r 14 ∗ lane c .P .l 14 ∗ lane c .Z .r 6 ∗ lane c .Z .l 6) ∗ oPts c Finset.univ (O X₀ 20 c) ∗ Ow c 0 -∗ Kt ⟨⟩)
          -∗ WP c (stepsP sOff rOff sOff_inb rOff_inb (fun ρ st _ c => nxt ρ st c) (fun ρ st _ c => prv ρ st c) order c) Kt) := by
  have q1 : owesAll c = owesL c .Z .r 0 + owesL c .Z .l 0 + owesL c .P .r 0 + owesL c .P .l 0 := by unfold owesAll; ac_rfl
  have q2 : owesL c .Z .r 0 + owesL c .Z .l 0 + owesL c .P .r 7 + owesL c .P .l 7
      = owesL c .P .r 7 + owesL c .P .l 7 + owesL c .Z .r 0 + owesL c .Z .l 0 := by ac_rfl
  have q3 : owesL c .P .r 7 + owesL c .P .l 7 + owesL c .Z .r 6 + owesL c .Z .l 6
      = owesL c .Z .r 6 + owesL c .Z .l 6 + owesL c .P .r 7 + owesL c .P .l 7 := by ac_rfl
  have q4 : owesL c .Z .r 6 + owesL c .Z .l 6 + owesL c .P .r 14 + owesL c .P .l 14 = 0 := by
    have hP (st : Dir) : owesL c .P st 14 = 0 := owesL_end c .P st
    have hZ (st : Dir) : owesL c .Z st 6 = 0 := owesL_end c .Z st
    rw [hP, hP, hZ, hZ, add_zero, add_zero, add_zero]
  have aP (b : ℕ) (hb : b < 28) (st : Dir) : Above b (owesL c .P st 7) := above_owesL c .P st 7 b fun _ => hb
  have aZ (b : ℕ) (hb : b < 16) (st : Dir) : Above b (owesL c .Z st 0) := above_owesL c .Z st 0 b fun _ => hb
  have aE (b : ℕ) (st : Dir) : Above b (owesL c .Z st 6) := above_owesL c .Z st 6 b fun h => absurd h (lt_irrefl 6)
  have h1 := stretch_rule X₀ c .P (owesL c .Z .r 0 + owesL c .Z .l 0) (stretch .Z 6 0 ++ (stretch .P 7 7 ++ [])) Kt 7 0 0
    (by decide) (by decide) (fun k hk => (aZ _ (by omega) .r).add (aZ _ (by omega) .l))
  have h2 := stretch_rule X₀ c .Z (owesL c .P .r 7 + owesL c .P .l 7) (stretch .P 7 7 ++ []) Kt 6 0 7
    (by decide) (by decide) (fun k hk => (aP _ (by omega) .r).add (aP _ (by omega) .l))
  have h3 := stretch_rule X₀ c .P (owesL c .Z .r 6 + owesL c .Z .l 6) [] Kt 7 7 13
    (by decide) (by decide) (fun k hk => (aE _ .r).add (aE _ .l))
  rw [← q1, Nat.zero_add, q2] at h1
  rw [q3] at h2
  rw [show 7 + 7 = 14 from rfl, q4] at h3
  have e0 : stepsP sOff rOff sOff_inb rOff_inb (fun ρ st _ c => nxt ρ st c) (fun ρ st _ c => prv ρ st c) [] c
      = (Prog.ret ⟨⟩ : Prog (TpuEff nD τ sig (Elt F) Λ₀ .tc) PUnit) := rfl
  rw [order_eq]
  iintro ⟨#Hk, ⟨Hpr, Hpl, Hzr, Hzl⟩, Ho, HO⟩ HK
  iapply h1 $$ [Hpr Hpl Ho HO]
  · isplitr; · iexact Hk
    isplitl [Hpr]; · iexact Hpr
    isplitl [Hpl]; · iexact Hpl
    isplitl [Ho]; · iexact Ho
    iexact HO
  iintro ⟨Hpr, Hpl, Ho, HO⟩
  iapply h2 $$ [Hzr Hzl Ho HO]
  · isplitr; · iexact Hk
    isplitl [Hzr]; · iexact Hzr
    isplitl [Hzl]; · iexact Hzl
    isplitl [Ho]; · iexact Ho
    iexact HO
  iintro ⟨Hzr, Hzl, Ho, HO⟩
  iapply h3 $$ [Hpr Hpl Ho HO]
  · isplitr; · iexact Hk
    isplitl [Hpr]; · iexact Hpr
    isplitl [Hpl]; · iexact Hpl
    isplitl [Ho]; · iexact Ho
    iexact HO
  iintro ⟨Hpr, Hpl, Ho, HO⟩
  rw [e0, WP_ret]
  imodintro
  iapply HK
  isplitl [Hpr Hpl Hzr Hzl]
  · isplitl [Hpr]; · iexact Hpr
    isplitl [Hpl]; · iexact Hpl
    isplitl [Hzr]; · iexact Hzr
    iexact Hzl
  isplitl [Ho]; · iexact Ho
  iexact HO

/-! ## The end of a stream -/

/-- What a finished stream gives back: its cells at zero and its slots. -/
def laneEnd (c : Dev nD) (ρ : Ring) (st : Dir) : sProp 𝕄 :=
  iprop(semVal (sndC c ρ st 0) 0 ∗ semVal (sndC c ρ st 1) 0 ∗ semVal (rcvC c ρ st 0) 0 ∗ semVal (rcvC c ρ st 1) 0
    ∗ semVal (grC c ρ st) 0 ∗ slotAt c ρ st 0 ∗ slotAt c ρ st 1)

theorem close_cell (c : Dev nD) (sm : SemLoc sig) (h : ∃ i, ksem i = sm) (R : ℕ)
    (hR : ∀ r, R ≤ r → (Rd X₀).duties ((c : Thread nD τ), sm) r = ∅) :
    iprop(know X₀ ∗ atPos ER ((c : Thread nD τ), sm) R ∅ 0) ⊢ |={Set.univ}=> (semVal ((c : Thread nD τ), sm) 0 : sProp 𝕄) := by
  iintro ⟨#Hk, Ha⟩
  ihave H := (know_cell X₀ c sm h) $$ Hk
  icases H with ⟨⟨%κ, #Hi⟩, -⟩
  iapply (cell_close ER (Rd X₀) (Set.mem_univ κ) (fun h => h) hR)
  isplitr; · iexact Hi
  iexact Ha

theorem slot_end (c : Dev nD) (ρ : Ring) (st : Dir) (σ : Fin 2) :
    iprop(know X₀ ∗ slotSt c ρ st σ (rnds ρ))
      ⊢ |={Set.univ}=> iprop(semVal (sndC c ρ st σ) 0 ∗ semVal (rcvC c ρ st σ) 0 ∗ slotAt c ρ st σ) := by
  unfold slotSt rdSt
  rw [if_neg (lt_irrefl _)]
  iintro ⟨#Hk, H1, -, H2, -, H3⟩
  imod (close_cell X₀ c (.dma (sendSem ρ st σ)) (ksem_snd ρ st σ) (rnds ρ) (late_snd X₀ c ρ st σ)) $$ [H1] with H1
  · isplitr; · iexact Hk
    iexact H1
  imod (close_cell X₀ c (.dma (recvSem ρ st σ)) (ksem_rcv ρ st σ) (rnds ρ) (late_rcv X₀ c ρ st σ)) $$ [H2] with H2
  · isplitr; · iexact Hk
    iexact H2
  imodintro
  isplitl [H1]; · iexact H1
  isplitl [H2]; · iexact H2
  iexact H3

theorem lane_end (c : Dev nD) (ρ : Ring) (st : Dir) :
    iprop(know X₀ ∗ lane c ρ st (total ρ)) ⊢ |={Set.univ}=> laneEnd c ρ st := by
  have e1 : par (total ρ) = 0 := by cases ρ <;> rfl
  have e2 : par (total ρ + 1) = 1 := by cases ρ <;> rfl
  have e3 : total ρ / 2 = rnds ρ := rfl
  have e4 : (total ρ + 1) / 2 = rnds ρ := by cases ρ <;> rfl
  unfold lane grSt
  rw [if_pos rfl, e1, e2, e3, e4]
  iintro ⟨#Hk, -, Hg, -, H0, H1, -⟩
  imod (close_cell X₀ c (.reg (credSem ρ st)) (ksem_gr ρ st) 1 (late_gr X₀ c ρ st)) $$ [Hg] with Hg
  · isplitr; · iexact Hk
    iexact Hg
  imod (slot_end X₀ c ρ st 0) $$ [H0] with ⟨H0s, H0r, H0⟩
  · isplitr; · iexact Hk
    iexact H0
  imod (slot_end X₀ c ρ st 1) $$ [H1] with ⟨H1s, H1r, H1⟩
  · isplitr; · iexact Hk
    iexact H1
  imodintro
  unfold laneEnd
  isplitl [H0s]; · iexact H0s
  isplitl [H1s]; · iexact H1s
  isplitl [H0r]; · iexact H0r
  isplitl [H1r]; · iexact H1r
  isplitl [Hg]; · iexact Hg
  isplitl [H0]; · iexact H0
  iexact H1

end

end Cert.Hier

end
-- ==== Proof.Body.lean ====
module

public import proofs.«01_k».proof.Proof.Order
public import Idealize.SL.BI.BigOpNat

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

section

variable (X₀ : Dev nD → OC F)

/-! ## What a device starts with -/

/-- A stream's part before its slots are given out. -/
def laneRaw (c : Dev nD) (ρ : Ring) (st : Dir) : sProp 𝕄 :=
  iprop((atPos ER (sndC c ρ st 0) 0 ∅ 0 ∗ atPos ER (sndC c ρ st 1) 0 ∅ 0 ∗ atPos ER (rcvC c ρ st 0) 0 ∅ 0 ∗ atPos ER (rcvC c ρ st 1) 0 ∅ 0
      ∗ atPos ER (grC c ρ st) 0 ∅ 0)
    ∗ (readerAt ES ((prv ρ st c, ρ, st, 0) : Key) 0 ∗ readerAt ES ((prv ρ st c, ρ, st, 1) : Key) 0)
    ∗ bigSep (Finset.Ico 0 (total ρ)) (gcred c ρ st) ∗ bigSep (Finset.Ico 0 (total ρ)) (ticket c ρ st))

/-- and after. -/
def laneMid (c : Dev nD) (ρ : Ring) (st : Dir) : sProp 𝕄 :=
  iprop(grSt c ρ st 0 ∗ bigSep (Finset.Ico 0 (total ρ)) (gcred c ρ st) ∗ slotSt c ρ st 0 0 ∗ slotSt c ρ st 1 0
    ∗ bigSep (Finset.Ico 0 (total ρ)) (ticket c ρ st))

theorem lane_mid (c : Dev nD) (ρ : Ring) (st : Dir) : iprop(openPay c ρ st ∗ laneMid c ρ st) ⊢ (lane c ρ st 0 : sProp 𝕄) := by
  unfold laneMid lane; exact BI.Entails.refl _

theorem give_slot (c : Dev nD) (ρ : Ring) (st : Dir) (σ : Fin 2) :
    iprop(know X₀ ∗ readerAt ES ((prv ρ st c, ρ, st, σ) : Key) 0 ∗ slotAt c ρ st σ)
      ⊢ |={Set.univ}=> iprop(readerAt ES ((prv ρ st c, ρ, st, σ) : Key) 1 ∗ released ES ((prv ρ st c, ρ, st, σ) : Key) 1) := by
  have e : slotOf (F := F) ((prv ρ st c, ρ, st, σ) : Key) = slotAt c ρ st σ := by unfold slotOf; rw [nxt_prv']
  iintro ⟨#Hk, Hr, Hs⟩
  ihave #Hi := (know_slot X₀ ((prv ρ st c, ρ, st, σ) : Key)) $$ Hk
  icases Hi with ⟨%ι, #Hi⟩
  iapply (slot_release ES (k := ((prv ρ st c, ρ, st, σ) : Key)) (S := slotOf ((prv ρ st c, ρ, st, σ) : Key)) (Set.mem_univ ι) (slotOf_excl _) 0)
  isplitr; · iexact Hi
  isplitl [Hr]; · iexact Hr
  rw [e]; iexact Hs

theorem give_lane (c : Dev nD) (ρ : Ring) (st : Dir) :
    iprop(know X₀ ∗ laneRaw c ρ st ∗ slotAt c ρ st 0 ∗ slotAt c ρ st 1)
      ⊢ |={Set.univ}=> iprop(openPay (prv ρ st c) ρ st ∗ laneMid c ρ st) := by
  have h0 : 0 < rnds ρ := by cases ρ <;> decide
  have h2 : (0 : ℕ) ≠ total ρ - 2 := by cases ρ <;> decide
  unfold laneRaw laneMid slotSt rdSt grSt openPay
  rw [if_pos h0, if_pos h0, if_neg h2]
  iintro ⟨#Hk, ⟨⟨Hs0, Hs1, Hr0, Hr1, Hg⟩, ⟨Hk0, Hk1⟩, Hc, Ht⟩, Hl0, Hl1⟩
  imod (give_slot X₀ c ρ st 0) $$ [Hk0 Hl0] with ⟨Hk0, #Hq0⟩
  · isplitr; · iexact Hk
    isplitl [Hk0] <;> iassumption
  imod (give_slot X₀ c ρ st 1) $$ [Hk1 Hl1] with ⟨Hk1, #Hq1⟩
  · isplitr; · iexact Hk
    isplitl [Hk1] <;> iassumption
  ihave #Ha0 := (know_cell X₀ c _ (ksem_snd ρ st 0)) $$ Hk
  ihave #Ha1 := (know_cell X₀ c _ (ksem_snd ρ st 1)) $$ Hk
  ihave #Hb0 := (know_cell X₀ c _ (ksem_rcv ρ st 0)) $$ Hk
  ihave #Hb1 := (know_cell X₀ c _ (ksem_rcv ρ st 1)) $$ Hk
  icases Ha0 with ⟨-, #Ha0⟩
  icases Ha1 with ⟨-, #Ha1⟩
  icases Hb0 with ⟨-, #Hb0⟩
  icases Hb1 with ⟨-, #Hb1⟩
  imodintro
  isplitr
  · isplitr; · iexact Hq0
    iexact Hq1
  isplitl [Hg]
  · iexists (∅ : Finset ℕ)
    isplitr; · ipureintro; exact ⟨Finset.empty_subset _, le_rfl⟩
    isplitl [Hg]; · iexact Hg
    rw [bigSep_empty]; iempintro
  isplitl [Hc]; · iexact Hc
  isplitl [Hs0 Hr0 Hk0]
  · isplitl [Hs0]; · iexact Hs0
    isplitr; · iexact Ha0
    isplitl [Hr0]; · iexact Hr0
    isplitr; · iexact Hb0
    isplitl [Hk0]; · iexact Hk0
    iexact Hq0
  isplitl [Hs1 Hr1 Hk1]
  · isplitl [Hs1]; · iexact Hs1
    isplitr; · iexact Ha1
    isplitl [Hr1]; · iexact Hr1
    isplitr; · iexact Hb1
    isplitl [Hk1]; · iexact Hk1
    iexact Hq1
  iexact Ht

/-! ## The barrier -/

/-- The neighbour to which barrier signal `k` goes. -/
abbrev barAt (k : ℕ) (c : Dev nD) : Dev nD := nxt (laneOf k).1 (laneOf k).2 c

/-- One unit owed to that neighbour. -/
abbrev barT (c : Dev nD) (k : ℕ) : CellTallies nD τ sig ℕ := tallyAt (barC (barAt k c)) 0 1

/-- What a device owes at the start. -/
def O₀ (c : Dev nD) : CellTallies nD τ sig ℕ := owesAll c + barT c 3 + barT c 2 + barT c 1 + barT c 0

theorem flip_flip (st : Dir) : st.flip.flip = st := by cases st <;> rfl

theorem signal_rule (c : Dev nD) (k : ℕ) (hk : k < 4) (D : CellTallies nD τ sig ℕ) (Kt : PUnit → sProp 𝕄) :
    iprop(know X₀ ∗ dutyTok ER (barC (barAt k c)) 0 k ∗ openPay (prv (laneOf k).1 (laneOf k).2.flip c) (laneOf k).1 (laneOf k).2.flip ∗ Ow c (D + barT c k))
      ⊢ iprop((Ow c D -∗ Kt ⟨⟩) -∗ WP c (semSignalWord (barAt k c) barSem 1#32) Kt) := by
  have e : prv (laneOf k).1 (laneOf k).2.flip c = barAt k c := by unfold prv; rw [flip_flip]
  rw [e]
  unfold Ow
  simp only [semSignalWord, Prog.lift]
  iintro ⟨#Hk, Ht, Hp, ⟨%W, HO⟩⟩ HK
  ihave #Hc := (know_cell X₀ (barAt k c) _ ⟨20, ksem_bar⟩) $$ Hk
  icases Hc with ⟨⟨%κ, #Hi⟩, #Hr⟩
  iapply (Rounds.wp_signal 𝒱₀ ER (Rd X₀) (c : Thread nD τ) none (dst := ((barAt k c : Dev nD) : Thread nD τ)) (κ := κ) (r := 0) (d := k)
      (by rw [duties_bar]; exact Finset.mem_range.mpr hk) ((amount_bar X₀ (barAt k c) 0 k).trans (by decide)) 0 D rfl) $$ [HO Ht Hp]
  · isplitr; · iexact Hi
    isplitl [HO]; · iexact HO
    isplitl [Ht]; · iexact Ht
    isplitl [Hp]; · rw [pay_bar]; iexact Hp
    iexact Hr
  iintro HO
  rw [wp_ret]; imodintro
  iapply HK
  iexists W; iexact HO

theorem gather_rule (c : Dev nD) (D : CellTallies nD τ sig ℕ) (hD : Above 1 D) (Kt : PUnit → sProp 𝕄) :
    iprop(know X₀ ∗ atPos ER (barC c) 0 ∅ 0 ∗ cred (tallyAt (barC c) 0 4) ∗ Ow c D)
      ⊢ iprop((semVal (barC c) 0 ∗ Ow c D ∗ openPay c .P .l ∗ openPay c .P .r ∗ openPay c .Z .l ∗ openPay c .Z .r -∗ Kt ⟨⟩)
          -∗ WP c (semWaitWord barSem 4#32) Kt) := by
  have hb : bigSep ((Rd X₀).duties (barC c) 0 \ ∅) (fun d => ((Rd X₀).payload (barC c) 0 d : sProp 𝕄))
      = iprop(openPay c .P .l ∗ openPay c .P .r ∗ openPay c .Z .l ∗ openPay c .Z .r) := by
    rw [Finset.sdiff_empty, duties_bar, bigSep_eq_bigSepL_of_eq [0, 1, 2, 3] (by decide) (by decide)]; rfl
  unfold Ow
  simp only [semWaitWord, Prog.lift]
  iintro ⟨#Hk, Ha, Hc, ⟨%W, HO⟩⟩ HK
  ihave #Hc := (know_cell X₀ c _ ⟨20, ksem_bar⟩) $$ Hk
  icases Hc with ⟨⟨%κ, #Hi⟩, -⟩
  iapply (Rounds.wp_wait_rest_token 𝒱₀ ER (Rd X₀) (c : Thread nD τ) none (κ := κ)
      (wpE_semWait_eq 𝒱₀ (c : Thread nD τ) none Set.univ) (Set.mem_univ _) 0 (O := D) (W := W) (R := 0) (m := 0) (T := ∅)
      (by rw [expect_bar]; decide)) $$ [Hc HO Ha]
  · isplitr; · iexact Hi
    isplitl [Hc]; · iexact Hc
    isplitl [HO]; · iexact HO
    isplitr; · iapply (know_may X₀ hD c _ 0 (by decide) (le_of_eq (lv_bar c 0))); iexact Hk
    iexact Ha
  iintro ⟨HO, Ha, -, Hp⟩
  ihave Hp := (Entails.of_eq hb) $$ Hp
  rw [wp_ret]
  imod (cell_close ER (Rd X₀) (Set.mem_univ κ) (fun h => h) (late_bar X₀ c)) $$ [Ha] with Ha
  · isplitr; · iexact Hi
    iexact Ha
  imodintro
  iapply HK
  isplitl [Ha]; · iexact Ha
  isplitl [HO]; · iexists _; iexact HO
  iexact Hp

/-- What the barrier takes. -/
def barRaw (c : Dev nD) : sProp 𝕄 :=
  iprop((dutyTok ER (barC (barAt 0 c)) 0 0 ∗ dutyTok ER (barC (barAt 1 c)) 0 1 ∗ dutyTok ER (barC (barAt 2 c)) 0 2 ∗ dutyTok ER (barC (barAt 3 c)) 0 3)
    ∗ atPos ER (barC c) 0 ∅ 0 ∗ cred (tallyAt (barC c) 0 4))

theorem above_all (c : Dev nD) : Above 1 (owesAll c) :=
  (((above_owesL c .P .r 0 1 fun _ => by omega).add (above_owesL c .P .l 0 1 fun _ => by omega)).add
    (above_owesL c .Z .r 0 1 fun _ => by omega)).add (above_owesL c .Z .l 0 1 fun _ => by omega)

theorem barrier_rule (c : Dev nD) (Kt : PUnit → sProp 𝕄) :
    iprop(know X₀ ∗ barRaw c
        ∗ (openPay (prv .P .l c) .P .l ∗ openPay (prv .P .r c) .P .r ∗ openPay (prv .Z .l c) .Z .l ∗ openPay (prv .Z .r c) .Z .r) ∗ Ow c (O₀ c))
      ⊢ iprop((semVal (barC c) 0 ∗ Ow c (owesAll c) ∗ openPay c .P .l ∗ openPay c .P .r ∗ openPay c .Z .l ∗ openPay c .Z .r -∗ Kt ⟨⟩)
          -∗ WP c (barP barTo c) Kt) := by
  unfold barRaw O₀
  have ep : barP (F := F) barTo c = (semSignalWord (barAt 0 c) barSem 1#32 >>= fun _ =>
      semSignalWord (barAt 1 c) barSem 1#32 >>= fun _ =>
      semSignalWord (barAt 2 c) barSem 1#32 >>= fun _ =>
      semSignalWord (barAt 3 c) barSem 1#32 >>= fun _ => semWaitWord barSem 4#32) := rfl
  rw [ep, WP_bind]
  iintro ⟨#Hk, ⟨⟨T0, T1, T2, T3⟩, Ha, Hc⟩, ⟨P0, P1, P2, P3⟩, HO⟩ HK
  iapply (signal_rule X₀ c 0 (by decide) _) $$ [T0 P0 HO]
  · isplitr; · iexact Hk
    isplitl [T0]; · iexact T0
    isplitl [P0]; · iexact P0
    iexact HO
  iintro HO
  rw [WP_bind]
  iapply (signal_rule X₀ c 1 (by decide) _) $$ [T1 P1 HO]
  · isplitr; · iexact Hk
    isplitl [T1]; · iexact T1
    isplitl [P1]; · iexact P1
    iexact HO
  iintro HO
  rw [WP_bind]
  iapply (signal_rule X₀ c 2 (by decide) _) $$ [T2 P2 HO]
  · isplitr; · iexact Hk
    isplitl [T2]; · iexact T2
    isplitl [P2]; · iexact P2
    iexact HO
  iintro HO
  rw [WP_bind]
  iapply (signal_rule X₀ c 3 (by decide) _) $$ [T3 P3 HO]
  · isplitr; · iexact Hk
    isplitl [T3]; · iexact T3
    isplitl [P3]; · iexact P3
    iexact HO
  iintro HO
  iapply (gather_rule X₀ c _ (above_all c)) $$ [Ha Hc HO]
  · isplitr; · iexact Hk
    isplitl [Ha]; · iexact Ha
    isplitl [Hc]; · iexact Hc
    iexact HO
  iexact HK

/-! ## The device's own product -/

theorem zero2 : (![0, 0] : Fin 2 → ℕ) = fun _ => 0 := funext fun a => by fin_cases a <;> rfl

theorem dot_rule (c : Dev nD) (a : (cc0_stg0_0 : Ref sig .tc).ty.Contents (Elt F)) (b : (cc0_stg1_0 : Ref sig .tc).ty.Contents (Elt F))
    (Kt : PUnit → sProp 𝕄) :
    iprop((((c : Thread nD τ).loc cc0_stg0_0) ↦{fullShare} a) ∗ (((c : Thread nD τ).loc cc0_stg1_0) ↦{fullShare} b)
        ∗ ∃ f : OC F, oPts c Finset.univ f)
      ⊢ iprop(((((c : Thread nD τ).loc cc0_stg0_0) ↦{fullShare} a) ∗ (((c : Thread nD τ).loc cc0_stg1_0) ↦{fullShare} b)
              ∗ oPts c Finset.univ (k0_pay2 (F := F) a b : OC F) -∗ Kt ⟨⟩)
          -∗ WP c dotP Kt) := by
  unfold dotP
  simp only [Prog.lift, Prog.bind_op, Prog.bind_ret]
  have ea : (aM : Memref sig .tc .vmem S1024x512 .f32).view.readAt (Elt F) aRect.toLoadRect a = a :=
    Memref.readAt_unit_zero (Elt F) cc0_stg0_0 zero2 _ a
  have eb : (bM : Memref sig .tc .vmem S512x1024 .f32).view.readAt (Elt F) bRect.toLoadRect b = b :=
    Memref.readAt_unit_zero (Elt F) cc0_stg1_0 zero2 _ b
  have eo (f w : OC F) : ((oM : Memref sig .tc .vmem S1024x1024 .f32).access oRect : View sig .tc _ _ _).write (Elt F) f w Finset.univ = w :=
    Memref.write_access_unit_zero_univ (Elt F) cc0_stg2_0 zero2 _ f w
  iintro ⟨Ha, Hb, ⟨%f, Ho⟩⟩ HK
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  rw [ea, eb]
  iapply (wp_load 𝒱₀ (c : Thread nD τ) none Set.univ (m := oM) (Finset.subset_univ _)) $$ Ho; iintro Ho
  iapply (wp_store 𝒱₀ (c : Thread nD τ) none Set.univ (m := oM) (r := oRect) (Mk := Finset.univ) (Finset.subset_univ _)) $$ Ho; iintro Ho
  rw [wp_ret, eo]; imodintro
  iapply HK
  isplitl [Ha]; · iexact Ha
  isplitl [Hb]; · iexact Hb
  iexact Ho

/-! ## The whole body -/

/-- What a device's body takes besides its buffers. -/
def raw (c : Dev nD) : sProp 𝕄 :=
  iprop(barRaw c ∗ laneRaw c .P .r ∗ laneRaw c .P .l ∗ laneRaw c .Z .r ∗ laneRaw c .Z .l)

/-- A device's eight slots. -/
def slots (c : Dev nD) : sProp 𝕄 :=
  iprop((slotAt c .P .r 0 ∗ slotAt c .P .r 1) ∗ (slotAt c .P .l 0 ∗ slotAt c .P .l 1) ∗ (slotAt c .Z .r 0 ∗ slotAt c .Z .r 1)
    ∗ (slotAt c .Z .l 0 ∗ slotAt c .Z .l 1))

/-- What is left at the end. -/
def done (c : Dev nD) : sProp 𝕄 :=
  iprop(semVal (barC c) 0 ∗ laneEnd c .P .r ∗ laneEnd c .P .l ∗ laneEnd c .Z .r ∗ laneEnd c .Z .l)

theorem body_rule (c : Dev nD) (a : (cc0_stg0_0 : Ref sig .tc).ty.Contents (Elt F)) (b : (cc0_stg1_0 : Ref sig .tc).ty.Contents (Elt F))
    (hX : X₀ c = k0_pay2 (F := F) a b) (Kt : PUnit → sProp 𝕄) :
    iprop(know X₀ ∗ raw c ∗ slots c ∗ (((c : Thread nD τ).loc cc0_stg0_0) ↦{fullShare} a) ∗ (((c : Thread nD τ).loc cc0_stg1_0) ↦{fullShare} b)
        ∗ (∃ f : OC F, oPts c Finset.univ f) ∗ Ow c (O₀ c))
      ⊢ iprop((done c ∗ (((c : Thread nD τ).loc cc0_stg0_0) ↦{fullShare} a) ∗ (((c : Thread nD τ).loc cc0_stg1_0) ↦{fullShare} b)
              ∗ oPts c Finset.univ (O X₀ 20 c) ∗ Ow c 0 -∗ Kt ⟨⟩)
          -∗ WP c (bodyAt0 (F := F) t0_0) Kt) := by
  have eb : bodyAt0 (F := F) t0_0 = (Prog.lift .deviceId >>= fun c : Dev nD => barP barTo c >>= fun _ => dotP >>= fun _ =>
      stepsP sOff rOff sOff_inb rOff_inb (fun ρ st _ c => nxt ρ st c) (fun ρ st _ c => prv ρ st c) order c) := cc0_body_closed
  have ed (k : Dev nD → Prog (TpuEff nD τ sig (Elt F) Λ₀ .tc) PUnit) :
      WP c (Prog.lift .deviceId >>= k) Kt = WP c (k c) Kt := by
    simp only [Prog.lift, Prog.bind_op, Prog.bind_ret, wp_deviceId]
  rw [eb, ed, WP_bind]
  unfold raw slots
  iintro ⟨#Hk, ⟨Hbar, Hpr, Hpl, Hzr, Hzl⟩, ⟨Spr, Spl, Szr, Szl⟩, Ha, Hb, Ho, HO⟩ HK
  imod (give_lane X₀ c .P .r) $$ [Hpr Spr] with ⟨Qpr, Hpr⟩
  · isplitr; · iexact Hk
    isplitl [Hpr] <;> iassumption
  imod (give_lane X₀ c .P .l) $$ [Hpl Spl] with ⟨Qpl, Hpl⟩
  · isplitr; · iexact Hk
    isplitl [Hpl] <;> iassumption
  imod (give_lane X₀ c .Z .r) $$ [Hzr Szr] with ⟨Qzr, Hzr⟩
  · isplitr; · iexact Hk
    isplitl [Hzr] <;> iassumption
  imod (give_lane X₀ c .Z .l) $$ [Hzl Szl] with ⟨Qzl, Hzl⟩
  · isplitr; · iexact Hk
    isplitl [Hzl] <;> iassumption
  iapply (barrier_rule X₀ c _) $$ [Hbar Qpr Qpl Qzr Qzl HO]
  · isplitr; · iexact Hk
    isplitl [Hbar]; · iexact Hbar
    isplitl [Qpr Qpl Qzr Qzl]
    · isplitl [Qpl]; · iexact Qpl
      isplitl [Qpr]; · iexact Qpr
      isplitl [Qzl]; · iexact Qzl
      iexact Qzr
    iexact HO
  iintro ⟨Hbar, HO, Qpl, Qpr, Qzl, Qzr⟩
  rw [WP_bind]
  iapply (dot_rule c a b _) $$ [Ha Hb Ho]
  · isplitl [Ha]; · iexact Ha
    isplitl [Hb]; · iexact Hb
    iexact Ho
  iintro ⟨Ha, Hb, Ho⟩
  iapply (wp_fupd _ _ _ _ _)
  iapply (order_rule X₀ c _) $$ [Hpr Hpl Hzr Hzl Qpl Qpr Qzl Qzr Ho HO]
  · isplitr; · iexact Hk
    isplitl [Hpr Hpl Hzr Hzl Qpl Qpr Qzl Qzr]
    · isplitl [Hpr Qpr]
      · iapply (lane_mid c .P .r); isplitl [Qpr] <;> iassumption
      isplitl [Hpl Qpl]
      · iapply (lane_mid c .P .l); isplitl [Qpl] <;> iassumption
      isplitl [Hzr Qzr]
      · iapply (lane_mid c .Z .r); isplitl [Qzr] <;> iassumption
      iapply (lane_mid c .Z .l); isplitl [Qzl] <;> iassumption
    isplitl [Ho]; · rw [hX]; iexact Ho
    iexact HO
  iintro ⟨⟨Hpr, Hpl, Hzr, Hzl⟩, Ho, HO⟩
  imod (lane_end X₀ c .P .r) $$ [Hpr] with Hpr
  · isplitr; · iexact Hk
    iexact Hpr
  imod (lane_end X₀ c .P .l) $$ [Hpl] with Hpl
  · isplitr; · iexact Hk
    iexact Hpl
  imod (lane_end X₀ c .Z .r) $$ [Hzr] with Hzr
  · isplitr; · iexact Hk
    iexact Hzr
  imod (lane_end X₀ c .Z .l) $$ [Hzl] with Hzl
  · isplitr; · iexact Hk
    iexact Hzl
  imodintro
  iapply HK
  isplitl [Hbar Hpr Hpl Hzr Hzl]
  · unfold done
    isplitl [Hbar]; · iexact Hbar
    isplitl [Hpr]; · iexact Hpr
    isplitl [Hpl]; · iexact Hpl
    isplitl [Hzr]; · iexact Hzr
    iexact Hzl
  isplitl [Ha]; · iexact Ha
  isplitl [Hb]; · iexact Hb
  isplitl [Ho]; · iexact Ho
  iexact HO

end

end Cert.Hier

end
-- ==== Proof.Deal.lean ====
/-
# The dealing of the tokens

The launch makes every token once, listed by the device whose cell it is for. Here they are listed anew, by the device
that uses them: a completion is signalled by the upstream neighbour, a grant by the downstream one.
-/
module

public import proofs.«01_k».proof.Proof.Body
public import Idealize.SL.BI.BigOpNat

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Two laws of the big conjunction -/

theorem seps_comm {I J : Type} [DecidableEq I] [DecidableEq J] (s : Finset I) (t : Finset J) (Φ : I → J → sProp 𝕄) :
    (bigSep s fun i => bigSep t fun j => Φ i j) = bigSep t fun j => bigSep s fun i => Φ i j := by
  induction s using Finset.induction_on with
  | empty => simp
  | insert i s hi ih =>
    rw [bigSep_insert hi, ih, ← bigSep_sep]
    exact bigSep_congr fun j _ => (bigSep_insert hi (Φ := fun i => Φ i j)).symm

theorem seps_prod {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product]; rfl
  | insert a s ha ih =>
    have hd : Disjoint (({a} : Finset I) ×ˢ t) (s ×ˢ t) := Finset.disjoint_product.mpr (.inl (Finset.disjoint_singleton_left.mpr ha))
    rw [bigSep_insert ha, Finset.insert_eq, Finset.union_product, bigSep_union hd, ih, Finset.singleton_product, bigSep_map]
    rfl

/-! ## The cells -/

theorem kcell_injective : Function.Injective (kcell : Dev nD × Fin 21 → GSem nD τ sig) := by
  rintro ⟨c, k⟩ ⟨c', k'⟩ h
  have h1 : c = c' := congrArg (fun g : GSem nD τ sig => g.1.1) h
  have h2 : ksem k = ksem k' := congrArg Prod.snd h
  have h3 : k = k' := by clear h h1; revert h2; revert k k'; decide
  rw [h1, h3]
def kcells : Finset (GSem nD τ sig) := Finset.univ.map ⟨kcell, kcell_injective⟩

/-! ## The duty tokens -/

def laneNo : Ring × Dir → ℕ
  | (.P, .r) => 0
  | (.P, .l) => 1
  | (.Z, .r) => 2
  | (.Z, .l) => 3

theorem laneOf_no (l : Ring × Dir) : laneOf (laneNo l) = l := by rcases l with ⟨ρ, st⟩; cases ρ <;> cases st <;> rfl
theorem laneNo_lt (l : Ring × Dir) : laneNo l < 4 := by rcases l with ⟨ρ, st⟩; cases ρ <;> cases st <;> decide

/-- The tokens: what for, on which stream, at which step, and on whose cell. -/
abbrev TokI := Fin 4 × (Ring × Dir) × ℕ × Dev nD

def tokOf : TokI → GSem nD τ sig × ℕ × ℕ
  | (0, l, s, c) => (sndC c l.1 l.2 (par s), s / 2, 0)
  | (1, l, s, c) => (rcvC c l.1 l.2 (par s), s / 2, 0)
  | (2, l, s, c) => (grC c l.1 l.2, 0, s)
  | (3, l, s, c) => (barC c, 0, laneNo l + 4 * s)

/-- The reading of a token's index off the token. -/
def tokBack (x : GSem nD τ sig × ℕ × ℕ) : TokI :=
  match kindOf x.1.2 with
  | .snd ρ st σ => (0, (ρ, st), 2 * x.2.1 + σ.val, x.1.1.1)
  | .rcv ρ st σ => (1, (ρ, st), 2 * x.2.1 + σ.val, x.1.1.1)
  | .grant ρ st => (2, (ρ, st), x.2.2, x.1.1.1)
  | .bar => (3, laneOf (x.2.2 % 4), x.2.2 / 4, x.1.1.1)
  | .oth => (3, (.P, .r), 0, x.1.1.1)

theorem tokBack_of (x : TokI) : tokBack (tokOf x) = x := by
  obtain ⟨k, ⟨ρ, st⟩, s, c⟩ := x
  fin_cases k
  · show tokBack (sndC c ρ st (par s), s / 2, 0) = _
    unfold tokBack; simp only [kind_snd]; rw [two_half]; rfl
  · show tokBack (rcvC c ρ st (par s), s / 2, 0) = _
    unfold tokBack; simp only [kind_rcv]; rw [two_half]; rfl
  · show tokBack (grC c ρ st, 0, s) = _
    unfold tokBack; simp only [kind_grant]; rfl
  · show tokBack (barC c, 0, laneNo (ρ, st) + 4 * s) = _
    unfold tokBack; simp only [kind_bar]
    have hl := laneNo_lt (ρ, st)
    rw [show (laneNo (ρ, st) + 4 * s) % 4 = laneNo (ρ, st) by omega, show (laneNo (ρ, st) + 4 * s) / 4 = s by omega, laneOf_no]; rfl

theorem tokOf_injective : Function.Injective tokOf := fun x y h => by rw [← tokBack_of x, h, tokBack_of]

def tokIs : Finset TokI := Finset.univ ×ˢ (Finset.univ ×ˢ (Finset.range 14 ×ˢ Finset.univ))
def tokens : Finset (GSem nD τ sig × ℕ × ℕ) := tokIs.map ⟨tokOf, tokOf_injective⟩

def tk (x : TokI) : sProp 𝕄 := dutyTok ER (tokOf x).1 (tokOf x).2.1 (tokOf x).2.2

def nxtE (l : Ring × Dir) : Dev nD ≃ Dev nD := ⟨nxt l.1 l.2, prv l.1 l.2, fun c => prv_nxt _ _ c, fun c => nxt_prv _ _ c⟩

/-- The devices, innermost in the list and permuted per stream, brought outermost. -/
theorem devices_out (e : Ring × Dir → Dev nD ≃ Dev nD) (Φ : (Ring × Dir) × ℕ × Dev nD → sProp 𝕄) :
    bigSep (Finset.univ ×ˢ (Finset.range 14 ×ˢ Finset.univ)) Φ
      = bigSep Finset.univ fun c => bigSep Finset.univ fun l => bigSep (Finset.range 14) fun s => Φ (l, s, e l c) := by
  rw [seps_prod, seps_comm (s := (Finset.univ : Finset (Dev nD)))]
  refine bigSep_congr fun l _ => ?_
  rw [seps_prod, seps_comm (s := (Finset.univ : Finset (Dev nD)))]
  refine bigSep_congr fun s _ => ?_
  exact bigSep_univ_equiv (e l) fun c => Φ (l, s, c)

/-- What device `c` gets for step `s` of stream `l`. -/
def stepToks (c : Dev nD) (l : Ring × Dir) (s : ℕ) : sProp 𝕄 :=
  iprop(tk (0, l, s, c) ∗ tk (1, l, s, nxt l.1 l.2 c) ∗ tk (2, l, s, prv l.1 l.2 c) ∗ tk (3, l, s, nxt l.1 l.2 c))

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_lanes (Φ : Ring × Dir → sProp 𝕄) : bigSep Finset.univ Φ = iprop(Φ (.P, .r) ∗ Φ (.P, .l) ∗ Φ (.Z, .r) ∗ Φ (.Z, .l)) :=
  bigSep_univ_eq_bigSepL (I := Ring × Dir) [(.P, .r), (.P, .l), (.Z, .r), (.Z, .l)] (by decide) (by decide) Φ

theorem deal_toks : bigSep tokens (fun x => (dutyTok ER x.1 x.2.1 x.2.2 : sProp 𝕄))
    = bigSep Finset.univ fun c => bigSep Finset.univ fun l => bigSep (Finset.range 14) fun s => stepToks c l s := by
  unfold tokens tokIs; rw [bigSep_map, seps_prod, bigSep_fin4]
  rw [devices_out (fun _ => Equiv.refl _), devices_out nxtE, devices_out (fun l => (nxtE l).symm), devices_out nxtE]
  simp only [stepToks, bigSep_sep']
  rfl

/-! ## The slots' tokens -/

/-- The reader of each slot: the device it lies on. -/
theorem deal_readers : bigSep Finset.univ (fun k : Key => (readerAt ES k 0 : sProp 𝕄))
    = bigSep Finset.univ fun c => bigSep Finset.univ fun l : Ring × Dir =>
        iprop(readerAt ES ((prv l.1 l.2 c, l.1, l.2, 0) : Key) 0 ∗ readerAt ES ((prv l.1 l.2 c, l.1, l.2, 1) : Key) 0) := by
  rw [bigSep_univ_prod]
  have h : ∀ c : Dev nD, bigSep Finset.univ (fun b : Ring × Dir × Fin 2 => (readerAt ES ((c, b) : Key) 0 : sProp 𝕄))
      = bigSep Finset.univ fun l : Ring × Dir => bigSep Finset.univ fun σ : Fin 2 => readerAt ES ((c, l.1, l.2, σ) : Key) 0 := fun c => by
    rw [bigSep_univ_prod, bigSep_univ_prod]
    exact bigSep_congr fun ρ _ => bigSep_univ_prod _
  rw [bigSep_congr fun c _ => h c, seps_comm]
  conv_rhs => rw [seps_comm]
  refine bigSep_congr fun l _ => ?_
  rw [bigSep_univ_equiv (nxtE l).symm]
  exact bigSep_congr fun c _ => bigSep_fin_two _

theorem steps_range : Finset.range 14 = (Finset.univ ×ˢ Finset.range 7).map
    ⟨fun x : Fin 2 × ℕ => 2 * x.2 + x.1.val, fun x y h => by
      have h : 2 * x.2 + x.1.val = 2 * y.2 + y.1.val := h
      exact Prod.ext (Fin.ext (by have := x.1.isLt; have := y.1.isLt; omega)) (by have := x.1.isLt; have := y.1.isLt; omega)⟩ := by decide

theorem deal_writers : bigSep (Finset.univ ×ˢ Finset.range 7) (fun x : Key × ℕ => (writeTok ES x.1 (x.2 + 1) : sProp 𝕄))
    = bigSep Finset.univ fun c => bigSep Finset.univ fun l : Ring × Dir => bigSep (Finset.range 14) fun s =>
        writeTok ES ((c, l.1, l.2, par s) : Key) (s / 2 + 1) := by
  rw [seps_prod, bigSep_univ_prod]
  refine bigSep_congr fun c _ => ?_
  rw [bigSep_univ_prod, bigSep_univ_prod]
  refine bigSep_congr fun ρ _ => ?_
  rw [bigSep_univ_prod]
  refine bigSep_congr fun st _ => ?_
  rw [steps_range, bigSep_map, seps_prod]
  refine bigSep_congr fun σ _ => bigSep_congr fun n _ => ?_
  have h1 : par (2 * n + σ.val) = σ := Fin.ext (by show (2 * n + σ.val) % 2 = σ.val; omega)
  have h2 : (2 * n + σ.val) / 2 = n := by omega
  show writeTok ES ((c, ρ, st, σ) : Key) (n + 1) = writeTok ES ((c, ρ, st, par (2 * n + σ.val)) : Key) ((2 * n + σ.val) / 2 + 1)
  rw [h1, h2]

/-! ## One device's share -/

/-- A stream's start, without the credits. -/
def laneG (c : Dev nD) (ρ : Ring) (st : Dir) : sProp 𝕄 :=
  iprop((atPos ER (sndC c ρ st 0) 0 ∅ 0 ∗ atPos ER (sndC c ρ st 1) 0 ∅ 0 ∗ atPos ER (rcvC c ρ st 0) 0 ∅ 0 ∗ atPos ER (rcvC c ρ st 1) 0 ∅ 0
      ∗ atPos ER (grC c ρ st) 0 ∅ 0)
    ∗ (readerAt ES ((prv ρ st c, ρ, st, 0) : Key) 0 ∗ readerAt ES ((prv ρ st c, ρ, st, 1) : Key) 0)
    ∗ bigSep (Finset.Ico 0 (total ρ)) fun s => iprop(startPre c ρ st s ∗ grTok c ρ st s))

/-- A stream's credits. -/
def laneC (c : Dev nD) (ρ : Ring) (st : Dir) : sProp 𝕄 :=
  iprop(bigSep (Finset.Ico 0 (total ρ)) (gcred c ρ st)
    ∗ bigSep (Finset.Ico 0 (total ρ)) fun s => cred (tallyAt (rcvC c ρ st (par s)) s (N ρ st)))

theorem lane_raw (c : Dev nD) (ρ : Ring) (st : Dir) : iprop(laneG c ρ st ∗ laneC c ρ st) ⊢ (laneRaw c ρ st : sProp 𝕄) := by
  unfold laneG laneC laneRaw ticket
  simp only [bigSep_sep']
  iintro ⟨⟨Hp, Hr, Hs, Hg⟩, Hc, Hd⟩
  isplitl [Hp]; · iexact Hp
  isplitl [Hr]; · iexact Hr
  isplitl [Hc]; · iexact Hc
  isplitl [Hs]; · iexact Hs
  isplitl [Hd]; · iexact Hd
  iexact Hg

/-- One step's tokens, sorted. -/
theorem step_toks (c : Dev nD) (ρ : Ring) (st : Dir) (s : ℕ) :
    iprop(stepToks c (ρ, st) s ∗ writeTok ES ((c, ρ, st, par s) : Key) (s / 2 + 1))
      ⊢ (iprop((startPre c ρ st s ∗ grTok c ρ st s) ∗ dutyTok ER (barC (nxt ρ st c)) 0 (laneNo (ρ, st) + 4 * s)) : sProp 𝕄) := by
  unfold stepToks startPre grTok
  rw [show (tk (0, (ρ, st), s, c) : sProp 𝕄) = dutyTok ER (sndC c ρ st (par s)) (s / 2) 0 from rfl,
    show (tk (1, (ρ, st), s, nxt (ρ, st).1 (ρ, st).2 c) : sProp 𝕄) = dutyTok ER (rcvC (nxt ρ st c) ρ st (par s)) (s / 2) 0 from rfl,
    show (tk (2, (ρ, st), s, prv (ρ, st).1 (ρ, st).2 c) : sProp 𝕄) = dutyTok ER (grC (prv ρ st c) ρ st) 0 s from rfl,
    show (tk (3, (ρ, st), s, nxt (ρ, st).1 (ρ, st).2 c) : sProp 𝕄) = dutyTok ER (barC (nxt ρ st c)) 0 (laneNo (ρ, st) + 4 * s) from rfl]
  iintro ⟨⟨H0, H1, H2, H3⟩, HW⟩
  isplitr [H3]
  · isplitr [H2]
    · isplitl [H0]; · iexact H0
      isplitl [H1]; · iexact H1
      iexact HW
    · split
      · iexact H2
      · iempintro
  iexact H3

theorem tot_sub (ρ : Ring) : Finset.Ico 0 (total ρ) ⊆ Finset.range 14 := by cases ρ <;> decide

theorem lane_toks (c : Dev nD) (ρ : Ring) (st : Dir) :
    iprop((bigSep (Finset.range 14) fun s => stepToks c (ρ, st) s)
        ∗ bigSep (Finset.range 14) fun s => writeTok ES ((c, ρ, st, par s) : Key) (s / 2 + 1))
      ⊢ (iprop((bigSep (Finset.Ico 0 (total ρ)) fun s => iprop(startPre c ρ st s ∗ grTok c ρ st s))
          ∗ dutyTok ER (barC (nxt ρ st c)) 0 (laneNo (ρ, st))) : sProp 𝕄) := by
  rw [← bigSep_sep']
  refine (bigSep_mono fun s _ => step_toks c ρ st s).trans ?_
  rw [bigSep_sep']
  exact BI.sep_mono (bigSep_subset (tot_sub ρ)) (bigSep_elim (i := 0) (by decide))

end Cert.Hier
-- ==== Proof.Fund.lean ====
/-
# The slots, the credits and the ghost state at the launch
-/
module

public import proofs.«01_k».proof.Proof.Deal
public import Idealize.SL.BI.BigOpNat

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## The scratch buffers as slots -/

theorem slot_mem (ρ : Ring) (σ : Fin 2) (i : (S2C ρ).Idx) : i ∈ (slotRect ρ σ).set ↔ (i 0).val = σ.val := by
  rw [Rect.mem_set_unit]
  constructor
  · intro h
    have h0 := h 0
    have e : (S1C ρ).size 0 = 1 := by cases ρ <;> rfl
    have e2 : (![σ.val, 0, 0] : Fin 3 → ℕ) 0 = σ.val := rfl
    rw [e2, e] at h0; omega
  · intro h a
    have hi := (i a).isLt
    have e : (S1C ρ).size 0 = 1 ∧ (S1C ρ).size 1 = (S2C ρ).size 1 ∧ (S1C ρ).size 2 = (S2C ρ).size 2 := by cases ρ <;> exact ⟨rfl, rfl, rfl⟩
    fin_cases a
    · show σ.val ≤ (i 0).val ∧ (i 0).val < σ.val + (S1C ρ).size 0
      rw [e.1]; omega
    · show 0 ≤ (i 1).val ∧ (i 1).val < 0 + (S1C ρ).size 1
      rw [e.2.1]; exact ⟨Nat.zero_le _, by have := (i 1).isLt; omega⟩
    · show 0 ≤ (i 2).val ∧ (i 2).val < 0 + (S1C ρ).size 2
      rw [e.2.2]; exact ⟨Nat.zero_le _, by have := (i 2).isLt; omega⟩

theorem rects_disj (ρ : Ring) : Disjoint (slotRect ρ 0).set (slotRect ρ 1).set :=
  Finset.disjoint_left.mpr fun i h0 h1 => by
    rw [slot_mem] at h0 h1; rw [h0] at h1; exact absurd h1 (by decide)
theorem rects_cover (ρ : Ring) : (slotRect ρ 0).set ∪ (slotRect ρ 1).set = Finset.univ := by
  ext i; rw [Finset.mem_union, slot_mem, slot_mem]
  refine ⟨fun _ => Finset.mem_univ _, fun _ => ?_⟩
  have h : (i 0).val < 2 := by have := (i 0).isLt; have e : (S2C ρ).size 0 = 2 := by cases ρ <;> rfl
                               omega
  show (i 0).val = 0 ∨ (i 0).val = 1
  omega

theorem slots_disj (ρ : Ring) (st : Dir) : Disjoint (slotM ρ st 0).view.set (slotM ρ st 1).view.set := by
  rw [← slot_access_set, ← slot_access_set]
  cases ρ <;> cases st
  · show Disjoint ((View.whole cc0_scratch0).slice (slotRect .P 0)).set ((View.whole cc0_scratch0).slice (slotRect .P 1)).set
    rw [View.set_slice_whole, View.set_slice_whole]; exact rects_disj .P
  · show Disjoint ((View.whole cc0_scratch1).slice (slotRect .P 0)).set ((View.whole cc0_scratch1).slice (slotRect .P 1)).set
    rw [View.set_slice_whole, View.set_slice_whole]; exact rects_disj .P
  · show Disjoint ((View.whole cc0_scratch2).slice (slotRect .Z 0)).set ((View.whole cc0_scratch2).slice (slotRect .Z 1)).set
    rw [View.set_slice_whole, View.set_slice_whole]; exact rects_disj .Z
  · show Disjoint ((View.whole cc0_scratch3).slice (slotRect .Z 0)).set ((View.whole cc0_scratch3).slice (slotRect .Z 1)).set
    rw [View.set_slice_whole, View.set_slice_whole]; exact rects_disj .Z
theorem slots_cover (ρ : Ring) (st : Dir) : (slotM ρ st 0).view.set ∪ (slotM ρ st 1).view.set = Finset.univ := by
  rw [← slot_access_set, ← slot_access_set]
  cases ρ <;> cases st
  · show ((View.whole cc0_scratch0).slice (slotRect .P 0)).set ∪ ((View.whole cc0_scratch0).slice (slotRect .P 1)).set = Finset.univ
    rw [View.set_slice_whole, View.set_slice_whole]; exact rects_cover .P
  · show ((View.whole cc0_scratch1).slice (slotRect .P 0)).set ∪ ((View.whole cc0_scratch1).slice (slotRect .P 1)).set = Finset.univ
    rw [View.set_slice_whole, View.set_slice_whole]; exact rects_cover .P
  · show ((View.whole cc0_scratch2).slice (slotRect .Z 0)).set ∪ ((View.whole cc0_scratch2).slice (slotRect .Z 1)).set = Finset.univ
    rw [View.set_slice_whole, View.set_slice_whole]; exact rects_cover .Z
  · show ((View.whole cc0_scratch3).slice (slotRect .Z 0)).set ∪ ((View.whole cc0_scratch3).slice (slotRect .Z 1)).set = Finset.univ
    rw [View.set_slice_whole, View.set_slice_whole]; exact rects_cover .Z

/-- A stream's scratch buffer, at some contents. -/
def scr (c : Dev nD) (ρ : Ring) (st : Dir) : sProp 𝕄 :=
  iprop(∃ f : Buf (Elt F) ((comm ρ st).view.loc (c : Thread nD τ)), ((comm ρ st).view.loc (c : Thread nD τ)) ↦{fullShare} f)

theorem scr_split (c : Dev nD) (ρ : Ring) (st : Dir) : scr c ρ st ⊢ (iprop(slotAt c ρ st 0 ∗ slotAt c ρ st 1) : sProp 𝕄) := by
  unfold scr slotAt slot
  iintro ⟨%f, H⟩
  ihave H := (pointsTo_split_subset (Finset.subset_univ (slotM ρ st 0).view.set)).1 $$ H
  have e : Finset.univ \ (slotM ρ st 0).view.set = (slotM ρ st 1).view.set := by
    rw [← slots_cover ρ st, Finset.union_sdiff_cancel_left (slots_disj ρ st)]
  icases H with ⟨H0, H1⟩
  isplitl [H0]; · iexists f; iexact H0
  iexists f
  ihave H1 := (Entails.of_eq (congrArg (fun S => (((comm ρ st).view.loc (c : Thread nD τ)) ↦[S]{fullShare} f : sProp 𝕄)) e)) $$ H1
  iexact H1

theorem scr_join (c : Dev nD) (ρ : Ring) (st : Dir) : (iprop(slotAt c ρ st 0 ∗ slotAt c ρ st 1) : sProp 𝕄) ⊢ scr c ρ st := by
  unfold scr slotAt slot
  iintro ⟨⟨%f, H0⟩, %g, H1⟩
  ihave H := (pointsTo_join (ℓ := (comm ρ st).view.loc (c : Thread nD τ)) (slots_disj ρ st)) $$ [H0 H1]
  · isplitl [H0]; · iexact H0
    iexact H1
  iexists ((slotM ρ st 1).view.set.piecewise g f)
  ihave H := (Entails.of_eq (congrArg (fun S => (((comm ρ st).view.loc (c : Thread nD τ)) ↦[S]{fullShare} ((slotM ρ st 1).view.set.piecewise g f) : sProp 𝕄))
    (slots_cover ρ st))) $$ H
  iexact H

/-! ## The credits -/

theorem cred_R (ρ : Ring) (st : Dir) (c : Dev nD) :
    (Pipeline.launchCred (fun d => owesR d ρ st 0) c : sProp 𝕄)
      ⊢ bigSep (Finset.Ico 0 (total ρ)) fun s => cred (tallyAt (rcvC c ρ st (par s)) s (N ρ st)) := by
  unfold owesR
  rw [Pipeline.launchCred_sum (Finset.Ico 0 (total ρ)) (fun s d => rcvT d ρ st s) c]
  exact bigSep_mono fun s _ => Pipeline.launchCred_tallyAt (.dma (recvSem ρ st (par s))) (nxt ρ st) (prv ρ st) (nxt_prv ρ st) (prv_nxt ρ st) s (N ρ st) c

theorem cred_G (ρ : Ring) (st : Dir) (c : Dev nD) :
    (Pipeline.launchCred (fun d => owesG d ρ st 0) c : sProp 𝕄) ⊢ bigSep (Finset.Ico 0 (total ρ)) (gcred c ρ st) := by
  unfold owesG
  rw [Pipeline.launchCred_sum (Finset.Ico 0 (total ρ)) (fun s d => grT d ρ st s) c]
  refine bigSep_mono fun s _ => ?_
  unfold gcred grT
  by_cases h : s + 2 < total ρ
  · simp only [if_pos h]
    exact Pipeline.launchCred_tallyAt (.reg (credSem ρ st)) (prv ρ st) (nxt ρ st) (prv_nxt ρ st) (nxt_prv ρ st) s 1 c
  · simp only [if_neg h]
    rw [Pipeline.launchCred_zero]; exact BI.Entails.refl _

theorem cred_L (ρ : Ring) (st : Dir) (c : Dev nD) : (Pipeline.launchCred (fun d => owesL d ρ st 0) c : sProp 𝕄) ⊢ laneC c ρ st := by
  unfold owesL laneC
  rw [Pipeline.launchCred_add]
  iintro ⟨HR, HG⟩
  isplitl [HG]; · iapply (cred_G ρ st c); iexact HG
  iapply (cred_R ρ st c); iexact HR

theorem cred_B (k : ℕ) (c : Dev nD) : (Pipeline.launchCred (fun d => barT d k) c : sProp 𝕄) ⊢ cred (tallyAt (barC c) 0 1) :=
  Pipeline.launchCred_tallyAt (.reg barSem) (barAt k) (prv (laneOf k).1 (laneOf k).2) (nxt_prv _ _) (prv_nxt _ _) 0 1 c

theorem cred_four (c : Dev nD) :
    iprop(cred (tallyAt (barC c) 0 1) ∗ cred (tallyAt (barC c) 0 1) ∗ cred (tallyAt (barC c) 0 1) ∗ cred (tallyAt (barC c) 0 1))
      ⊢ (cred (tallyAt (barC c) 0 4) : sProp 𝕄) := by
  have e : (tallyAt (barC c) 0 4 : CellTallies nD τ sig ℕ) = tallyAt (barC c) 0 1 + (tallyAt (barC c) 0 1 + (tallyAt (barC c) 0 1 + tallyAt (barC c) 0 1)) := by
    rw [tallyAt_add, tallyAt_add, tallyAt_add]
  rw [e]
  refine (sep_mono_right ?_).trans (cred_add _ _).2
  refine (sep_mono_right ?_).trans (cred_add _ _).2
  exact (cred_add _ _).2

theorem cred_all (c : Dev nD) : (Pipeline.launchCred O₀ c : sProp 𝕄)
    ⊢ iprop(cred (tallyAt (barC c) 0 4) ∗ laneC c .P .r ∗ laneC c .P .l ∗ laneC c .Z .r ∗ laneC c .Z .l) := by
  have e : (Pipeline.launchCred O₀ c : sProp 𝕄) = iprop((((((((Pipeline.launchCred (fun d => owesL d .P .r 0) c ∗ Pipeline.launchCred (fun d => owesL d .P .l 0) c)
      ∗ Pipeline.launchCred (fun d => owesL d .Z .r 0) c) ∗ Pipeline.launchCred (fun d => owesL d .Z .l 0) c)
      ∗ Pipeline.launchCred (fun d => barT d 3) c) ∗ Pipeline.launchCred (fun d => barT d 2) c) ∗ Pipeline.launchCred (fun d => barT d 1) c)
      ∗ Pipeline.launchCred (fun d => barT d 0) c)) := by
    rw [← Pipeline.launchCred_add, ← Pipeline.launchCred_add, ← Pipeline.launchCred_add, ← Pipeline.launchCred_add, ← Pipeline.launchCred_add,
      ← Pipeline.launchCred_add, ← Pipeline.launchCred_add]
    rfl
  rw [e]
  iintro ⟨⟨⟨⟨⟨⟨⟨H1, H2⟩, H3⟩, H4⟩, B3⟩, B2⟩, B1⟩, B0⟩
  isplitl [B0 B1 B2 B3]
  · iapply (cred_four c)
    isplitl [B0]; · iapply (cred_B 0 c); iexact B0
    isplitl [B1]; · iapply (cred_B 1 c); iexact B1
    isplitl [B2]; · iapply (cred_B 2 c); iexact B2
    iapply (cred_B 3 c); iexact B3
  isplitl [H1]; · iapply (cred_L .P .r c); iexact H1
  isplitl [H2]; · iapply (cred_L .P .l c); iexact H2
  isplitl [H3]; · iapply (cred_L .Z .r c); iexact H3
  iapply (cred_L .Z .l c); iexact H4

end Cert.Hier
-- ==== Proof.Ghost.lean ====
/-
# The ghost state of the launch

What the launch deals a device (`G`), what the devices make of it together (`glob`), and a device's start.
-/
module

public import proofs.«01_k».proof.Proof.Fund
public import Idealize.SL.BI.BigOpNat

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## A device's cells by stream -/

section cells
variable {M : Type} [URA M]

def laneCells (Φ : GSem nD τ sig → sProp M) (c : Dev nD) (ρ : Ring) (st : Dir) : sProp M :=
  iprop(Φ (sndC c ρ st 0) ∗ Φ (sndC c ρ st 1) ∗ Φ (rcvC c ρ st 0) ∗ Φ (rcvC c ρ st 1) ∗ Φ (grC c ρ st))
def fourCells (Φ : GSem nD τ sig → sProp M) (c : Dev nD) : sProp M :=
  iprop(laneCells Φ c .P .r ∗ laneCells Φ c .P .l ∗ laneCells Φ c .Z .r ∗ laneCells Φ c .Z .l)

theorem assoc_eq (P Q R : sProp M) : iprop((P ∗ Q) ∗ R) = iprop(P ∗ Q ∗ R) :=
  BI.Entails.antisymm
    (show iprop((P ∗ Q) ∗ R) ⊢ iprop(P ∗ Q ∗ R) by
      iintro ⟨⟨H1, H2⟩, H3⟩
      isplitl [H1]; · iexact H1
      isplitl [H2] <;> iassumption)
    (show iprop(P ∗ Q ∗ R) ⊢ iprop((P ∗ Q) ∗ R) by
      iintro ⟨H1, H2, H3⟩
      isplitr [H3]
      · isplitl [H1] <;> iassumption
      iexact H3)

theorem cells_eq (Φ : GSem nD τ sig → sProp M) (c : Dev nD) :
    bigSep Finset.univ (fun k : Fin 21 => Φ (kcell (c, k))) = iprop(Φ (barC c) ∗ fourCells Φ c) := by
  rw [bigSep_univ_eq_bigSepL [(20 : Fin 21), 0, 1, 2, 3, 16, 4, 5, 6, 7, 17, 8, 9, 10, 11, 18, 12, 13, 14, 15, 19] (by decide) (by decide)]
  unfold fourCells laneCells
  simp only [assoc_eq]
  rfl
end cells

/-- The kernel's own semaphores: all but the barrier's. -/
def osem (i : Fin 20) : SemLoc sig := ksem i.castSucc

theorem ownSemFacts : Pipeline.OwnSemFacts cfg0.spec osem := by decide

theorem own_eq (c : Dev nD) : (Pipeline.ownSems0 (Ix := ℕ) (Name := ℕ) (U := UU) (Lvl := ℕ) (Val := Elt F) (τ := τ) osem c : sProp 𝕄)
    = fourCells (fun g => semVal g 0) c := by
  rw [Pipeline.ownSems0_eq_of_list c osem [0, 1, 2, 3, 16, 4, 5, 6, 7, 17, 8, 9, 10, 11, 18, 12, 13, 14, 15, 19] (by decide) (by decide)]
  unfold fourCells laneCells
  simp only [assoc_eq]
  rfl
theorem unscoped_eq (c : Dev nD) : (unscopedSems0 c : sProp 𝕄) = semVal (barC c) 0 := by
  unfold unscopedSems0; rw [bigSep_eq_bigSepL_of_eq [SemLoc.reg barSem] (by decide) (by decide)]; rfl

theorem sems_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 21 => semVal (kcell (c, k)) 0 : sProp 𝕄) := by
  rw [own_eq, unscoped_eq, cells_eq (fun g => (semVal g 0 : sProp 𝕄)) c]
  exact sep_comm.1

/-! ## What the launch deals -/

section
variable (X₀ : Dev nD → OC F)

def slotKnow : sProp 𝕄 := bigSep Finset.univ (fun k : Key => iprop(∃ ι, slotInv ES ι k (slotOf k)))
instance slotKnow_persistent : BI.Persistent (slotKnow (F := F) : sProp 𝕄) := by unfold slotKnow; infer_instance
def cellKnow : sProp 𝕄 := bigSep Finset.univ (fun x : Dev nD × Fin 21 => iprop((∃ κ, cellInv ER (Rd X₀) κ (kcell x)) ∗ reached ER (kcell x) 0))
instance cellKnow_persistent : BI.Persistent (cellKnow X₀ : sProp 𝕄) := by unfold cellKnow; infer_instance

/-- A device's own share. -/
def share (c : Dev nD) : sProp 𝕄 :=
  iprop((bigSep Finset.univ fun k : Fin 21 => atPos ER (kcell (c, k)) 0 ∅ 0)
    ∗ (bigSep Finset.univ fun l : Ring × Dir => bigSep (Finset.range 14) fun s => stepToks c l s)
    ∗ (bigSep Finset.univ fun l : Ring × Dir =>
        iprop(readerAt ES ((prv l.1 l.2 c, l.1, l.2, 0) : Key) 0 ∗ readerAt ES ((prv l.1 l.2 c, l.1, l.2, 1) : Key) 0))
    ∗ (bigSep Finset.univ fun l : Ring × Dir => bigSep (Finset.range 14) fun s => writeTok ES ((c, l.1, l.2, par s) : Key) (s / 2 + 1)))

def G (c : Dev nD) : sProp 𝕄 :=
  iprop(slotKnow ∗ (bigSep Finset.univ fun k : Fin 21 => iprop(roundState ER (Rd X₀) (kcell (c, k)) 0 ∗ reached ER (kcell (c, k)) 0)) ∗ share c)
def G' (c : Dev nD) : sProp 𝕄 := iprop((slotKnow ∗ cellKnow X₀) ∗ share c)

def u₀ : UU :=
  (initOf (Pipeline.cells cfgs cellOf_inj) (Pipeline.launchToks cfgs cellOf_inj), (initOf kcells tokens, initSlots (Finset.univ : Finset Key) 7))

theorem split_pair (a : URounds (GSem nD τ sig) ℕ) (b : USlots Key) :
    BI.own ((embR : Emb UK 𝕄) (a, b)) ⊢ (iprop(BI.own (ER a) ∗ BI.own (ES b)) : sProp 𝕄) :=
  own_pair_emb embR a b

theorem slot_ex (ι : ℕ) (k : Key) : (slotInv ES ι k (slotOf (F := F) k) : sProp 𝕄) ⊢ iprop(∃ ι, slotInv ES ι k (slotOf k)) := by
  iintro H; iexists ι; iexact H

theorem fund_all : BI.own ((embR : Emb UK 𝕄) (initOf kcells tokens, initSlots (Finset.univ : Finset Key) 7))
    ⊢ |={Set.univ}=> (bigSep Finset.univ (G X₀) : sProp 𝕄) := by
  have hX (Φ : GSem nD τ sig → sProp 𝕄) : bigSep kcells Φ = bigSep Finset.univ fun c : Dev nD => bigSep Finset.univ fun k : Fin 21 => Φ (kcell (c, k)) := by
    unfold kcells; rw [bigSep_map, bigSep_univ_prod]; rfl
  iintro H
  ihave H := (split_pair (F := F) _ _) $$ H
  icases H with ⟨HR, HS⟩
  imod (Rounds.fund ER (Rd X₀) kcells tokens) $$ HR with ⟨Hst, Hr, Hat, Htok⟩
  imod (slots_init (Es := Set.univ) (E := ES) (Finset.univ : Finset Key) 7 (slotOf (F := F))) $$ HS with ⟨%ιs, -, Hinv, Hrd, Hw⟩
  imodintro
  ihave Hst := (Entails.of_eq (hX fun g => roundState ER (Rd X₀) g 0)) $$ Hst
  ihave Hat := (Entails.of_eq (hX fun g => atPos ER g 0 ∅ 0)) $$ Hat
  ihave Hr := (Entails.of_eq (hX fun g => reached ER g 0)) $$ Hr
  ihave Htok := (Entails.of_eq (deal_toks (F := F))) $$ Htok
  ihave Hrd := (Entails.of_eq (deal_readers (F := F))) $$ Hrd
  ihave Hw := (Entails.of_eq (deal_writers (F := F))) $$ Hw
  ihave Hinv := (show bigSep Finset.univ (fun k : Key => (slotInv ES (ιs k) k (slotOf (F := F) k) : sProp 𝕄)) ⊢ slotKnow from
    bigSep_mono fun k _ => slot_ex (ιs k) k) $$ Hinv
  ihave Hinv := (BI.bigSep_of_persistent (Finset.univ : Finset (Dev nD)) (slotKnow (F := F))) $$ Hinv
  unfold G share; simp only [bigSep_sep']
  isplitl [Hinv]; · iexact Hinv
  isplitl [Hst Hr]
  · isplitl [Hst] <;> iassumption
  isplitl [Hat]; · iexact Hat
  isplitl [Htok]; · iexact Htok
  isplitl [Hrd]; · iexact Hrd
  iexact Hw

theorem core_alloc (c : Dev nD) :
    iprop(Pipeline.ownSems0 (Ix := ℕ) (Name := ℕ) (U := UU) (Lvl := ℕ) (Val := Elt F) (τ := τ) osem c ∗ unscopedSems0 c ∗ G X₀ c)
      ⊢ |={Set.univ}=> iprop(slotKnow
          ∗ (bigSep Finset.univ fun k : Fin 21 => iprop((∃ κ : ℕ, cellInv ER (Rd X₀) κ (kcell (c, k))) ∗ reached ER (kcell (c, k)) 0)) ∗ share c) := by
  unfold G
  simp only [bigSep_sep']
  iintro ⟨Hos, Hus, Hsl, ⟨Hst, Hr⟩, Hsh⟩
  ihave Hv := (sems_eq (F := F) c) $$ [Hos Hus]
  · isplitl [Hos] <;> iassumption
  imod (show iprop((bigSep Finset.univ fun k : Fin 21 => semVal (kcell (c, k)) 0) ∗ bigSep Finset.univ fun k : Fin 21 => roundState ER (Rd X₀) (kcell (c, k)) 0)
      ⊢ (|={Set.univ}=> bigSep Finset.univ fun k : Fin 21 => iprop(∃ κ : ℕ, cellInv ER (Rd X₀) κ (kcell (c, k))) : sProp 𝕄) from by
        rw [← bigSep_sep']
        exact (bigSep_mono fun k _ => (Rounds.body_intro ER (Rd X₀) (kcell (c, k))).trans inv_alloc).trans (bigSep_fupd _ _)) $$ [Hv Hst] with Hinv
  · isplitl [Hv] <;> iassumption
  imodintro
  isplitl [Hsl]; · iexact Hsl
  isplitl [Hinv Hr]
  · isplitl [Hinv] <;> iassumption
  iexact Hsh

theorem glob : (bigSep Finset.univ fun c => iprop(Pipeline.ownSems0 (Ix := ℕ) (Name := ℕ) (U := UU) (Lvl := ℕ) (Val := Elt F) (τ := τ) osem c
      ∗ unscopedSems0 c ∗ G X₀ c) : sProp 𝕄)
    ⊢ |={Set.univ}=> (bigSep Finset.univ (G' X₀) : sProp 𝕄) := by
  iintro H
  imod (show (bigSep Finset.univ fun c => iprop(Pipeline.ownSems0 (Ix := ℕ) (Name := ℕ) (U := UU) (Lvl := ℕ) (Val := Elt F) (τ := τ) osem c
      ∗ unscopedSems0 c ∗ G X₀ c) : sProp 𝕄)
      ⊢ |={Set.univ}=> (bigSep Finset.univ fun c => iprop(slotKnow
          ∗ (bigSep Finset.univ fun k : Fin 21 => iprop((∃ κ : ℕ, cellInv ER (Rd X₀) κ (kcell (c, k))) ∗ reached ER (kcell (c, k)) 0)) ∗ share c) : sProp 𝕄)
    from (bigSep_mono fun c _ => core_alloc X₀ c).trans (bigSep_fupd _ _)) $$ H with H
  imodintro
  ihave H := (Entails.of_eq (bigSep_sep' (Finset.univ : Finset (Dev nD)) (fun _ => slotKnow (F := F)) _)) $$ H
  icases H with ⟨Hs, H⟩
  ihave H := (Entails.of_eq (bigSep_sep' (Finset.univ : Finset (Dev nD)) _ (fun c => share (F := F) c))) $$ H
  icases H with ⟨Hc, Hsh⟩
  ihave #Hs := (show bigSep (Finset.univ : Finset (Dev nD)) (fun _ => slotKnow (F := F)) ⊢ slotKnow from bigSep_elim (i := (0 : Dev nD)) (Finset.mem_univ _)) $$ Hs
  ihave #Hc := (Entails.of_eq (bigSep_univ_prod fun x : Dev nD × Fin 21 =>
    (iprop((∃ κ : ℕ, cellInv ER (Rd X₀) κ (kcell x)) ∗ reached ER (kcell x) 0) : sProp 𝕄)).symm) $$ Hc
  iapply (bigSep_with_persistent (S := (Finset.univ : Finset (Dev nD))) (R := iprop(slotKnow (F := F) ∗ cellKnow X₀)) (Φ := fun c => share (F := F) c)
    (Ψ := G' X₀) fun c _ => BI.Entails.refl _)
  isplitr [Hsh]
  · isplitl
    · iexact Hs
    · unfold cellKnow; iexact Hc
  iexact Hsh

/-! ## A device's start -/

/-- A stream's share, from the lists over all streams. -/
theorem lane_share (c : Dev nD) (ρ : Ring) (st : Dir) :
    iprop(laneCells (fun g => atPos ER g 0 ∅ 0) c ρ st
        ∗ (bigSep (Finset.range 14) fun s => stepToks c (ρ, st) s)
        ∗ (readerAt ES ((prv ρ st c, ρ, st, 0) : Key) 0 ∗ readerAt ES ((prv ρ st c, ρ, st, 1) : Key) 0)
        ∗ (bigSep (Finset.range 14) fun s => writeTok ES ((c, ρ, st, par s) : Key) (s / 2 + 1))
        ∗ laneC c ρ st)
      ⊢ (iprop(laneRaw c ρ st ∗ dutyTok ER (barC (nxt ρ st c)) 0 (laneNo (ρ, st))) : sProp 𝕄) := by
  iintro ⟨Hat, Ht, Hr, Hw, Hc⟩
  ihave H := (lane_toks c ρ st) $$ [Ht Hw]
  · isplitl [Ht] <;> iassumption
  icases H with ⟨Hs, Hb⟩
  isplitr [Hb]
  · iapply (lane_raw c ρ st)
    isplitr [Hc]
    · unfold laneG laneCells
      isplitl [Hat]; · iexact Hat
      isplitl [Hr]; · iexact Hr
      iexact Hs
    iexact Hc
  iexact Hb

theorem share_raw (c : Dev nD) : iprop(share c ∗ Pipeline.launchCred O₀ c) ⊢ (raw c : sProp 𝕄) := by
  unfold share
  rw [cells_eq (fun g => (atPos ER g 0 ∅ 0 : sProp 𝕄)) c, bigSep_lanes, bigSep_lanes, bigSep_lanes]
  unfold fourCells
  iintro ⟨⟨⟨Hab, A1, A2, A3, A4⟩, ⟨T1, T2, T3, T4⟩, ⟨R1, R2, R3, R4⟩, W1, W2, W3, W4⟩, Hcr⟩
  ihave Hcr := (cred_all c) $$ Hcr
  icases Hcr with ⟨Hcb, C1, C2, C3, C4⟩
  ihave H1 := (lane_share c .P .r) $$ [A1 T1 R1 W1 C1]
  · isplitl [A1]; · iexact A1
    isplitl [T1]; · iexact T1
    isplitl [R1]; · iexact R1
    isplitl [W1] <;> iassumption
  ihave H2 := (lane_share c .P .l) $$ [A2 T2 R2 W2 C2]
  · isplitl [A2]; · iexact A2
    isplitl [T2]; · iexact T2
    isplitl [R2]; · iexact R2
    isplitl [W2] <;> iassumption
  ihave H3 := (lane_share c .Z .r) $$ [A3 T3 R3 W3 C3]
  · isplitl [A3]; · iexact A3
    isplitl [T3]; · iexact T3
    isplitl [R3]; · iexact R3
    isplitl [W3] <;> iassumption
  ihave H4 := (lane_share c .Z .l) $$ [A4 T4 R4 W4 C4]
  · isplitl [A4]; · iexact A4
    isplitl [T4]; · iexact T4
    isplitl [R4]; · iexact R4
    isplitl [W4] <;> iassumption
  icases H1 with ⟨L1, B1⟩
  icases H2 with ⟨L2, B2⟩
  icases H3 with ⟨L3, B3⟩
  icases H4 with ⟨L4, B4⟩
  unfold raw barRaw
  isplitr [L1 L2 L3 L4]
  · isplitl [B1 B2 B3 B4]
    · isplitl [B1]; · iexact B1
      isplitl [B2]; · iexact B2
      isplitl [B3]; · iexact B3
      iexact B4
    isplitl [Hab]; · iexact Hab
    iexact Hcb
  isplitl [L1]; · iexact L1
  isplitl [L2]; · iexact L2
  isplitl [L3]; · iexact L3
  iexact L4

end

end Cert.Hier
-- ==== Proof.Launch.lean ====
/-
# The launch

The pipeline's data, the body's obligation and the run of the whole program, at any float values.
-/
module

public import proofs.«01_k».proof.Proof.Ghost
public import proofs.«01_k».proof.Proof.Gen.KernelIdeal.Launch
public import proofs.«01_k».proof.Proof.Gen.KernelIdeal.Points
public import Idealize.ShloMosaic.Lib.Pipeline.CollectiveSegs

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (g : Dev nD → PrngReg)

/-! ## The pipeline's data -/

def s₀ : MemSt nD τ sig (Elt F) := ⟨m, fun _ => 0, g⟩

/-- The operands' blocks, as staged; -/
def astg (c : Dev nD) : (cc0_stg0_0 : Ref sig .tc).ty.Contents (Elt F) :=
  (win0_0.blk (0 : Fin 1)).view.read (Elt F) ((s₀ m g).mem ((c : Thread nD τ).loc main_arg0))
def bstg (c : Dev nD) : (cc0_stg1_0 : Ref sig .tc).ty.Contents (Elt F) :=
  (win0_1.blk (0 : Fin 1)).view.read (Elt F) ((s₀ m g).mem ((c : Thread nD τ).loc main_arg1))

/-- a device's own product, -/
def part (c : Dev nD) : OC F := k0_pay2 (F := F) (astg m g c) (bstg m g c)

/-- and what it ends with. -/
@[irreducible] def result (c : Dev nD) : OC F := O (part m g) 20 c
theorem result_eq (c : Dev nD) : O (part m g) 20 c = result m g c := by unfold result; rfl

def Φ₀ (c : Dev nD) : sProp 𝕄 :=
  iprop((know (part m g) ∗ raw c) ∗ scr c .P .r ∗ scr c .P .l ∗ scr c .Z .r ∗ scr c .Z .l)

def dats (_ : Fin 1) (c : Dev nD) : Dat τ (Elt F) ℕ ℕ UU ℕ cfg0 c where
  A w := (s₀ m g).mem ((cfg0.win w).arr.view.loc (c : Thread nD τ))
  after w _ := match w with
    | ⟨0, _⟩ => astg m g c
    | ⟨1, _⟩ => bstg m g c
    | ⟨2, _⟩ => result m g c
  Φ t := match t with
    | ⟨0, _⟩ => Φ₀ m g c
    | ⟨_ + 1, _⟩ => done c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m g c ∗ (dats m g 0 c).owesAt 0 t0_0.castSucc
    ∗ (∃ d, stg c cc0_stg0_0 ((dats m g 0 c).before (0 : Fin 3) t0_0 d))
    ∗ (∃ d, stg c cc0_stg1_0 ((dats m g 0 c).before (1 : Fin 3) t0_0 d))
    ∗ (∃ d, stg c cc0_stg2_0 ((dats m g 0 c).before (2 : Fin 3) t0_0 d)))
def bodyPost (c : Dev nD) : sProp 𝕄 :=
  iprop(done c ∗ (dats m g 0 c).owesAt 0 t0_0.succ ∗ stg c cc0_stg0_0 (astg m g c) ∗ stg c cc0_stg1_0 (bstg m g c)
    ∗ stg c cc0_stg2_0 (result m g c))

theorem before_a (c : Dev nD) (d : (cfg0.win (0 : Fin 3)).block.Idx → Elt F (cfg0.win (0 : Fin 3)).elt) :
    (dats m g 0 c).before (0 : Fin 3) t0_0 d = astg m g c := by
  unfold Dat.before; rw [if_pos (fetch0_0 t0_0)]; rfl
theorem before_b (c : Dev nD) (d : (cfg0.win (1 : Fin 3)).block.Idx → Elt F (cfg0.win (1 : Fin 3)).elt) :
    (dats m g 0 c).before (1 : Fin 3) t0_0 d = bstg m g c := by
  unfold Dat.before; rw [if_pos (fetch0_1 t0_0)]; rfl

theorem sound_body (c : Dev nD) : bodyPre m g c ⊢ (WP c (bodyAt0 (F := F) t0_0) (fun _ => bodyPost m g c) : sProp 𝕄) := by
  unfold bodyPre Φ₀
  iintro ⟨⟨⟨#Hk, Hr⟩, S1, S2, S3, S4⟩, Ho, ⟨%d0, %f0, %h0, Ha⟩, ⟨%d1, %f1, %h1, Hb⟩, ⟨%d2, %f2, %h2, Hc⟩⟩
  rw [before_a] at h0
  rw [before_b] at h1
  subst h0 h1
  unfold Dat.owesAt Pipeline.owesWithin
  icases Ho with ⟨%W, %hW, HO⟩
  iapply (body_rule (part m g) c (astg m g c) (bstg m g c) rfl fun _ => bodyPost m g c) $$ [Hr S1 S2 S3 S4 HO Ha Hb Hc]
  · isplitr; · iexact Hk
    isplitl [Hr]; · iexact Hr
    isplitl [S1 S2 S3 S4]
    · unfold slots
      isplitl [S1]; · iapply (scr_split c .P .r); iexact S1
      isplitl [S2]; · iapply (scr_split c .P .l); iexact S2
      isplitl [S3]; · iapply (scr_split c .Z .r); iexact S3
      iapply (scr_split c .Z .l); iexact S4
    isplitl [Ha]; · iexact Ha
    isplitl [Hb]; · iexact Hb
    isplitl [Hc]; · iexists f2; iexact Hc
    unfold Ow; iexists W; iexact HO
  iintro ⟨Hd, Ha, Hb, Hc, HO⟩
  unfold bodyPost Dat.owesAt Pipeline.owesWithin Ow
  icases HO with ⟨%W', HO⟩
  isplitl [Hd]; · iexact Hd
  isplitl [HO]
  · iexists W'
    isplitr; · ipureintro; exact fun _ _ => Or.inl trivial
    iexact HO
  isplitl [Ha]; · iexists _; isplitr; · ipureintro; rfl
                  iexact Ha
  isplitl [Hb]; · iexists _; isplitr; · ipureintro; rfl
                  iexact Hb
  iexists _; isplitr; · ipureintro; exact result_eq m g c
  iexact Hc

theorem bigSep_W (Φ : Fin cfg0.W → sProp 𝕄) : bigSep Finset.univ Φ = iprop(Φ (0 : Fin 3) ∗ Φ (1 : Fin 3) ∗ Φ (2 : Fin 3)) := bigSep_W0 Φ

theorem body_is : defs₀ (F := F) Proc.tc 0 (t0_0, cfg0.slots t0_0) = bodyAt0 t0_0 := rfl

set_option maxRecDepth 60000 in
theorem body_obligation (c : Dev nD) : BodyObligation (dats (F := F) m g 0 c) (defs₀ (F := F)) 𝒱₀ 0 Set.univ := fun t => by
  rw [fin_N0 t]
  rw [bigSep_W, bigSep_W]
  simp only [owns_whole_eq]
  rw [body_is]
  rw [show (dats m g 0 c).Φ t0_0.castSucc = Φ₀ m g c from rfl, show (dats m g 0 c).Φ t0_0.succ = done c from rfl,
    show (dats m g 0 c).after 0 t0_0 = astg m g c from rfl, show (dats m g 0 c).after 1 t0_0 = bstg m g c from rfl,
    show (dats m g 0 c).after 2 t0_0 = result m g c from rfl]
  have h := sound_body m g c
  unfold bodyPre bodyPost WP at h
  exact h

theorem share_eq (c : Dev nD) (w : Fin cfg0.W) : (dats m g 0 c).share w = fullShare := by unfold Dat.share; split <;> rfl

/-! ## The side conditions -/

def start (c : Dev nD) : sProp 𝕄 := iprop(know (part m g) ∗ raw c)

theorem start_intro (c : Dev nD) :
    iprop(Pipeline.unscopedRestP Pipeline.Prefetch.none cfg0.spec c (fun b => m ((c : Thread nD τ).loc b)) ∗ levAts L lv
        ∗ Pipeline.launchCred O₀ c ∗ prngReg c (g c) ∗ G' (part m g) c)
      ⊢ |={Set.univ}=> (iprop(start m g c ∗ emp) : sProp 𝕄) := by
  unfold G'
  iintro ⟨-, Hlev, Hcr, -, ⟨Hsl, Hce⟩, Hsh⟩
  imodintro
  isplitl
  · unfold start
    isplitl [Hlev Hsl Hce]
    · unfold know
      isplitl [Hlev]; · iexact Hlev
      isplitl [Hce]; · unfold cellKnow; iexact Hce
      unfold slotKnow; iexact Hsl
    iapply (share_raw c)
    isplitl [Hsh] <;> iassumption
  · iempintro

theorem phi0_intro (c : Dev nD) :
    iprop(start m g c ∗ Pipeline.prefHeld Pipeline.Prefetch.none c (fun _ => fullShare.right) (fun k => k.elim0) ∗ Pipeline.scopedRest cfg0.spec c)
      ⊢ (dats m g 0 c).Φ 0 := by
  rw [show (dats m g 0 c).Φ 0 = Φ₀ m g c from rfl, show cfg0.spec = spec0 from rfl, scopedRest0_eq]
  unfold Φ₀ start scr
  iintro ⟨Hs, -, H1, H2, H3, H4⟩
  isplitl [Hs]; · iexact Hs
  isplitl [H1]; · iexact H1
  isplitl [H2]; · iexact H2
  isplitl [H3]; · iexact H3
  iexact H4

theorem phi1_exit (c : Dev nD) :
    (dats m g 0 c).Φ (Fin.last cfg0.N) ⊢ iprop(unscopedSems0 c ∗ Pipeline.ownSems0 osem c ∗ Pipeline.scopedRest cfg0.spec c) := by
  rw [show (dats m g 0 c).Φ (Fin.last cfg0.N) = done c from rfl, show cfg0.spec = spec0 from rfl, scopedRest0_eq, own_eq, unscoped_eq]
  unfold done laneEnd fourCells laneCells
  iintro ⟨Hb, ⟨A1, A2, A3, A4, A5, A6, A7⟩, ⟨B1, B2, B3, B4, B5, B6, B7⟩, ⟨C1, C2, C3, C4, C5, C6, C7⟩, D1, D2, D3, D4, D5, D6, D7⟩
  ihave A := (scr_join c .P .r) $$ [A6 A7]
  · isplitl [A6] <;> iassumption
  ihave B := (scr_join c .P .l) $$ [B6 B7]
  · isplitl [B6] <;> iassumption
  ihave C := (scr_join c .Z .r) $$ [C6 C7]
  · isplitl [C6] <;> iassumption
  ihave D := (scr_join c .Z .l) $$ [D6 D7]
  · isplitl [D6] <;> iassumption
  unfold scr
  isplitl [Hb]; · iexact Hb
  isplitr [A B C D]
  · isplitl [A1 A2 A3 A4 A5]
    · isplitl [A1]; · iexact A1
      isplitl [A2]; · iexact A2
      isplitl [A3]; · iexact A3
      isplitl [A4] <;> iassumption
    isplitl [B1 B2 B3 B4 B5]
    · isplitl [B1]; · iexact B1
      isplitl [B2]; · iexact B2
      isplitl [B3]; · iexact B3
      isplitl [B4] <;> iassumption
    isplitl [C1 C2 C3 C4 C5]
    · isplitl [C1]; · iexact C1
      isplitl [C2]; · iexact C2
      isplitl [C3]; · iexact C3
      isplitl [C4] <;> iassumption
    isplitl [D1]; · iexact D1
    isplitl [D2]; · iexact D2
    isplitl [D3]; · iexact D3
    isplitl [D4] <;> iassumption
  isplitl [A]; · iexact A
  isplitl [B]; · iexact B
  isplitl [C]; · iexact C
  iexact D

theorem above_O₀ (c : Dev nD) : Above 0 (O₀ c) := by
  have hb (k : ℕ) : Above 0 (barT c k) := Above.tally (by decide) (by rw [lv_bar]; decide)
  exact ((((above_all c).mono (by decide)).add (hb 3)).add (hb 2)).add (hb 1) |>.add (hb 0)

theorem waits (c : Dev nD) : (levAts L lv : sProp 𝕄) ⊢ Pipeline.cellsWaits cfgs (dats m g) 0 0 c :=
  Pipeline.cellsWaits_intro cfgs (dats m g) 0 0 c fun w s t =>
    mayWait (b := 0) (by
      rcases t with ⟨_ | _, ht⟩
      · exact above_O₀ c
      · exact Above.zero 0) c _ 0 (by decide) (by fin_cases w <;> fin_cases s <;> exact Nat.le_of_eq rfl)

/-! ## The run -/

def finalA (c : Dev nD) (w : Fin cfg0.W) : Buf (Elt F) ((cfg0.win w).arr.view.loc (c : Thread nD τ)) := (dats m g 0 c).arrAt w cfg0.N

def QC : PUnit × MemSt nD τ sig (Elt F) → Prop := fun r =>
  ∀ c : Dev nD, ∀ w : Fin cfg0.W, r.2.mem ((cfg0.win w).arr.view.loc (c : Thread nD τ)) = finalA m g c w

theorem sem_zero {s : MemSt nD τ sig (Elt F)} (hs : ∀ g' : GSem nD τ sig, (g'.1.2 ≠ .tc ∨ g'.2.isScoped .tc = true) → s.sem g' = 0)
    (hu : ∀ c : Dev nD, ∀ sm : SemLoc sig, sm.isScoped .tc = false → s.sem ((c : Thread nD τ), sm) = 0) : s.sem = fun _ => 0 := by
  funext ⟨⟨d, κ⟩, sm⟩
  by_cases hκ : κ = .tc
  · subst hκ
    cases h : sm.isScoped .tc with
    | true => exact hs _ (.inr h)
    | false => exact hu d sm h
  · exact hs _ (.inl hκ)

set_option maxRecDepth 60000 in
/-- Every fair execution ends, with every device's operands as before, its result as the steps say, and every counter at zero. -/
theorem run_main : θ_run defs (onTc (τ := τ) (main (F := F))) (s₀ m g) (fun r => QC m g r ∧ r.2.sem = fun _ => 0) :=
  Pipeline.θ_run_region_owing_glob_pf (fun p => (cfgs p).toPCfg) (fun p => (cfgs p).toPCfg_adm) (dats m g) 0 cellOf_inj (0 : Fin 1)
    winFacts0.to₀ ownSemFacts (Pipeline.PreFacts.none _) EP defs₀ 𝒱₀ m g main
    (hmain := fun _ => rfl)
    (hbody := body_obligation m g) (hne := block_pos0) (harr := arr_whole0) (hstage := stage_whole0)
    (hshare := share_eq m g) (hdistinct := winFacts0.arr_inj)
    (O₀ := O₀) (howed₀ := fun _ => rfl) (howedN := fun _ => rfl)
    (L := L) (lv := lv) (hL := L_of_ne) (hwaits := waits m g)
    (G := G (part m g)) (G' := G' (part m g)) (u₀ := u₀)
    (hu₀ := by
      unfold u₀
      iintro Hu
      ihave H := (ownU_pair _ _) $$ Hu
      icases H with ⟨HP, HX⟩
      imod (fund_all (part m g)) $$ HX with HG
      imodintro
      isplitl [HP] <;> iassumption)
    (hglob := glob (part m g))
    (hA := fun _ _ => rfl) (hpf := fun _ k => k.elim0)
    (X := start m g) (Y := fun c => unscopedSems0 c) (Z := fun _ => iprop(emp))
    (hX := start_intro m g) (hin := phi0_intro m g) (hout := phi1_exit m g)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_zero hs fun c => (h c).2.2⟩)

theorem finalA_a (c : Dev nD) : finalA m g c (0 : Fin 3) = (s₀ m g).mem (win0_0.arr.view.loc (c : Thread nD τ)) :=
  (dats (F := F) m g 0 c).arrAt_in (0 : Fin 3) rfl _
theorem finalA_b (c : Dev nD) : finalA m g c (1 : Fin 3) = (s₀ m g).mem (win0_1.arr.view.loc (c : Thread nD τ)) :=
  (dats (F := F) m g 0 c).arrAt_in (1 : Fin 3) rfl _

end Cert.Hier
-- ==== Proof.Frames.lean ====
/-
# The frames

The program as printed and its ideal are one text: the run of the one, at any float values, is the run of the other.
-/
module

public import proofs.«01_k».proof.Proof.Launch
public import proofs.«01_k».proof.Defs
public import proofs.«01_k».proof.Proof.Gen.Kernel

@[expose] public section

noncomputable section

namespace Cert.Hier

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

theorem frame_ideal : Cert.quiescent_KernelIdeal := fun m g _ =>
  (θ_run Cert.KernelIdeal.defs _ _).mono (fun r h => ⟨fun c => ⟨(h.1 c 0).trans (finalA_a m g c), (h.1 c 1).trans (finalA_b m g c)⟩, h.2⟩)
    (run_main (F := Ideal) m g)

theorem frame_any (m : (ℓ : Loc nD τ sig) → Buf (Elt F) ℓ) (g : Dev nD → PrngReg) :
    θ_run (Cert.KernelIdeal.defs (F := F)) (onTc (τ := Cert.KernelIdeal.τ) (Cert.KernelIdeal.main (F := F))) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run Cert.KernelIdeal.defs _ _).mono (fun r h => ⟨fun c => ⟨(h.1 c 0).trans (finalA_a m g c), (h.1 c 1).trans (finalA_b m g c)⟩, h.2⟩)
    (run_main (F := F) m g)

/-- The two programs' body tables, the kernel's first: one label, and on it one function. -/
theorem bodies_same : Cert.Kernel.defs₀ (F := F) = Cert.KernelIdeal.defs₀ := by
  unfold Cert.Kernel.defs₀ Cert.KernelIdeal.defs₀
  refine congrArg _ (funext fun l => funext fun x => ?_)
  match l, x with
  | 0, (t, s) => rfl

theorem defs_same : Cert.Kernel.defs (F := F) = Cert.KernelIdeal.defs := congrArg (Pipeline.defs _) bodies_same

theorem frame_kernel : Cert.quiescent_Kernel := fun m g _ => by
  have h := frame_any (F := Bits) m g
  rw [← defs_same] at h
  exact h

end Cert.Hier
-- ==== Proof.Around.lean ====
/-
# What twenty ring steps add up to

Addition and copying round a ring, over any commutative addition: after a ring's adding steps one device of the ring has
the sum over the ring, after its copying steps all have. Then the two rings together, on one element of the result: the
plane's adding steps, the column's adding and copying steps, the plane's copying steps leave the sum over all the
devices on every device.
-/
module

public import proofs.«01_k».proof.Proof.Rings
public import Mathlib.Algebra.BigOperators.Intervals

@[expose] public section

noncomputable section

namespace Cert.Hier

open Cert.KernelIdeal Cert.KernelIdeal.Gen
open Idealize.ShloMosaic
open Idealize.SL.Sem

section

variable {M : Type} [AddCommMonoid M]

/-! ## One ring -/

section

variable (n : ℕ) (D : Dev nD → Prop) (p : Dev nD → Dev nD) (dist : Dev nD → ℕ)
  (hD : ∀ c, D c → D (p c)) (hp : ∀ c k, D c → dist c = k + 1 → dist (p c) = k)

include hD hp in
/-- After `t` adding steps, a device at distance at most `t` from the block's start has the sum back to the start. -/
theorem around_add (V : ℕ → Dev nD → M)
    (hV : ∀ t < n, ∀ c, D c → V (t + 1) c = if dist c = t + 1 then V t c + V t (p c) else V t c) :
    ∀ t ≤ n, ∀ c, D c → V t c = if dist c ≤ t then ∑ j ∈ Finset.range (dist c + 1), V 0 (p^[j] c) else V 0 c := by
  intro t
  induction t with
  | zero =>
    intro _ c _
    split_ifs with h
    · rw [Nat.le_zero.mp h, Finset.sum_range_one]; rfl
    · rfl
  | succ t ih =>
    intro ht c hc
    rw [hV t (by omega) c hc, ih (by omega) c hc]
    by_cases h : dist c = t + 1
    · have h' := hp c t hc h
      rw [if_pos h, if_neg (by omega), if_pos (by omega), ih (by omega) (p c) (hD c hc), h', if_pos (le_refl t), h,
        Finset.sum_range_succ' _ (t + 1), add_comm]
      rfl
    · rw [if_neg h]
      by_cases h2 : dist c ≤ t
      · rw [if_pos h2, if_pos (by omega)]
      · rw [if_neg h2, if_neg (by omega)]

variable (hp0 : ∀ c, D c → dist c = 0 → dist (p c) = n)

include hD hp hp0 in
/-- After `t` copying steps, a device at distance less than `t` has what the last of the ring had. -/
theorem around_copy (V : ℕ → Dev nD → M) (T : M)
    (hV : ∀ t < n, ∀ c, D c → V (t + 1) c = if dist c = t then V t (p c) else V t c)
    (h0 : ∀ c, D c → dist c = n → V 0 c = T) :
    ∀ t ≤ n, ∀ c, D c → (dist c = n ∨ dist c < t) → V t c = T := by
  intro t
  induction t with
  | zero =>
    intro _ c hc h
    exact h0 c hc (by omega)
  | succ t ih =>
    intro ht c hc h
    rw [hV t (by omega) c hc]
    by_cases h' : dist c = t
    · rw [if_pos h']
      refine ih (by omega) (p c) (hD c hc) ?_
      cases t with
      | zero => exact .inl (hp0 c hc h')
      | succ t => exact .inr (by have := hp c t hc h'; omega)
    · rw [if_neg h']
      exact ih (by omega) c hc (by omega)

end

/-! ## Distances -/

theorem pos_P_lt (st : Dir) (c : Dev nD) : pos .P st c < 8 := by revert c; cases st <;> decide +kernel
theorem pos_Z_lt (st : Dir) (c : Dev nD) : pos .Z st c < 4 := by revert c; cases st <;> decide +kernel
theorem pos_P_prv (st : Dir) (c : Dev nD) : pos .P st (prv .P st c) = (pos .P st c + 7) % 8 := by
  revert c; cases st <;> decide +kernel
theorem pos_Z_prv (st : Dir) (c : Dev nD) : pos .Z st (prv .Z st c) = (pos .Z st c + 3) % 4 := by
  revert c; cases st <;> decide +kernel
theorem pos_P_prvZ (st : Dir) (c : Dev nD) : pos .P st (prv .Z st c) = pos .P st c := by
  revert c; cases st <;> decide +kernel

/-- How far a device stands from the start of a row's block, on its plane's ring; -/
def dP (st : Dir) (x : ℕ) (c : Dev nD) : ℕ := (pos .P st c + 8 - x / 128) % 8
/-- on its column's. -/
def dZ (st : Dir) (x : ℕ) (c : Dev nD) : ℕ := (pos .Z st c + 4 - x % 128 / 32) % 4

/-- A row is in the block received at step `s`. -/
def inBlk (ρ : Ring) (st : Dir) (s : ℕ) (x : ℕ) (c : Dev nD) : Prop :=
  row ρ st (s + 1) c ≤ x ∧ x < row ρ st (s + 1) c + rows ρ

instance (ρ : Ring) (st : Dir) (s : ℕ) (x : ℕ) (c : Dev nD) : Decidable (inBlk ρ st s x c) := by
  unfold inBlk; infer_instance

theorem inBlk_P (st : Dir) (s x : ℕ) (hs : s < 14) (hx : x < 1024) (c : Dev nD) :
    inBlk .P st s x c ↔ dP st x c = (s + 1) % 8 := by
  have h := pos_P_lt st c
  unfold inBlk row dP
  simp only [base, rows, size]
  generalize pos .P st c = p at h ⊢
  omega

theorem inBlk_Z (st : Dir) (s x : ℕ) (hs : s < 6) (hx : x < 1024) (c : Dev nD) :
    inBlk .Z st s x c ↔ dP st x c = 7 ∧ dZ st x c = (s + 1) % 4 := by
  have h := pos_P_lt st c
  have h' := pos_Z_lt st c
  unfold inBlk row dP dZ
  simp only [base, rows, size]
  generalize pos .P st c = p at h ⊢
  generalize pos .Z st c = q at h' ⊢
  omega

theorem dP_lt (st : Dir) (x : ℕ) (c : Dev nD) : dP st x c < 8 := Nat.mod_lt _ (by decide)
theorem dZ_lt (st : Dir) (x : ℕ) (c : Dev nD) : dZ st x c < 4 := Nat.mod_lt _ (by decide)

theorem dP_prv (st : Dir) (x : ℕ) (hx : x < 1024) (c : Dev nD) : dP st x (prv .P st c) = (dP st x c + 7) % 8 := by
  unfold dP; rw [pos_P_prv]; omega
theorem dZ_prv (st : Dir) (x : ℕ) (c : Dev nD) : dZ st x (prv .Z st c) = (dZ st x c + 3) % 4 := by
  unfold dZ; rw [pos_Z_prv]; omega
theorem dP_prvZ (st : Dir) (x : ℕ) (c : Dev nD) : dP st x (prv .Z st c) = dP st x c := by
  unfold dP; rw [pos_P_prvZ]

/-! ## Every device, once -/

/-- The device so many back on the plane's ring of the one so many back on the column's. -/
def back (st : Dir) (c : Dev nD) (q : Fin 4 × Fin 8) : Dev nD := (prv .P st)^[q.2.val] ((prv .Z st)^[q.1.val] c)

theorem back_injective (st : Dir) (c : Dev nD) : Function.Injective (back st c) := by
  have h : ∀ c : Dev nD, ∀ a b : Fin 4 × Fin 8, back st c a = back st c b → a = b := by
    cases st <;> decide +kernel
  exact fun a b e => h c a b e

theorem back_bijective (st : Dir) (c : Dev nD) : Function.Bijective (back st c) :=
  (Fintype.bijective_iff_injective_and_card _).mpr ⟨back_injective st c, rfl⟩

theorem sum_back (st : Dir) (c : Dev nD) (V : Dev nD → M) :
    ∑ j ∈ Finset.range 4, ∑ i ∈ Finset.range 8, V ((prv .P st)^[i] ((prv .Z st)^[j] c)) = ∑ d, V d := by
  rw [← (back_bijective st c).sum_comp V, Fintype.sum_prod_type, Finset.sum_range]
  refine Finset.sum_congr rfl fun j _ => ?_
  rw [Finset.sum_range]
  rfl

/-! ## The two rings together -/

/-- One element's values over time. -/
structure Walk (st : Dir) (x : ℕ) (V : ℕ → Dev nD → M) : Prop where
  addP : ∀ s < 7, ∀ c, V (s + 1) c = if inBlk .P st s x c then V s c + V s (prv .P st c) else V s c
  addZ : ∀ s < 3, ∀ c, V (7 + s + 1) c = if inBlk .Z st s x c then V (7 + s) c + V (7 + s) (prv .Z st c) else V (7 + s) c
  copyZ : ∀ s < 3, ∀ c, V (10 + s + 1) c = if inBlk .Z st (3 + s) x c then V (10 + s) (prv .Z st c) else V (10 + s) c
  copyP : ∀ s < 7, ∀ c, V (13 + s + 1) c = if inBlk .P st (7 + s) x c then V (13 + s) (prv .P st c) else V (13 + s) c

theorem Walk.total {st : Dir} {x : ℕ} (hx : x < 1024) {V : ℕ → Dev nD → M} (h : Walk st x V) (c : Dev nD) :
    V 20 c = ∑ d, V 0 d := by
  have p1 : ∀ c, dP st x c = 7 → V 7 c = ∑ i ∈ Finset.range 8, V 0 ((prv .P st)^[i] c) := by
    intro c hc
    have := around_add (M := M) 7 (fun _ => True) (prv .P st) (dP st x) (fun _ _ => trivial)
      (fun c k _ e => by rw [dP_prv st x hx, e]; have := dP_lt st x c; omega) V
      (fun t ht c _ => by
        rw [h.addP t ht c]
        exact if_congr (by rw [inBlk_P st t x (by omega) hx, Nat.mod_eq_of_lt (by omega)]) rfl rfl)
      7 (le_refl 7) c trivial
    rwa [hc, if_pos (le_refl 7)] at this
  have hDZ : ∀ c, dP st x c = 7 → dP st x (prv .Z st c) = 7 := fun c hc => by rw [dP_prvZ, hc]
  have hpZ : ∀ c k, dP st x c = 7 → dZ st x c = k + 1 → dZ st x (prv .Z st c) = k := fun c k _ e => by
    rw [dZ_prv, e]; have := dZ_lt st x c; omega
  have hDj : ∀ j c, dP st x c = 7 → dP st x ((prv .Z st)^[j] c) = 7 := by
    intro j
    induction j with
    | zero => exact fun c hc => hc
    | succ j ih => exact fun c hc => ih _ (hDZ c hc)
  have z1 : ∀ c, dP st x c = 7 → dZ st x c = 3 → V 10 c = ∑ d, V 0 d := by
    intro c hc hz
    have := around_add (M := M) 3 (fun c => dP st x c = 7) (prv .Z st) (dZ st x) hDZ hpZ (fun t => V (7 + t))
      (fun t ht c hc => by
        rw [show 7 + (t + 1) = 7 + t + 1 from rfl, h.addZ t ht c]
        exact if_congr (by rw [inBlk_Z st t x (by omega) hx, Nat.mod_eq_of_lt (by omega)]; exact and_iff_right hc) rfl rfl)
      3 (le_refl 3) c hc
    rw [hz, if_pos (le_refl 3)] at this
    rw [show V 10 c = V (7 + 3) c from rfl, this, ← sum_back st c]
    exact Finset.sum_congr rfl fun j _ => p1 _ (hDj j c hc)
  have z2 : ∀ c, dP st x c = 7 → V 13 c = ∑ d, V 0 d := by
    intro c hc
    exact around_copy (M := M) 3 (fun c => dP st x c = 7) (prv .Z st) (dZ st x) hDZ hpZ
      (fun c _ e => by rw [dZ_prv, e]) (fun t => V (10 + t)) _
      (fun t ht c hc => by
        rw [show 10 + (t + 1) = 10 + t + 1 from rfl, h.copyZ t ht c]
        exact if_congr (by rw [inBlk_Z st (3 + t) x (by omega) hx]; exact (and_iff_right hc).trans (by omega)) rfl rfl)
      (fun c hc e => z1 c hc e) 3 (le_refl 3) c hc (by have := dZ_lt st x c; omega)
  exact around_copy (M := M) 7 (fun _ => True) (prv .P st) (dP st x) (fun _ _ => trivial)
    (fun c k _ e => by rw [dP_prv st x hx, e]; have := dP_lt st x c; omega)
    (fun c _ e => by rw [dP_prv st x hx, e]) (fun t => V (13 + t)) _
    (fun t ht c _ => by
      rw [show 13 + (t + 1) = 13 + t + 1 from rfl, h.copyP t ht c]
      exact if_congr (by rw [inBlk_P st (7 + t) x (by omega) hx]; omega) rfl rfl)
    (fun c _ e => z2 c e) 7 (le_refl 7) c trivial (by have := dP_lt st x c; omega)

end

end Cert.Hier

end
-- ==== Proof.Total.lean ====
/-
# The result's elements over the twenty steps

At the ideal values, a ring step changes an element of the result only on the devices whose received block it is in, and
there by the element at the same place on the device before. So every element walks as in `Around`, and at the end is
the sum of what it was on every device.
-/
module

public import proofs.«01_k».proof.Proof.Protocol
public import proofs.«01_k».proof.Proof.Around
public import Idealize.ShloMosaic.PureOps.Ideal.Laws

@[expose] public section

noncomputable section

namespace Cert.Hier

open Cert.KernelIdeal Cert.KernelIdeal.Gen
open Idealize.ShloMosaic
open Idealize.ShloMosaic.TcCoe
open Idealize.SL.Sem

variable {F : FTy → Type} [FloatOps F]

theorem put_apply_emb (ρ : Ring) (st : Dir) (s : ℕ) (c : Dev nD) (X : OC F) (w : (SC ρ).Idx → Elt F .f32) (j : (SC ρ).Idx) :
    put ρ st s c X w ((rRect ρ st s c).emb j) = kept ρ st s c X w j :=
  View.write_emb_of_mem (v := (oM.access (rRect ρ st s c))) X (kept ρ st s c X w) (Finset.mem_univ j)

theorem put_apply_off (ρ : Ring) (st : Dir) (s : ℕ) (c : Dev nD) (X : OC F) (w : (SC ρ).Idx → Elt F .f32) (i : S1024x1024.Idx)
    (h : i ∉ (rRect ρ st s c).set) : put ρ st s c X w i = X i := by
  refine View.write_of_not_mem (v := (oM.access (rRect ρ st s c))) X (kept ρ st s c X w) Finset.univ fun hm => h ?_
  have := View.set_slice_whole (κ := .tc) cc0_stg2_0 (rRect ρ st s c)
  rw [← this]
  exact hm

theorem sent_apply (ρ : Ring) (st : Dir) (s : ℕ) (X : OC F) (c : Dev nD) (j : (SC ρ).Idx) :
    sent ρ st s X c j = X ((blkRect ρ (sOff ρ st s c) (sOff_inb ρ st s c)).emb j) := rfl

/-- The two blocks' places are one. -/
theorem emb_prv (ρ : Ring) (st : Dir) (s : ℕ) (hs : s < total ρ) (c : Dev nD) (j : (SC ρ).Idx) :
    (blkRect ρ (sOff ρ st s (prv ρ st c)) (sOff_inb ρ st s (prv ρ st c))).emb j = (rRect ρ st s c).emb j := by
  have h : sOff ρ st s (prv ρ st c) = rOff ρ st s c := by
    unfold sOff rOff
    rw [← row_nxt ρ st s hs (prv ρ st c), nxt_prv]
  funext a
  apply Fin.ext
  rw [Rect.emb_apply, Rect.emb_apply]
  show sOff ρ st s (prv ρ st c) a + 1 * (j a).val = rOff ρ st s c a + 1 * (j a).val
  rw [h]

theorem mem_blk (ρ : Ring) (st : Dir) (s : ℕ) (c : Dev nD) (i : S1024x1024.Idx) :
    i ∈ (rRect ρ st s c).set ↔ inBlk ρ st s (i 0).val c ∧ (col st ≤ (i 1).val ∧ (i 1).val < col st + 512) := by
  refine (Rect.mem_set_unit (s := S1024x1024) (off := rOff ρ st s c) (size := (SC ρ).size)).trans ?_
  exact Fin.forall_fin_two

/-- The side of the result that an element is on. -/
def side (i : S1024x1024.Idx) : Dir := if (i 1).val < 512 then .r else .l

theorem mem_blk_side (ρ : Ring) (st : Dir) (s : ℕ) (c : Dev nD) (i : S1024x1024.Idx) :
    i ∈ (rRect ρ st s c).set ↔ st = side i ∧ inBlk ρ st s (i 0).val c := by
  have h1 : (i 1).val < 1024 := (i 1).isLt
  rw [mem_blk]
  unfold side
  cases st
  · simp only [col]
    split_ifs with h
    · exact ⟨fun ⟨a, _⟩ => ⟨rfl, a⟩, fun ⟨_, a⟩ => ⟨a, Nat.zero_le _, by omega⟩⟩
    · exact ⟨fun ⟨_, _, b⟩ => absurd b (by omega), fun ⟨e, _⟩ => nomatch e⟩
  · simp only [col]
    split_ifs with h
    · exact ⟨fun ⟨_, b, _⟩ => absurd b (by omega), fun ⟨e, _⟩ => nomatch e⟩
    · exact ⟨fun ⟨a, _⟩ => ⟨rfl, a⟩, fun ⟨_, a⟩ => ⟨a, by omega, by omega⟩⟩

section

/-- An element of a device's result, as an extended real. -/
abbrev at' (X : OC Ideal) (i : S1024x1024.Idx) : EReal := X i

theorem kept_add (ρ : Ring) (st : Dir) (s : ℕ) (hs : s < half ρ) (c : Dev nD) (X : OC Ideal)
    (w : (SC ρ).Idx → Elt Ideal .f32) (j : (SC ρ).Idx) :
    (kept ρ st s c X w j : EReal) = at' X ((rRect ρ st s c).emb j) + (show EReal from w j) := by
  unfold kept
  rw [if_pos hs]
  show at' X ((rRect ρ st s c).emb (Shape.reshapeEquiv _ j)) + (show EReal from w j) = _
  rw [Shape.reshapeEquiv_self]

theorem kept_copy (ρ : Ring) (st : Dir) (s : ℕ) (hs : ¬ s < half ρ) (c : Dev nD) (X : OC F)
    (w : (SC ρ).Idx → Elt F .f32) : kept ρ st s c X w = w := by
  unfold kept
  rw [if_neg hs]

/-- One stream's step at an element. -/
theorem put_apply (ρ : Ring) (st : Dir) (s : ℕ) (hs : s < total ρ) (c : Dev nD) (X Y : OC Ideal) (i : S1024x1024.Idx) :
    at' (put ρ st s c X (sent ρ st s Y (prv ρ st c))) i
      = if st = side i ∧ inBlk ρ st s (i 0).val c then (if s < half ρ then at' X i + at' Y i else at' Y i) else at' X i := by
  by_cases h : i ∈ (rRect ρ st s c).set
  · rw [if_pos ((mem_blk_side ρ st s c i).mp h)]
    obtain ⟨j, -, rfl⟩ := Finset.mem_map.mp (show i ∈ Finset.univ.map (rRect ρ st s c).emb by rw [Rect.map_emb_univ]; exact h)
    unfold at'
    rw [put_apply_emb]
    split_ifs with hh
    · rw [kept_add ρ st s hh, sent_apply, emb_prv ρ st s hs]
    · rw [kept_copy ρ st s hh, sent_apply, emb_prv ρ st s hs]
  · rw [if_neg (fun h' => h ((mem_blk_side ρ st s c i).mpr h'))]
    exact put_apply_off ρ st s c X _ i h

/-- One ring step at an element. -/
theorem stepO_apply (ρ : Ring) (s : ℕ) (hs : s < total ρ) (X : Dev nD → OC Ideal) (c : Dev nD) (i : S1024x1024.Idx) :
    at' (stepO ρ s X c) i
      = if inBlk ρ (side i) s (i 0).val c then
          (if s < half ρ then at' (X c) i + at' (X (prv ρ (side i) c)) i else at' (X (prv ρ (side i) c)) i)
        else at' (X c) i := by
  unfold stepO
  rw [put_apply ρ .l s hs, put_apply ρ .r s hs]
  generalize side i = d
  cases d
  · rw [if_neg (fun h => nomatch h.1)]
    exact if_congr (and_iff_right rfl) rfl rfl
  · rw [if_neg (fun h : Dir.r = Dir.l ∧ _ => nomatch h.1)]
    exact if_congr (and_iff_right rfl) rfl rfl

theorem O_apply (X₀ : Dev nD → OC Ideal) (ρ : Ring) (s t : ℕ) (hs : s < total ρ) (ht : t = time ρ s) (c : Dev nD)
    (i : S1024x1024.Idx) :
    at' (O X₀ (t + 1) c) i
      = if inBlk ρ (side i) s (i 0).val c then
          (if s < half ρ then at' (O X₀ t c) i + at' (O X₀ t (prv ρ (side i) c)) i else at' (O X₀ t (prv ρ (side i) c)) i)
        else at' (O X₀ t c) i := by
  subst ht
  rw [O_step X₀ ρ s hs, stepO_apply ρ s hs]

theorem walk (X₀ : Dev nD → OC Ideal) (i : S1024x1024.Idx) : Walk (side i) (i 0).val fun t c => at' (O X₀ t c) i where
  addP s hs c := by
    have := O_apply X₀ .P s s (show s < 14 by omega) (by show s = if s < 7 then s else s + 6; rw [if_pos hs]) c i
    rwa [if_pos (show s < half .P from hs)] at this
  addZ s hs c := by
    have := O_apply X₀ .Z s (7 + s) (show s < 6 by omega) rfl c i
    rwa [if_pos (show s < half .Z from hs)] at this
  copyZ s hs c := by
    have := O_apply X₀ .Z (3 + s) (10 + s) (show 3 + s < 6 by omega) (by unfold time; simp only; omega) c i
    rwa [if_neg (show ¬ 3 + s < half .Z by show ¬ 3 + s < 3; omega)] at this
  copyP s hs c := by
    have := O_apply X₀ .P (7 + s) (13 + s) (show 7 + s < 14 by omega) (by show 13 + s = if 7 + s < 7 then 7 + s else 7 + s + 6; rw [if_neg (by omega)]; omega) c i
    rwa [if_neg (show ¬ 7 + s < half .P by show ¬ 7 + s < 7; omega)] at this

/-- After the twenty steps every device has the sum over all. -/
theorem O_total (X₀ : Dev nD → OC Ideal) (c : Dev nD) (i : S1024x1024.Idx) :
    at' (O X₀ 20 c) i = ∑ d, at' (X₀ d) i :=
  (walk X₀ i).total (i 0).isLt c

end

end Cert.Hier

end
-- ==== Proof.Value.lean ====
/-
# The result's value

Every device ends with the sum of the devices' products, which is the product of the whole arrays: device `d` has columns
`512 d … 512 d + 511` of the left array and the same rows of the right one, and the contraction's 16384 terms are the
32 devices' 512 each.
-/
module

public import proofs.«01_k».proof.Proof.Launch
public import proofs.«01_k».proof.Proof.Total
public import proofs.«01_k».proof.Proof.Gen.ReferenceIdeal.Read
public import Idealize.ShloMosaic.Lib.Layout
public import Idealize.ShloMosaic.Lib.Pipeline.ValueKit

@[expose] public section

noncomputable section

namespace Cert.Hier

open Cert.KernelIdeal Cert.KernelIdeal.Gen
open Idealize.ShloMosaic
open Idealize.ShloMosaic.TcCoe
open Idealize.SL.Sem

variable {F : FTy → Type} [FloatOps F]

section

variable (m : (ℓ : Loc nD τ sig) → Buf (Elt F) ℓ) (g : Dev nD → PrngReg)

/-! ## The staged operands and the array written back -/

theorem whole_a (b : S1024x512.Idx) : (win0_0.blk (0 : Fin 1)).view.emb b = b := by
  funext a
  apply Fin.ext
  exact Pipeline.Window.rect_emb_val_of_index_zero win0_0 (0 : Fin 1) a rfl b

theorem whole_b (b : S512x1024.Idx) : (win0_1.blk (0 : Fin 1)).view.emb b = b := by
  funext a
  apply Fin.ext
  exact Pipeline.Window.rect_emb_val_of_index_zero win0_1 (0 : Fin 1) a rfl b

theorem astg_eq (c : Dev nD) (b : S1024x512.Idx) : astg m g c b = m ((c : Thread nD τ).loc main_arg0) b :=
  congrArg (m ((c : Thread nD τ).loc main_arg0)) (whole_a b)
theorem bstg_eq (c : Dev nD) (b : S512x1024.Idx) : bstg m g c b = m ((c : Thread nD τ).loc main_arg1) b :=
  congrArg (m ((c : Thread nD τ).loc main_arg1)) (whole_b b)

theorem whole_out : (cfg0.win (2 : Fin 3)).WholeAt (t0_0 : Fin cfg0.N) := by decide +kernel

theorem finalA_out (c : Dev nD) : finalA m g c (2 : Fin 3) = result m g c := by
  refine (dats m g 0 c).arrAt_eq_of_after_last (2 : Fin 3) t0_0 whole_out (result m g c) fun j => ?_
  rfl

end

/-! ## A device's own product, at an element -/

abbrev dotK := dot_S1024x512_S512x1024_S1024x1024_1_0_0_1_n_n

theorem lhsK_0 (i : S1024x1024.Idx) (q : dotK.contr.Idx) : (dotK.lhsIdx i q 0).val = (i 0).val := by
  unfold DotDims.lhsIdx
  rw [dif_neg (show ¬(0 : Fin S1024x512.rank) ∈ dotK.lhsBatch by decide),
    dif_pos (show (0 : Fin S1024x512.rank) ∈ dotK.lhsNonContracting by decide)]
  rfl
theorem lhsK_1 (i : S1024x1024.Idx) (q : dotK.contr.Idx) : (dotK.lhsIdx i q 1).val = (q ⟨0, by decide⟩).val :=
  dotK.lhsIdx_val_of_single rfl i q
theorem rhsK_0 (i : S1024x1024.Idx) (q : dotK.contr.Idx) : (dotK.rhsIdx i q 0).val = (q ⟨0, by decide⟩).val :=
  dotK.rhsIdx_val_of_single rfl i q
theorem rhsK_1 (i : S1024x1024.Idx) (q : dotK.contr.Idx) : (dotK.rhsIdx i q 1).val = (i 1).val := by
  unfold DotDims.rhsIdx
  rw [dif_neg (show ¬(1 : Fin S512x1024.rank) ∈ dotK.rhsBatch by decide),
    dif_pos (show (1 : Fin S512x1024.rank) ∈ dotK.rhsNonContracting by decide)]
  rfl

/-- The left operand's element at an output element and a contraction coordinate; -/
abbrev lix (i : S1024x1024.Idx) (k : Fin 512) : S1024x512.Idx := fun a => match a with
  | ⟨0, _⟩ => ⟨(i 0).val, (i 0).isLt⟩
  | ⟨1, _⟩ => ⟨k.val, k.isLt⟩
/-- the right operand's. -/
abbrev rix (i : S1024x1024.Idx) (k : Fin 512) : S512x1024.Idx := fun a => match a with
  | ⟨0, _⟩ => ⟨k.val, k.isLt⟩
  | ⟨1, _⟩ => ⟨(i 1).val, (i 1).isLt⟩

theorem pay_apply (a : FVec Ideal S1024x512 .f32) (b : FVec Ideal S512x1024 .f32) (i : S1024x1024.Idx) :
    (k0_pay2 (F := Ideal) a b i : EReal) = ∑ k : Fin 512, (a (lix i k) : EReal) * (b (rix i k) : EReal) := by
  have e1 : shapeCast S1024x512 a shapeCasts_S1024x512_S1024x512 = a := funext fun j => congrArg a (Shape.reshapeEquiv_self _ j)
  have e2 : shapeCast S512x1024 b shapeCasts_S512x1024_S512x1024 = b := funext fun j => congrArg b (Shape.reshapeEquiv_self _ j)
  unfold k0_pay2
  simp only [matmul]
  rw [e1, e2, Ideal.matmul_constant_zero_apply, ← Equiv.sum_comp (ValueIdx.contrEquiv1 dotK 512 rfl rfl).symm]
  refine Finset.sum_congr rfl fun k _ => ?_
  have hk := ValueIdx.contrEquiv1_symm_val dotK 512 rfl rfl k
  have el : dotK.lhsIdx i ((ValueIdx.contrEquiv1 dotK 512 rfl rfl).symm k) = lix i k := funext fun a => Fin.ext (by
    match a with
    | ⟨0, _⟩ => exact lhsK_0 _ _
    | ⟨1, _⟩ => exact (lhsK_1 _ _).trans hk)
  have er : dotK.rhsIdx i ((ValueIdx.contrEquiv1 dotK 512 rfl rfl).symm k) = rix i k := funext fun a => Fin.ext (by
    match a with
    | ⟨0, _⟩ => exact (rhsK_0 _ _).trans hk
    | ⟨1, _⟩ => exact rhsK_1 _ _)
  rw [el, er]

/-! ## The devices' products together -/

theorem con_lt (d : Fin 32) (k : Fin 512) : d.val * 512 + k.val < 16384 := by omega

/-- A sum over the contraction, device by device. -/
theorem sum_devices (f : Fin 16384 → EReal) :
    ∑ k : Fin 16384, f k = ∑ d : Fin 32, ∑ k : Fin 512, f ⟨d.val * 512 + k.val, con_lt d k⟩ := by
  rw [← Fintype.sum_prod_type' (f := fun (d : Fin 32) (k : Fin 512) => f ⟨d.val * 512 + k.val, con_lt d k⟩)]
  refine (Fintype.sum_equiv (finProdFinEquiv : Fin 32 × Fin 512 ≃ Fin (32 * 512)) _ f fun q => ?_).symm
  refine congrArg f (Fin.ext ?_)
  show q.1.val * 512 + q.2.val = q.2.val + 512 * q.1.val
  omega

/-- The arrays' cuts over the devices. -/
theorem tiles_a : Layout.Tiles ⟨2, ![1024, 512]⟩ ⟨2, ![1024, 16384]⟩ 1 32 := by decide
theorem tiles_b : Layout.Tiles ⟨2, ![512, 1024]⟩ ⟨2, ![16384, 1024]⟩ 0 32 := by decide

section

variable (m : (ℓ : Loc nD τ sig) → Buf (Elt Ideal) ℓ) (g : Dev nD → PrngReg)
  (A : Cert.ReferenceIdeal.S1024x16384.Idx → Elt Ideal .f32) (B : Cert.ReferenceIdeal.S16384x1024.Idx → Elt Ideal .f32)
  (hA : ∀ c : Dev nD, m ((c : Thread nD τ).loc main_arg0) = Layout.block ⟨2, ![1024, 512]⟩ ⟨2, ![1024, 16384]⟩ 1 32 c A tiles_a)
  (hB : ∀ c : Dev nD, m ((c : Thread nD τ).loc main_arg1) = Layout.block ⟨2, ![512, 1024]⟩ ⟨2, ![16384, 1024]⟩ 0 32 c B tiles_b)

include hA in
theorem left_elt (d : Dev nD) (i : S1024x1024.Idx) (k : Fin 512) :
    astg m g d (lix i k) = A (Cert.ReferenceIdeal.Read.lidx_main_v0 i ⟨d.val * 512 + k.val, con_lt d k⟩) := by
  rw [astg_eq, hA d, Layout.block_apply]
  refine congrArg A (funext fun a => Fin.ext ?_)
  match a with
  | ⟨0, _⟩ => rfl
  | ⟨1, _⟩ => rfl

include hB in
theorem right_elt (d : Dev nD) (i : S1024x1024.Idx) (k : Fin 512) :
    bstg m g d (rix i k) = B (Cert.ReferenceIdeal.Read.ridx_main_v0 i ⟨d.val * 512 + k.val, con_lt d k⟩) := by
  rw [bstg_eq, hB d, Layout.block_apply]
  refine congrArg B (funext fun a => Fin.ext ?_)
  match a with
  | ⟨0, _⟩ => rfl
  | ⟨1, _⟩ => rfl

include hA hB in
/-- What every device ends with is the reference's product. -/
theorem result_value (c : Dev nD) : result m g c = Cert.ReferenceIdeal.Read.val_main_v0 (F := Ideal) A B := by
  funext i
  rw [← result_eq m g c]
  refine (O_total (part m g) c i).trans ?_
  refine Eq.trans ?_ (Cert.ReferenceIdeal.Read.val_main_v0_apply A B i).symm
  rw [sum_devices]
  refine Finset.sum_congr rfl fun d _ => ?_
  refine (pay_apply (astg m g d) (bstg m g d) i).trans (Finset.sum_congr rfl fun k _ => ?_)
  rw [left_elt m g A hA d i k, right_elt m g B hB d i k]

end

end Cert.Hier

end
-- ==== Proof.lean ====
module

public import proofs.«01_k».proof.Proof.Frames
public import proofs.«01_k».proof.Proof.Gen.ReferenceIdeal.Run
public import proofs.«01_k».proof.Proof.Gen.ReferenceIdeal.Read
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The reference has no semaphores, and its run leaves its arguments. -/
theorem frame_reference : Cert.quiescent_ReferenceIdeal := fun m g _ =>
  (θ_run Cert.ReferenceIdeal.defs _ _).mono (fun r h => ⟨fun c => (h c).2, sem_eq_zero_of_no_sems rfl r.2⟩)
    (Cert.ReferenceIdeal.Value.run (F := Ideal) m g)

/-- Every device of the kernel ends with the reference's product of the whole arrays. -/
theorem algebraic : Cert.algebraic_KernelIdeal_ReferenceIdeal := fun m g m' g' _ hin =>
  ⟨Cert.ReferenceIdeal.Read.val_main_v0 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun r h c =>
        ⟨((h.1 c 2).trans (Cert.Hier.finalA_out m g c)).trans
            (Cert.Hier.result_value m g _ _ (fun c => (hin c).1) (fun c => (hin c).2) c),
          (h.1 c 0).trans (Cert.Hier.finalA_a m g c), (h.1 c 1).trans (Cert.Hier.finalA_b m g c)⟩)
      (Cert.Hier.run_main (F := Ideal) m g),
    (θ_run Cert.ReferenceIdeal.defs _ _).mono (fun r h => h 0) (Cert.ReferenceIdeal.Value.run (F := Ideal) m' g')⟩

theorem claim : Cert.Claim := ⟨Cert.Kernel.Gen.facts, Cert.KernelIdeal.Gen.facts, Cert.ReferenceIdeal.Gen.facts,
  Cert.Hier.frame_kernel, Cert.Hier.frame_ideal, frame_reference, trivial, algebraic⟩

end Cert.Proof

end
